-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def preserves_Kernel_KernelIdeal : Prop :=
  True

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v183)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v183) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v22) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_gains : Cert.Pre_finite_gains.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_gains.lean ====
abbrev S4x4096x13824 : Shape := ⟨3, ![4, 4096, 13824]⟩
abbrev S4x256x13824 : Shape := ⟨3, ![4, 256, 13824]⟩
abbrev S12x15x31 : Shape := ⟨3, ![12, 15, 31]⟩
abbrev S128 : Shape := ⟨1, ![128]⟩
abbrev S_ : Shape := ⟨0, ![]⟩

class Facts : Prop where
  bcast_S_S12x15x31 : S_.BroadcastsInDim S12x15x31 (![] : Fin 0 → Fin S12x15x31.rank)
  reducesTo_S12x15x31_S_d0_1_2 : S12x15x31.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S4x4096x13824 .f32) (main_arg1 : FVec F S4x256x13824 .f32) (main_arg2 : FVec F S12x15x31 .f32) (main_arg3 : FVec F S128 .f32) (main_arg4 : FVec F S128 .f32) : IVec S_ 1 :=
  let main_v0 : FVec F S12x15x31 .f32 := Host.absf main_arg2
  let main_cst : FVec F S_ .f32 := constant S_ .f32 0x7F800000#32
  let main_v1 : FVec F S12x15x31 .f32 := broadcastInDim S12x15x31 ![] bcast_S_S12x15x31 main_cst
  let main_v2 : IVec S12x15x31 1 := cmpf .olt main_v0 main_v1
  let main_c : IVec S_ 1 := constantI S_ 1 1#1
  let main_v3 : IVec S_ 1 := (fun x v => Host.reduce IntOp.andi x v reducesTo_S12x15x31_S_d0_1_2 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S4x4096x13824 : Shape := ⟨3, ![4, 4096, 13824]⟩
abbrev S4x256x13824 : Shape := ⟨3, ![4, 256, 13824]⟩
abbrev S12x15x31 : Shape := ⟨3, ![12, 15, 31]⟩
abbrev S128 : Shape := ⟨1, ![128]⟩
abbrev S1x128 : Shape := ⟨2, ![1, 128]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x1x64x64 : Shape := ⟨4, ![1, 1, 64, 64]⟩
abbrev S64x64x1 : Shape := ⟨3, ![64, 64, 1]⟩
abbrev S12x15x64x64 : Shape := ⟨4, ![12, 15, 64, 64]⟩
abbrev S12x1x64x64 : Shape := ⟨4, ![12, 1, 64, 64]⟩
abbrev S12x64x64 : Shape := ⟨3, ![12, 64, 64]⟩
abbrev S12x64x512 : Shape := ⟨3, ![12, 64, 512]⟩
abbrev S12x1x64x512 : Shape := ⟨4, ![12, 1, 64, 512]⟩
abbrev S12x8x64x512 : Shape := ⟨4, ![12, 8, 64, 512]⟩
abbrev S4x4096x1536 : Shape := ⟨3, ![4, 4096, 1536]⟩
abbrev S1x4096x128 : Shape := ⟨3, ![1, 4096, 128]⟩
abbrev S1x256x128 : Shape := ⟨3, ![1, 256, 128]⟩
abbrev S1x8x64x512 : Shape := ⟨4, ![1, 8, 64, 512]⟩
abbrev S4096x128 : Shape := ⟨2, ![4096, 128]⟩
abbrev S256x128 : Shape := ⟨2, ![256, 128]⟩
abbrev S256 : Shape := ⟨1, ![256]⟩
abbrev S256x1 : Shape := ⟨2, ![256, 1]⟩
abbrev S4096 : Shape := ⟨1, ![4096]⟩
abbrev S4096x1 : Shape := ⟨2, ![4096, 1]⟩
abbrev S1x64x128 : Shape := ⟨3, ![1, 64, 128]⟩
abbrev S64x128 : Shape := ⟨2, ![64, 128]⟩
abbrev S64x256 : Shape := ⟨2, ![64, 256]⟩
abbrev S512x128 : Shape := ⟨2, ![512, 128]⟩
abbrev S64x512 : Shape := ⟨2, ![64, 512]⟩
abbrev S1x1x64x512 : Shape := ⟨4, ![1, 1, 64, 512]⟩

abbrev nBuf : Space → Nat
  | .hbm => 213
  | .vmem => 20
  | .smem => 0
  | _ => 0

abbrev hbmTy0_0 (i : Nat) : BufTy := match i % 128 with
  | 0 => ⟨S4x4096x13824, .f32⟩
  | 1 => ⟨S4x256x13824, .f32⟩
  | 2 => ⟨S12x15x31, .f32⟩
  | 3 => ⟨S128, .f32⟩
  | 4 => ⟨S128, .f32⟩
  | 5 => ⟨S1x128, .f32⟩
  | 6 => ⟨S1x128, .f32⟩
  | 7 => ⟨S64, .i32⟩
  | 8 => ⟨S_, .i32⟩
  | 9 => ⟨S64, .i32⟩
  | 10 => ⟨S64, .i32⟩
  | 11 => ⟨S_, .i32⟩
  | 12 => ⟨S_, .i32⟩
  | 13 => ⟨S_, .i32⟩
  | 14 => ⟨S64, .i32⟩
  | 15 => ⟨S64, .i32⟩
  | 16 => ⟨S_, .i32⟩
  | 17 => ⟨S64, .i32⟩
  | 18 => ⟨S64, .i32⟩
  | 19 => ⟨S1x64, .i32⟩
  | 20 => ⟨S64x1, .i32⟩
  | 21 => ⟨S64x64, .i32⟩
  | 22 => ⟨S64x64, .i32⟩
  | 23 => ⟨S64x64, .i1⟩
  | 24 => ⟨S1x64, .i32⟩
  | 25 => ⟨S64x1, .i32⟩
  | 26 => ⟨S_, .i32⟩
  | 27 => ⟨S64x1, .i32⟩
  | 28 => ⟨S64x1, .i32⟩
  | 29 => ⟨S64x64, .i32⟩
  | 30 => ⟨S64x64, .i32⟩
  | 31 => ⟨S64x64, .i1⟩
  | 32 => ⟨S64x64, .i1⟩
  | 33 => ⟨S1x64, .i32⟩
  | 34 => ⟨S64x1, .i32⟩
  | 35 => ⟨S64x64, .i32⟩
  | 36 => ⟨S64x64, .i32⟩
  | 37 => ⟨S64x64, .i32⟩
  | 38 => ⟨S_, .i32⟩
  | 39 => ⟨S64x64, .i32⟩
  | 40 => ⟨S64x64, .i32⟩
  | 41 => ⟨S_, .i32⟩
  | 42 => ⟨S64x64, .i32⟩
  | 43 => ⟨S64x64, .i32⟩
  | 44 => ⟨S_, .i32⟩
  | 45 => ⟨S_, .i32⟩
  | 46 => ⟨S_, .i32⟩
  | 47 => ⟨S64x64, .i32⟩
  | 48 => ⟨S64x64, .i32⟩
  | 49 => ⟨S_, .i32⟩
  | 50 => ⟨S64x64, .i32⟩
  | 51 => ⟨S64x64, .i32⟩
  | 52 => ⟨S1x1x64x64, .i1⟩
  | 53 => ⟨S_, .i32⟩
  | 54 => ⟨S64x64, .i32⟩
  | 55 => ⟨S64x64, .i1⟩
  | 56 => ⟨S_, .i32⟩
  | 57 => ⟨S64x64, .i32⟩
  | 58 => ⟨S64x64, .i32⟩
  | 59 => ⟨S64x64, .i32⟩
  | 60 => ⟨S64x64x1, .i32⟩
  | 61 => ⟨S12x15x64x64, .f32⟩
  | 62 => ⟨S_, .f32⟩
  | 63 => ⟨S_, .f32⟩
  | 64 => ⟨S12x15x64x64, .i1⟩
  | 65 => ⟨S12x15x64x64, .f32⟩
  | 66 => ⟨S12x15x64x64, .f32⟩
  | 67 => ⟨S12x1x64x64, .f32⟩
  | 68 => ⟨S12x64x64, .f32⟩
  | 69 => ⟨S12x1x64x64, .f32⟩
  | 70 => ⟨S12x64x64, .f32⟩
  | 71 => ⟨S12x1x64x64, .f32⟩
  | 72 => ⟨S12x64x64, .f32⟩
  | 73 => ⟨S12x1x64x64, .f32⟩
  | 74 => ⟨S12x64x64, .f32⟩
  | 75 => ⟨S12x1x64x64, .f32⟩
  | 76 => ⟨S12x64x64, .f32⟩
  | 77 => ⟨S12x1x64x64, .f32⟩
  | 78 => ⟨S12x64x64, .f32⟩
  | 79 => ⟨S12x1x64x64, .f32⟩
  | 80 => ⟨S12x64x64, .f32⟩
  | 81 => ⟨S12x1x64x64, .f32⟩
  | 82 => ⟨S12x64x64, .f32⟩
  | 83 => ⟨S12x64x512, .f32⟩
  | 84 => ⟨S12x1x64x64, .f32⟩
  | 85 => ⟨S12x64x64, .f32⟩
  | 86 => ⟨S12x1x64x64, .f32⟩
  | 87 => ⟨S12x64x64, .f32⟩
  | 88 => ⟨S12x1x64x64, .f32⟩
  | 89 => ⟨S12x64x64, .f32⟩
  | 90 => ⟨S12x1x64x64, .f32⟩
  | 91 => ⟨S12x64x64, .f32⟩
  | 92 => ⟨S12x1x64x64, .f32⟩
  | 93 => ⟨S12x64x64, .f32⟩
  | 94 => ⟨S12x1x64x64, .f32⟩
  | 95 => ⟨S12x64x64, .f32⟩
  | 96 => ⟨S12x1x64x64, .f32⟩
  | 97 => ⟨S12x64x64, .f32⟩
  | 98 => ⟨S12x1x64x64, .f32⟩
  | 99 => ⟨S12x64x64, .f32⟩
  | 100 => ⟨S12x64x512, .f32⟩
  | 101 => ⟨S12x1x64x64, .f32⟩
  | 102 => ⟨S12x64x64, .f32⟩
  | 103 => ⟨S12x1x64x64, .f32⟩
  | 104 => ⟨S12x64x64, .f32⟩
  | 105 => ⟨S12x1x64x64, .f32⟩
  | 106 => ⟨S12x64x64, .f32⟩
  | 107 => ⟨S12x1x64x64, .f32⟩
  | 108 => ⟨S12x64x64, .f32⟩
  | 109 => ⟨S12x1x64x64, .f32⟩
  | 110 => ⟨S12x64x64, .f32⟩
  | 111 => ⟨S12x1x64x64, .f32⟩
  | 112 => ⟨S12x64x64, .f32⟩
  | 113 => ⟨S12x1x64x64, .f32⟩
  | 114 => ⟨S12x64x64, .f32⟩
  | 115 => ⟨S12x1x64x64, .f32⟩
  | 116 => ⟨S12x64x64, .f32⟩
  | 117 => ⟨S12x64x512, .f32⟩
  | 118 => ⟨S12x1x64x64, .f32⟩
  | 119 => ⟨S12x64x64, .f32⟩
  | 120 => ⟨S12x1x64x64, .f32⟩
  | 121 => ⟨S12x64x64, .f32⟩
  | 122 => ⟨S12x1x64x64, .f32⟩
  | 123 => ⟨S12x64x64, .f32⟩
  | 124 => ⟨S12x1x64x64, .f32⟩
  | 125 => ⟨S12x64x64, .f32⟩
  | 126 => ⟨S12x1x64x64, .f32⟩
  | 127 => ⟨S12x64x64, .f32⟩
  | _ => ⟨S4x4096x13824, .f32⟩

abbrev hbmTy0_1 (i : Nat) : BufTy := match i % 128 with
  | 0 => ⟨S12x1x64x64, .f32⟩
  | 1 => ⟨S12x64x64, .f32⟩
  | 2 => ⟨S12x1x64x64, .f32⟩
  | 3 => ⟨S12x64x64, .f32⟩
  | 4 => ⟨S12x1x64x64, .f32⟩
  | 5 => ⟨S12x64x64, .f32⟩
  | 6 => ⟨S12x64x512, .f32⟩
  | 7 => ⟨S12x1x64x64, .f32⟩
  | 8 => ⟨S12x64x64, .f32⟩
  | 9 => ⟨S12x1x64x64, .f32⟩
  | 10 => ⟨S12x64x64, .f32⟩
  | 11 => ⟨S12x1x64x64, .f32⟩
  | 12 => ⟨S12x64x64, .f32⟩
  | 13 => ⟨S12x1x64x64, .f32⟩
  | 14 => ⟨S12x64x64, .f32⟩
  | 15 => ⟨S12x1x64x64, .f32⟩
  | 16 => ⟨S12x64x64, .f32⟩
  | 17 => ⟨S12x1x64x64, .f32⟩
  | 18 => ⟨S12x64x64, .f32⟩
  | 19 => ⟨S12x1x64x64, .f32⟩
  | 20 => ⟨S12x64x64, .f32⟩
  | 21 => ⟨S12x1x64x64, .f32⟩
  | 22 => ⟨S12x64x64, .f32⟩
  | 23 => ⟨S12x64x512, .f32⟩
  | 24 => ⟨S12x1x64x64, .f32⟩
  | 25 => ⟨S12x64x64, .f32⟩
  | 26 => ⟨S12x1x64x64, .f32⟩
  | 27 => ⟨S12x64x64, .f32⟩
  | 28 => ⟨S12x1x64x64, .f32⟩
  | 29 => ⟨S12x64x64, .f32⟩
  | 30 => ⟨S12x1x64x64, .f32⟩
  | 31 => ⟨S12x64x64, .f32⟩
  | 32 => ⟨S12x1x64x64, .f32⟩
  | 33 => ⟨S12x64x64, .f32⟩
  | 34 => ⟨S12x1x64x64, .f32⟩
  | 35 => ⟨S12x64x64, .f32⟩
  | 36 => ⟨S12x1x64x64, .f32⟩
  | 37 => ⟨S12x64x64, .f32⟩
  | 38 => ⟨S12x1x64x64, .f32⟩
  | 39 => ⟨S12x64x64, .f32⟩
  | 40 => ⟨S12x64x512, .f32⟩
  | 41 => ⟨S12x1x64x64, .f32⟩
  | 42 => ⟨S12x64x64, .f32⟩
  | 43 => ⟨S12x1x64x64, .f32⟩
  | 44 => ⟨S12x64x64, .f32⟩
  | 45 => ⟨S12x1x64x64, .f32⟩
  | 46 => ⟨S12x64x64, .f32⟩
  | 47 => ⟨S12x1x64x64, .f32⟩
  | 48 => ⟨S12x64x64, .f32⟩
  | 49 => ⟨S12x1x64x64, .f32⟩
  | 50 => ⟨S12x64x64, .f32⟩
  | 51 => ⟨S12x1x64x64, .f32⟩
  | 52 => ⟨S12x64x64, .f32⟩
  | 53 => ⟨S12x1x64x64, .f32⟩
  | 54 => ⟨S12x64x64, .f32⟩
  | 55 => ⟨S12x1x64x64, .f32⟩
  | 56 => ⟨S12x64x64, .f32⟩
  | 57 => ⟨S12x64x512, .f32⟩
  | 58 => ⟨S12x1x64x64, .f32⟩
  | 59 => ⟨S12x64x64, .f32⟩
  | 60 => ⟨S12x1x64x64, .f32⟩
  | 61 => ⟨S12x64x64, .f32⟩
  | 62 => ⟨S12x1x64x64, .f32⟩
  | 63 => ⟨S12x64x64, .f32⟩
  | 64 => ⟨S12x1x64x64, .f32⟩
  | 65 => ⟨S12x64x64, .f32⟩
  | 66 => ⟨S12x1x64x64, .f32⟩
  | 67 => ⟨S12x64x64, .f32⟩
  | 68 => ⟨S12x1x64x64, .f32⟩
  | 69 => ⟨S12x64x64, .f32⟩
  | 70 => ⟨S12x1x64x64, .f32⟩
  | 71 => ⟨S12x64x64, .f32⟩
  | 72 => ⟨S12x1x64x64, .f32⟩
  | 73 => ⟨S12x64x64, .f32⟩
  | 74 => ⟨S12x64x512, .f32⟩
  | 75 => ⟨S12x1x64x512, .f32⟩
  | 76 => ⟨S12x1x64x512, .f32⟩
  | 77 => ⟨S12x1x64x512, .f32⟩
  | 78 => ⟨S12x1x64x512, .f32⟩
  | 79 => ⟨S12x1x64x512, .f32⟩
  | 80 => ⟨S12x1x64x512, .f32⟩
  | 81 => ⟨S12x1x64x512, .f32⟩
  | 82 => ⟨S12x1x64x512, .f32⟩
  | 83 => ⟨S12x8x64x512, .f32⟩
  | 84 => ⟨S4x4096x1536, .bf16⟩
  | _ => ⟨S4x4096x13824, .f32⟩

abbrev hbmTy (i : Nat) : BufTy := match i / 128 with
  | 0 => hbmTy0_0 i
  | 1 => hbmTy0_1 i
  | _ => ⟨S4x4096x13824, .f32⟩

abbrev bufTy : (tb : Table) → Fin (tcTables nBuf tb) → BufTy
  | .hbm, ⟨i, _⟩ => hbmTy i
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x8x64x512, .f32⟩
  | .local _ .vmem, ⟨11, _⟩ => ⟨S1x8x64x512, .f32⟩
  | .local _ .vmem, ⟨12, _⟩ => ⟨S1x128, .f32⟩
  | .local _ .vmem, ⟨13, _⟩ => ⟨S1x128, .f32⟩
  | .local _ .vmem, ⟨14, _⟩ => ⟨S1x4096x128, .bf16⟩
  | .local _ .vmem, ⟨15, _⟩ => ⟨S1x4096x128, .bf16⟩
  | .local _ .vmem, ⟨16, _⟩ => ⟨S4096x128, .bf16⟩
  | .local _ .vmem, ⟨17, _⟩ => ⟨S4096x128, .bf16⟩
  | .local _ .vmem, ⟨18, _⟩ => ⟨S256x128, .bf16⟩
  | .local _ .vmem, ⟨19, _⟩ => ⟨S256x128, .bf16⟩
  | _, _ => ⟨S4x4096x13824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_c_6 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 12], ![false, false]⟩

@[reducible] def k0_t1_loop : Scf.Loop 32 :=
  let c0_i32 : BitVec 32 := 0#32
  let c64_i32 : BitVec 32 := 64#32
  let v52 : BitVec 32 := Scalar.addi c0_i32 c64_i32
  let c1_i32 : BitVec 32 := 1#32
  ⟨c0_i32, v52, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c64_i32_29 : BitVec 32 := 64#32
  let v53 : BitVec 32 := Scalar.muli arg15 c64_i32_29
  v53
def k0_off1 (k0_t1 : Fin k0_t1_loop.trips) : Fin 3 → Nat :=
  let c0_30 : Index := 0#32
  let c0_i32 : BitVec 32 := 0#32
  let c1_i32 : BitVec 32 := 1#32
  let arg15 : BitVec 32 := Scf.iv c0_i32 c1_i32 k0_t1
  let c64_i32_29 : BitVec 32 := 64#32
  let v53 : BitVec 32 := Scalar.muli arg15 c64_i32_29
  let v54 : BitVec 32 := v53
  let v55 : Index := Scalar.indexCast v54
  let c0_31 : Index := 0#32
  ![0, v55.toNat, 0]
def k0_mult2 (k0_t1 : Fin k0_t1_loop.trips) : BitVec 32 :=
  let c56_i32 : BitVec 32 := 56#32
  let c0_i32_42 : BitVec 32 := 0#32
  let c0_i32 : BitVec 32 := 0#32
  let c1_i32 : BitVec 32 := 1#32
  let arg15 : BitVec 32 := Scf.iv c0_i32 c1_i32 k0_t1
  let c4_i32 : BitVec 32 := 4#32
  let v79 : BitVec 32 := Scalar.subi arg15 c4_i32
  let v80 : BitVec 32 := Scalar.maxsi c0_i32_42 v79
  let v81 : BitVec 32 := Scalar.minsi c56_i32 v80
  let c64_i32_43 : BitVec 32 := 64#32
  let v82 : BitVec 32 := Scalar.muli v81 c64_i32_43
  v82
def k0_off2 (k0_t1 : Fin k0_t1_loop.trips) : Fin 2 → Nat :=
  let c56_i32 : BitVec 32 := 56#32
  let c0_i32_42 : BitVec 32 := 0#32
  let c0_i32 : BitVec 32 := 0#32
  let c1_i32 : BitVec 32 := 1#32
  let arg15 : BitVec 32 := Scf.iv c0_i32 c1_i32 k0_t1
  let c4_i32 : BitVec 32 := 4#32
  let v79 : BitVec 32 := Scalar.subi arg15 c4_i32
  let v80 : BitVec 32 := Scalar.maxsi c0_i32_42 v79
  let v81 : BitVec 32 := Scalar.minsi c56_i32 v80
  let c64_i32_43 : BitVec 32 := 64#32
  let v82 : BitVec 32 := Scalar.muli v81 c64_i32_43
  let v83 : BitVec 32 := v82
  let v84 : Index := Scalar.indexCast v83
  let c0_44 : Index := 0#32
  ![v84.toNat, 0]
def k0_off3 (k0_t1 : Fin k0_t1_loop.trips) : Fin 4 → Nat :=
  let c0_48 : Index := 0#32
  let c56_i32 : BitVec 32 := 56#32
  let c0_i32_42 : BitVec 32 := 0#32
  let c0_i32 : BitVec 32 := 0#32
  let c1_i32 : BitVec 32 := 1#32
  let arg15 : BitVec 32 := Scf.iv c0_i32 c1_i32 k0_t1
  let c4_i32 : BitVec 32 := 4#32
  let v79 : BitVec 32 := Scalar.subi arg15 c4_i32
  let v80 : BitVec 32 := Scalar.maxsi c0_i32_42 v79
  let v81 : BitVec 32 := Scalar.minsi c56_i32 v80
  let v89 : BitVec 32 := Scalar.subi v81 arg15
  let c8_i32 : BitVec 32 := 8#32
  let v90 : BitVec 32 := Scalar.addi v89 c8_i32
  let c1_i32_47 : BitVec 32 := 1#32
  let v91 : BitVec 32 := Scalar.subi v90 c1_i32_47
  let v92 : Index := Scalar.indexCast v91
  let c0_49 : Index := 0#32
  let c0_50 : Index := 0#32
  ![0, v92.toNat, 0, 0]
def cc0_transform_0 (i : grid0.Coords) : Fin 3 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x4096x13824 : Shape := ⟨3, ![4, 4096, 13824]⟩
abbrev S4x256x13824 : Shape := ⟨3, ![4, 256, 13824]⟩
abbrev S12x15x31 : Shape := ⟨3, ![12, 15, 31]⟩
abbrev S128 : Shape := ⟨1, ![128]⟩
abbrev S4x4096x6144 : Shape := ⟨3, ![4, 4096, 6144]⟩
abbrev S4x4096x7680 : Shape := ⟨3, ![4, 4096, 7680]⟩
abbrev S4x256x6144 : Shape := ⟨3, ![4, 256, 6144]⟩
abbrev S4x256x1536 : Shape := ⟨3, ![4, 256, 1536]⟩
abbrev S4x256x12x128 : Shape := ⟨4, ![4, 256, 12, 128]⟩
abbrev S_ : Shape := ⟨0, ![]⟩
abbrev S4x256x12 : Shape := ⟨3, ![4, 256, 12]⟩
abbrev S4x256x12x1 : Shape := ⟨4, ![4, 256, 12, 1]⟩
abbrev S1x1x1x128 : Shape := ⟨4, ![1, 1, 1, 128]⟩
abbrev S4x4096x1536 : Shape := ⟨3, ![4, 4096, 1536]⟩
abbrev S4x4096x12x128 : Shape := ⟨4, ![4, 4096, 12, 128]⟩
abbrev S4x4096x12 : Shape := ⟨3, ![4, 4096, 12]⟩
abbrev S4x4096x12x1 : Shape := ⟨4, ![4, 4096, 12, 1]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S12x15x64x64 : Shape := ⟨4, ![12, 15, 64, 64]⟩
abbrev S4x64x64x12x128 : Shape := ⟨5, ![4, 64, 64, 12, 128]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S4x64x8x64x12x128 : Shape := ⟨6, ![4, 64, 8, 64, 12, 128]⟩
abbrev S12x64x8x64x64 : Shape := ⟨5, ![12, 64, 8, 64, 64]⟩
abbrev S12x64x64x8x64 : Shape := ⟨5, ![12, 64, 64, 8, 64]⟩
abbrev S4x12x64x64x8x64 : Shape := ⟨6, ![4, 12, 64, 64, 8, 64]⟩
abbrev S1x12x64x64x8x64 : Shape := ⟨6, ![1, 12, 64, 64, 8, 64]⟩
abbrev S1x1x1x64x1x64 : Shape := ⟨6, ![1, 1, 1, 64, 1, 64]⟩
abbrev S4x12x64x64x512 : Shape := ⟨5, ![4, 12, 64, 64, 512]⟩
abbrev S4x12x64x64x256 : Shape := ⟨5, ![4, 12, 64, 64, 256]⟩
abbrev S4x12x64x64x768 : Shape := ⟨5, ![4, 12, 64, 64, 768]⟩
abbrev S4x12x64x64 : Shape := ⟨4, ![4, 12, 64, 64]⟩
abbrev S4x12x64x64x1 : Shape := ⟨5, ![4, 12, 64, 64, 1]⟩
abbrev S4x64x12x128x64 : Shape := ⟨5, ![4, 64, 12, 128, 64]⟩
abbrev S4x12x128x64x64 : Shape := ⟨5, ![4, 12, 128, 64, 64]⟩

abbrev nBuf : Space → Nat
  | .hbm => 222
  | .vmem => 0
  | .smem => 0
  | _ => 0

abbrev hbmTy0_0 (i : Nat) : BufTy := match i % 128 with
  | 0 => ⟨S4x4096x13824, .f32⟩
  | 1 => ⟨S4x256x13824, .f32⟩
  | 2 => ⟨S12x15x31, .f32⟩
  | 3 => ⟨S128, .f32⟩
  | 4 => ⟨S128, .f32⟩
  | 5 => ⟨S4x4096x6144, .f32⟩
  | 6 => ⟨S4x4096x7680, .f32⟩
  | 7 => ⟨S4x256x6144, .f32⟩
  | 8 => ⟨S4x256x1536, .f32⟩
  | 9 => ⟨S4x256x12x128, .f32⟩
  | 10 => ⟨S4x256x12x128, .f32⟩
  | 11 => ⟨S_, .f32⟩
  | 12 => ⟨S4x256x12, .f32⟩
  | 13 => ⟨S4x256x12x1, .f32⟩
  | 14 => ⟨S_, .f32⟩
  | 15 => ⟨S4x256x12x1, .f32⟩
  | 16 => ⟨S4x256x12x1, .f32⟩
  | 17 => ⟨S_, .f32⟩
  | 18 => ⟨S4x256x12x1, .f32⟩
  | 19 => ⟨S4x256x12x1, .f32⟩
  | 20 => ⟨S4x256x12x1, .f32⟩
  | 21 => ⟨S4x256x12x128, .f32⟩
  | 22 => ⟨S4x256x12x128, .f32⟩
  | 23 => ⟨S1x1x1x128, .f32⟩
  | 24 => ⟨S4x256x12x128, .f32⟩
  | 25 => ⟨S4x256x12x128, .f32⟩
  | 26 => ⟨S4x256x1536, .f32⟩
  | 27 => ⟨S4x256x12x128, .f32⟩
  | 28 => ⟨S4x4096x1536, .f32⟩
  | 29 => ⟨S4x4096x12x128, .f32⟩
  | 30 => ⟨S4x4096x12x128, .f32⟩
  | 31 => ⟨S_, .f32⟩
  | 32 => ⟨S4x4096x12, .f32⟩
  | 33 => ⟨S4x4096x12x1, .f32⟩
  | 34 => ⟨S_, .f32⟩
  | 35 => ⟨S4x4096x12x1, .f32⟩
  | 36 => ⟨S4x4096x12x1, .f32⟩
  | 37 => ⟨S_, .f32⟩
  | 38 => ⟨S4x4096x12x1, .f32⟩
  | 39 => ⟨S4x4096x12x1, .f32⟩
  | 40 => ⟨S4x4096x12x1, .f32⟩
  | 41 => ⟨S4x4096x12x128, .f32⟩
  | 42 => ⟨S4x4096x12x128, .f32⟩
  | 43 => ⟨S1x1x1x128, .f32⟩
  | 44 => ⟨S4x4096x12x128, .f32⟩
  | 45 => ⟨S4x4096x12x128, .f32⟩
  | 46 => ⟨S4x4096x1536, .f32⟩
  | 47 => ⟨S4x4096x12x128, .f32⟩
  | 48 => ⟨S4x4096x12x128, .f32⟩
  | 49 => ⟨S_, .f32⟩
  | 50 => ⟨S4x4096x12, .f32⟩
  | 51 => ⟨S4x4096x12x1, .f32⟩
  | 52 => ⟨S_, .f32⟩
  | 53 => ⟨S4x4096x12x1, .f32⟩
  | 54 => ⟨S4x4096x12x1, .f32⟩
  | 55 => ⟨S_, .f32⟩
  | 56 => ⟨S4x4096x12x1, .f32⟩
  | 57 => ⟨S4x4096x12x1, .f32⟩
  | 58 => ⟨S4x4096x12x1, .f32⟩
  | 59 => ⟨S4x4096x12x128, .f32⟩
  | 60 => ⟨S4x4096x12x128, .f32⟩
  | 61 => ⟨S1x1x1x128, .f32⟩
  | 62 => ⟨S4x4096x12x128, .f32⟩
  | 63 => ⟨S4x4096x12x128, .f32⟩
  | 64 => ⟨S4x4096x1536, .f32⟩
  | 65 => ⟨S4x4096x12x128, .f32⟩
  | 66 => ⟨S64, .i32⟩
  | 67 => ⟨S_, .i32⟩
  | 68 => ⟨S64, .i32⟩
  | 69 => ⟨S64, .i32⟩
  | 70 => ⟨S_, .i32⟩
  | 71 => ⟨S_, .i32⟩
  | 72 => ⟨S_, .i32⟩
  | 73 => ⟨S64, .i32⟩
  | 74 => ⟨S64, .i32⟩
  | 75 => ⟨S_, .i32⟩
  | 76 => ⟨S64, .i32⟩
  | 77 => ⟨S64, .i32⟩
  | 78 => ⟨S1x64, .i32⟩
  | 79 => ⟨S64x1, .i32⟩
  | 80 => ⟨S64x64, .i32⟩
  | 81 => ⟨S64x64, .i32⟩
  | 82 => ⟨S64x64, .i1⟩
  | 83 => ⟨S1x64, .i32⟩
  | 84 => ⟨S64x1, .i32⟩
  | 85 => ⟨S_, .i32⟩
  | 86 => ⟨S64x1, .i32⟩
  | 87 => ⟨S64x1, .i32⟩
  | 88 => ⟨S64x64, .i32⟩
  | 89 => ⟨S64x64, .i32⟩
  | 90 => ⟨S64x64, .i1⟩
  | 91 => ⟨S64x64, .i1⟩
  | 92 => ⟨S1x64, .i32⟩
  | 93 => ⟨S64x1, .i32⟩
  | 94 => ⟨S64x64, .i32⟩
  | 95 => ⟨S64x64, .i32⟩
  | 96 => ⟨S64x64, .i32⟩
  | 97 => ⟨S_, .i32⟩
  | 98 => ⟨S64x64, .i32⟩
  | 99 => ⟨S64x64, .i32⟩
  | 100 => ⟨S_, .i32⟩
  | 101 => ⟨S64x64, .i32⟩
  | 102 => ⟨S64x64, .i32⟩
  | 103 => ⟨S_, .i32⟩
  | 104 => ⟨S_, .i32⟩
  | 105 => ⟨S_, .i32⟩
  | 106 => ⟨S64x64, .i32⟩
  | 107 => ⟨S64x64, .i32⟩
  | 108 => ⟨S_, .i32⟩
  | 109 => ⟨S64x64, .i32⟩
  | 110 => ⟨S64x64, .i32⟩
  | 111 => ⟨S_, .i32⟩
  | 112 => ⟨S64x64, .i32⟩
  | 113 => ⟨S64x64, .i1⟩
  | 114 => ⟨S_, .i32⟩
  | 115 => ⟨S64x64, .i32⟩
  | 116 => ⟨S64x64, .i32⟩
  | 117 => ⟨S64x64, .i32⟩
  | 118 => ⟨S64x64x1, .i32⟩
  | 119 => ⟨S12x15x64x64, .f32⟩
  | 120 => ⟨S4x64x64x12x128, .f32⟩
  | 121 => ⟨S4x64x64x12x128, .f32⟩
  | 122 => ⟨S4x64x64x12x128, .f32⟩
  | 123 => ⟨S64, .i32⟩
  | 124 => ⟨S_, .i32⟩
  | 125 => ⟨S64, .i32⟩
  | 126 => ⟨S64, .i32⟩
  | 127 => ⟨S_, .i32⟩
  | _ => ⟨S4x4096x13824, .f32⟩

abbrev hbmTy0_1 (i : Nat) : BufTy := match i % 128 with
  | 0 => ⟨S_, .i32⟩
  | 1 => ⟨S_, .i32⟩
  | 2 => ⟨S64, .i32⟩
  | 3 => ⟨S64, .i32⟩
  | 4 => ⟨S_, .i32⟩
  | 5 => ⟨S64, .i32⟩
  | 6 => ⟨S64, .i32⟩
  | 7 => ⟨S64x1, .i32⟩
  | 8 => ⟨S8, .i32⟩
  | 9 => ⟨S1x8, .i32⟩
  | 10 => ⟨S64x8, .i32⟩
  | 11 => ⟨S64x8, .i32⟩
  | 12 => ⟨S64x8, .i32⟩
  | 13 => ⟨S_, .i32⟩
  | 14 => ⟨S64x8, .i32⟩
  | 15 => ⟨S64x8, .i1⟩
  | 16 => ⟨S_, .i32⟩
  | 17 => ⟨S64x8, .i32⟩
  | 18 => ⟨S64x8, .i32⟩
  | 19 => ⟨S64x8, .i32⟩
  | 20 => ⟨S64x8x1, .i32⟩
  | 21 => ⟨S4x64x8x64x12x128, .f32⟩
  | 22 => ⟨S_, .i32⟩
  | 23 => ⟨S64x8, .i32⟩
  | 24 => ⟨S64x8, .i1⟩
  | 25 => ⟨S_, .i32⟩
  | 26 => ⟨S64x8, .i32⟩
  | 27 => ⟨S64x8, .i32⟩
  | 28 => ⟨S64x8, .i32⟩
  | 29 => ⟨S64x8x1, .i32⟩
  | 30 => ⟨S4x64x8x64x12x128, .f32⟩
  | 31 => ⟨S64x1, .i32⟩
  | 32 => ⟨S64x8, .i32⟩
  | 33 => ⟨S64x8, .i32⟩
  | 34 => ⟨S_, .i32⟩
  | 35 => ⟨S64x8, .i32⟩
  | 36 => ⟨S64x8, .i32⟩
  | 37 => ⟨S_, .i32⟩
  | 38 => ⟨S64x8, .i32⟩
  | 39 => ⟨S64x8, .i32⟩
  | 40 => ⟨S_, .i32⟩
  | 41 => ⟨S64x8, .i32⟩
  | 42 => ⟨S64x8, .i1⟩
  | 43 => ⟨S_, .i32⟩
  | 44 => ⟨S64x8, .i32⟩
  | 45 => ⟨S64x8, .i32⟩
  | 46 => ⟨S64x8, .i32⟩
  | 47 => ⟨S64x8x1, .i32⟩
  | 48 => ⟨S12x64x8x64x64, .f32⟩
  | 49 => ⟨S12x64x64x8x64, .f32⟩
  | 50 => ⟨S4x12x64x64x8x64, .f32⟩
  | 51 => ⟨S_, .f32⟩
  | 52 => ⟨S4x12x64x64x8x64, .f32⟩
  | 53 => ⟨S4x12x64x64x8x64, .f32⟩
  | 54 => ⟨S1x12x64x64x8x64, .f32⟩
  | 55 => ⟨S4x12x64x64x8x64, .f32⟩
  | 56 => ⟨S4x12x64x64x8x64, .f32⟩
  | 57 => ⟨S1x1x1x64x1x64, .i1⟩
  | 58 => ⟨S_, .f32⟩
  | 59 => ⟨S_, .f32⟩
  | 60 => ⟨S4x12x64x64x8x64, .i1⟩
  | 61 => ⟨S4x12x64x64x8x64, .f32⟩
  | 62 => ⟨S4x12x64x64x8x64, .f32⟩
  | 63 => ⟨S4x12x64x64x512, .f32⟩
  | 64 => ⟨S4x12x64x64x256, .f32⟩
  | 65 => ⟨S_, .f32⟩
  | 66 => ⟨S4x12x64x64x256, .f32⟩
  | 67 => ⟨S4x12x64x64x256, .f32⟩
  | 68 => ⟨S4x12x64x64x768, .f32⟩
  | 69 => ⟨S_, .f32⟩
  | 70 => ⟨S4x12x64x64, .f32⟩
  | 71 => ⟨S_, .f32⟩
  | 72 => ⟨S4x12x64x64, .f32⟩
  | 73 => ⟨S4x12x64x64, .f32⟩
  | 74 => ⟨S4x12x64x64x1, .f32⟩
  | 75 => ⟨S4x12x64x64x768, .f32⟩
  | 76 => ⟨S4x12x64x64x768, .f32⟩
  | 77 => ⟨S4x12x64x64x768, .f32⟩
  | 78 => ⟨S_, .f32⟩
  | 79 => ⟨S4x12x64x64, .f32⟩
  | 80 => ⟨S4x12x64x64x1, .f32⟩
  | 81 => ⟨S4x12x64x64x768, .f32⟩
  | 82 => ⟨S4x12x64x64x768, .f32⟩
  | 83 => ⟨S4x12x64x64x512, .f32⟩
  | 84 => ⟨S4x12x64x64x8x64, .f32⟩
  | 85 => ⟨S4x12x64x64x256, .f32⟩
  | 86 => ⟨S4x64x12x128x64, .f32⟩
  | 87 => ⟨S4x64x64x12x128, .f32⟩
  | 88 => ⟨S4x12x128x64x64, .f32⟩
  | 89 => ⟨S4x64x64x12x128, .f32⟩
  | 90 => ⟨S4x64x64x12x128, .f32⟩
  | 91 => ⟨S4x4096x12x128, .f32⟩
  | 92 => ⟨S4x4096x1536, .f32⟩
  | 93 => ⟨S4x4096x1536, .bf16⟩
  | _ => ⟨S4x4096x13824, .f32⟩

abbrev hbmTy (i : Nat) : BufTy := match i / 128 with
  | 0 => hbmTy0_0 i
  | 1 => hbmTy0_1 i
  | _ => ⟨S4x4096x13824, .f32⟩

abbrev bufTy : (tb : Table) → Fin (tcTables nBuf tb) → BufTy
  | .hbm, ⟨i, _⟩ => hbmTy i
  | _, _ => ⟨S4x4096x13824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c : Ref sig .tc := ⟨.hbm, 67, rfl⟩
abbrev main_v53 : Ref sig .tc := ⟨.hbm, 68, rfl⟩
abbrev main_v54 : Ref sig .tc := ⟨.hbm, 69, rfl⟩
abbrev main_c_8 : Ref sig .tc := ⟨.hbm, 70, rfl⟩
abbrev main_c_9 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_11 : Ref sig .tc := ⟨.hbm, 97, rfl⟩
abbrev main_v74 : Ref sig .tc := ⟨.hbm, 98, rfl⟩
abbrev main_v75 : Ref sig .tc := ⟨.hbm, 99, rfl⟩
abbrev main_c_12 : Ref sig .tc := ⟨.hbm, 100, rfl⟩
abbrev main_v76 : Ref sig .tc := ⟨.hbm, 101, rfl⟩
abbrev main_v77 : Ref sig .tc := ⟨.hbm, 102, rfl⟩
abbrev main_c_13 : Ref sig .tc := ⟨.hbm, 103, rfl⟩
abbrev main_c_14 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_v78 : Ref sig .tc := ⟨.hbm, 110, rfl⟩
abbrev main_c_15 : Ref sig .tc := ⟨.hbm, 111, rfl⟩
abbrev main_v79 : Ref sig .tc := ⟨.hbm, 112, rfl⟩
abbrev main_v80 : Ref sig .tc := ⟨.hbm, 113, rfl⟩
abbrev main_c_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_17 : Ref sig .tc := ⟨.hbm, 124, rfl⟩
abbrev main_v90 : Ref sig .tc := ⟨.hbm, 125, rfl⟩
abbrev main_v91 : Ref sig .tc := ⟨.hbm, 126, rfl⟩
abbrev main_c_18 : Ref sig .tc := ⟨.hbm, 127, rfl⟩
abbrev main_c_19 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_20 : Ref sig .tc := ⟨.hbm, 141, rfl⟩
abbrev main_v99 : Ref sig .tc := ⟨.hbm, 142, rfl⟩
abbrev main_v100 : Ref sig .tc := ⟨.hbm, 143, rfl⟩
abbrev main_c_21 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_22 : Ref sig .tc := ⟨.hbm, 150, rfl⟩
abbrev main_v106 : Ref sig .tc := ⟨.hbm, 151, rfl⟩
abbrev main_v107 : Ref sig .tc := ⟨.hbm, 152, rfl⟩
abbrev main_c_23 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_c_24 : Ref sig .tc := ⟨.hbm, 162, rfl⟩
abbrev main_v116 : Ref sig .tc := ⟨.hbm, 163, rfl⟩
abbrev main_v117 : Ref sig .tc := ⟨.hbm, 164, rfl⟩
abbrev main_c_25 : Ref sig .tc := ⟨.hbm, 165, rfl⟩
abbrev main_v118 : Ref sig .tc := ⟨.hbm, 166, rfl⟩
abbrev main_v119 : Ref sig .tc := ⟨.hbm, 167, rfl⟩
abbrev main_c_26 : Ref sig .tc := ⟨.hbm, 168, rfl⟩
abbrev main_v120 : Ref sig .tc := ⟨.hbm, 169, rfl⟩
abbrev main_v121 : Ref sig .tc := ⟨.hbm, 170, rfl⟩
abbrev main_c_27 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_28 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_29 : Ref sig .tc := ⟨.hbm, 186, rfl⟩
abbrev main_call3_v0 : Ref sig .tc := ⟨.hbm, 187, rfl⟩
abbrev main_call3_v1 : Ref sig .tc := ⟨.hbm, 188, rfl⟩
abbrev main_call3_v2 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_30 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_31 : Ref sig .tc := ⟨.hbm, 197, rfl⟩
abbrev main_v141 : Ref sig .tc := ⟨.hbm, 198, rfl⟩
abbrev main_cst_32 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_cst_33 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩

abbrev nD : Nat := 1
abbrev τ : Topo := Topo.v7x

variable {F : FTy → Type} [FloatOps F]
-- ==== Kernel2.lean ====
abbrev S4x4096x4096 : Shape := ⟨3, ![4, 4096, 4096]⟩
abbrev S4096x13824 : Shape := ⟨2, ![4096, 13824]⟩
abbrev S16384x4096 : Shape := ⟨2, ![16384, 4096]⟩
abbrev S16384x13824 : Shape := ⟨2, ![16384, 13824]⟩
abbrev S1024x4096 : Shape := ⟨2, ![1024, 4096]⟩
abbrev S4096x768 : Shape := ⟨2, ![4096, 768]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x13824, .f32⟩
  | .hbm, ⟨2, _⟩ => ⟨S16384x4096, .f32⟩
  | .hbm, ⟨3, _⟩ => ⟨S16384x4096, .bf16⟩
  | .hbm, ⟨4, _⟩ => ⟨S4096x13824, .bf16⟩
  | .hbm, ⟨5, _⟩ => ⟨S16384x13824, .f32⟩
  | .local _ .vmem, ⟨0, _⟩ => ⟨S1024x4096, .bf16⟩
  | .local _ .vmem, ⟨1, _⟩ => ⟨S1024x4096, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .f32⟩
  | .local _ .vmem, ⟨5, _⟩ => ⟨S1024x768, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel2Ideal.lean ====
abbrev S4x4096x4096 : Shape := ⟨3, ![4, 4096, 4096]⟩
abbrev S4096x13824 : Shape := ⟨2, ![4096, 13824]⟩
abbrev S16384x4096 : Shape := ⟨2, ![16384, 4096]⟩
abbrev S16384x13824 : Shape := ⟨2, ![16384, 13824]⟩
abbrev S1024x4096 : Shape := ⟨2, ![1024, 4096]⟩
abbrev S4096x768 : Shape := ⟨2, ![4096, 768]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x13824, .f32⟩
  | .hbm, ⟨2, _⟩ => ⟨S16384x4096, .f32⟩
  | .hbm, ⟨3, _⟩ => ⟨S16384x4096, .bf16⟩
  | .hbm, ⟨4, _⟩ => ⟨S4096x13824, .bf16⟩
  | .hbm, ⟨5, _⟩ => ⟨S16384x13824, .f32⟩
  | .local _ .vmem, ⟨0, _⟩ => ⟨S1024x4096, .bf16⟩
  | .local _ .vmem, ⟨1, _⟩ => ⟨S1024x4096, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .f32⟩
  | .local _ .vmem, ⟨5, _⟩ => ⟨S1024x768, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x4096x4096 : Shape := ⟨3, ![4, 4096, 4096]⟩
abbrev S4096x13824 : Shape := ⟨2, ![4096, 13824]⟩
abbrev S4x4096x13824 : Shape := ⟨3, ![4, 4096, 13824]⟩
abbrev S16384x13824 : Shape := ⟨2, ![16384, 13824]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x13824, .f32⟩
  | .hbm, ⟨2, _⟩ => ⟨S4x4096x13824, .f32⟩
  | .hbm, ⟨3, _⟩ => ⟨S16384x13824, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S4x4096x4096 : Shape := ⟨3, ![4, 4096, 4096]⟩
abbrev S4096x4096 : Shape := ⟨2, ![4096, 4096]⟩
abbrev S16384x4096 : Shape := ⟨2, ![16384, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16384x4096, .f32⟩
  | .hbm, ⟨3, _⟩ => ⟨S16384x4096, .bf16⟩
  | .hbm, ⟨4, _⟩ => ⟨S4096x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel3Ideal.lean ====
abbrev S4x4096x4096 : Shape := ⟨3, ![4, 4096, 4096]⟩
abbrev S4096x4096 : Shape := ⟨2, ![4096, 4096]⟩
abbrev S16384x4096 : Shape := ⟨2, ![16384, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16384x4096, .f32⟩
  | .hbm, ⟨3, _⟩ => ⟨S16384x4096, .bf16⟩
  | .hbm, ⟨4, _⟩ => ⟨S4096x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4x4096x4096 : Shape := ⟨3, ![4, 4096, 4096]⟩
abbrev S4096x4096 : Shape := ⟨2, ![4096, 4096]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4x4096x4096, .f32⟩
  | .hbm, ⟨3, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S4x4096x4096 : Shape := ⟨3, ![4, 4096, 4096]⟩
abbrev S4096x2048 : Shape := ⟨2, ![4096, 2048]⟩
abbrev S16384x4096 : Shape := ⟨2, ![16384, 4096]⟩
abbrev S2048x4096 : Shape := ⟨2, ![2048, 4096]⟩
abbrev S2048x16384 : Shape := ⟨2, ![2048, 16384]⟩
abbrev S1024x4096 : Shape := ⟨2, ![1024, 4096]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x2048, .f32⟩
  | .hbm, ⟨2, _⟩ => ⟨S16384x4096, .f32⟩
  | .hbm, ⟨3, _⟩ => ⟨S16384x4096, .bf16⟩
  | .hbm, ⟨4, _⟩ => ⟨S2048x4096, .f32⟩
  | .hbm, ⟨5, _⟩ => ⟨S2048x4096, .bf16⟩
  | .hbm, ⟨6, _⟩ => ⟨S2048x16384, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel4Ideal.lean ====
abbrev S4x4096x4096 : Shape := ⟨3, ![4, 4096, 4096]⟩
abbrev S4096x2048 : Shape := ⟨2, ![4096, 2048]⟩
abbrev S16384x4096 : Shape := ⟨2, ![16384, 4096]⟩
abbrev S2048x4096 : Shape := ⟨2, ![2048, 4096]⟩
abbrev S2048x16384 : Shape := ⟨2, ![2048, 16384]⟩
abbrev S1024x4096 : Shape := ⟨2, ![1024, 4096]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x2048, .f32⟩
  | .hbm, ⟨2, _⟩ => ⟨S16384x4096, .f32⟩
  | .hbm, ⟨3, _⟩ => ⟨S16384x4096, .bf16⟩
  | .hbm, ⟨4, _⟩ => ⟨S2048x4096, .f32⟩
  | .hbm, ⟨5, _⟩ => ⟨S2048x4096, .bf16⟩
  | .hbm, ⟨6, _⟩ => ⟨S2048x16384, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x4096x4096 : Shape := ⟨3, ![4, 4096, 4096]⟩
abbrev S4096x2048 : Shape := ⟨2, ![4096, 2048]⟩
abbrev S16384x4096 : Shape := ⟨2, ![16384, 4096]⟩
abbrev S16384x2048 : Shape := ⟨2, ![16384, 2048]⟩
abbrev S2048x16384 : Shape := ⟨2, ![2048, 16384]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x2048, .f32⟩
  | .hbm, ⟨2, _⟩ => ⟨S16384x4096, .f32⟩
  | .hbm, ⟨3, _⟩ => ⟨S16384x2048, .f32⟩
  | .hbm, ⟨4, _⟩ => ⟨S2048x16384, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S4x4096x4096 : Shape := ⟨3, ![4, 4096, 4096]⟩
abbrev S4096 : Shape := ⟨1, ![4096]⟩
abbrev S4x1x4096 : Shape := ⟨3, ![4, 1, 4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S1x4096, .f32⟩
  | .hbm, ⟨5, _⟩ => ⟨S4x4096x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .bf16⟩
  | .local _ .vmem, ⟨8, _⟩ => ⟨S1x256x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel5Ideal.lean ====
abbrev S4x4096x4096 : Shape := ⟨3, ![4, 4096, 4096]⟩
abbrev S4096 : Shape := ⟨1, ![4096]⟩
abbrev S4x1x4096 : Shape := ⟨3, ![4, 1, 4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S1x4096, .f32⟩
  | .hbm, ⟨5, _⟩ => ⟨S4x4096x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .bf16⟩
  | .local _ .vmem, ⟨8, _⟩ => ⟨S1x256x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4x4096x4096 : Shape := ⟨3, ![4, 4096, 4096]⟩
abbrev S4096 : Shape := ⟨1, ![4096]⟩
abbrev S4x1x4096 : Shape := ⟨3, ![4, 1, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S1x1x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x1x4096, .f32⟩
  | .hbm, ⟨22, _⟩ => ⟨S4x1x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel6.lean ====
abbrev S4x4096x4096 : Shape := ⟨3, ![4, 4096, 4096]⟩
abbrev S4096 : Shape := ⟨1, ![4096]⟩
abbrev S4x1x4096 : Shape := ⟨3, ![4, 1, 4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 15
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4x4096x4096, .f32⟩
  | .hbm, ⟨5, _⟩ => ⟨S4x1x4096, .f32⟩
  | .hbm, ⟨6, _⟩ => ⟨S1x4096, .f32⟩
  | .hbm, ⟨7, _⟩ => ⟨S4x4096x4096, .f32⟩
  | .hbm, ⟨8, _⟩ => ⟨S4x4096x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .f32⟩
  | .local _ .vmem, ⟨8, _⟩ => ⟨S1x256x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x256x4096, .f32⟩
  | .local _ .vmem, ⟨12, _⟩ => ⟨S1x256x4096, .f32⟩
  | .local _ .vmem, ⟨13, _⟩ => ⟨S1x256x4096, .bf16⟩
  | .local _ .vmem, ⟨14, _⟩ => ⟨S1x256x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel6Ideal.lean ====
abbrev S4x4096x4096 : Shape := ⟨3, ![4, 4096, 4096]⟩
abbrev S4096 : Shape := ⟨1, ![4096]⟩
abbrev S4x1x4096 : Shape := ⟨3, ![4, 1, 4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 15
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4x4096x4096, .f32⟩
  | .hbm, ⟨5, _⟩ => ⟨S4x1x4096, .f32⟩
  | .hbm, ⟨6, _⟩ => ⟨S1x4096, .f32⟩
  | .hbm, ⟨7, _⟩ => ⟨S4x4096x4096, .f32⟩
  | .hbm, ⟨8, _⟩ => ⟨S4x4096x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .f32⟩
  | .local _ .vmem, ⟨8, _⟩ => ⟨S1x256x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x256x4096, .f32⟩
  | .local _ .vmem, ⟨12, _⟩ => ⟨S1x256x4096, .f32⟩
  | .local _ .vmem, ⟨13, _⟩ => ⟨S1x256x4096, .bf16⟩
  | .local _ .vmem, ⟨14, _⟩ => ⟨S1x256x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S4x4096x4096 : Shape := ⟨3, ![4, 4096, 4096]⟩
abbrev S4096 : Shape := ⟨1, ![4096]⟩
abbrev S4x1x4096 : Shape := ⟨3, ![4, 1, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4x4096x4096, .f32⟩
  | .hbm, ⟨5, _⟩ => ⟨S4x1x4096, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S1x1x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x1x4096, .f32⟩
  | .hbm, ⟨27, _⟩ => ⟨S4x1x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel7.lean ====
abbrev S4x256x4096 : Shape := ⟨3, ![4, 256, 4096]⟩
abbrev S4096x13824 : Shape := ⟨2, ![4096, 13824]⟩
abbrev S1024x4096 : Shape := ⟨2, ![1024, 4096]⟩
abbrev S1024x13824 : Shape := ⟨2, ![1024, 13824]⟩
abbrev S4096x768 : Shape := ⟨2, ![4096, 768]⟩
abbrev S1024x768 : Shape := ⟨2, ![1024, 768]⟩

abbrev nBuf : Space → Nat
  | .hbm => 6
  | .vmem => 5
  | .smem => 0
  | _ => 0

abbrev bufTy : (tb : Table) → Fin (tcTables nBuf tb) → BufTy
  | .hbm, ⟨0, _⟩ => ⟨S4x256x4096, .f32⟩
  | .hbm, ⟨1, _⟩ => ⟨S4096x13824, .f32⟩
  | .hbm, ⟨2, _⟩ => ⟨S1024x4096, .f32⟩
  | .hbm, ⟨3, _⟩ => ⟨S1024x4096, .bf16⟩
  | .hbm, ⟨4, _⟩ => ⟨S4096x13824, .bf16⟩
  | .hbm, ⟨5, _⟩ => ⟨S1024x13824, .f32⟩
  | .local _ .vmem, ⟨0, _⟩ => ⟨S1024x4096, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .f32⟩
  | .local _ .vmem, ⟨4, _⟩ => ⟨S1024x768, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel7Ideal.lean ====
abbrev S4x256x4096 : Shape := ⟨3, ![4, 256, 4096]⟩
abbrev S4096x13824 : Shape := ⟨2, ![4096, 13824]⟩
abbrev S1024x4096 : Shape := ⟨2, ![1024, 4096]⟩
abbrev S1024x13824 : Shape := ⟨2, ![1024, 13824]⟩
abbrev S4096x768 : Shape := ⟨2, ![4096, 768]⟩
abbrev S1024x768 : Shape := ⟨2, ![1024, 768]⟩

abbrev nBuf : Space → Nat
  | .hbm => 6
  | .vmem => 5
  | .smem => 0
  | _ => 0

abbrev bufTy : (tb : Table) → Fin (tcTables nBuf tb) → BufTy
  | .hbm, ⟨0, _⟩ => ⟨S4x256x4096, .f32⟩
  | .hbm, ⟨1, _⟩ => ⟨S4096x13824, .f32⟩
  | .hbm, ⟨2, _⟩ => ⟨S1024x4096, .f32⟩
  | .hbm, ⟨3, _⟩ => ⟨S1024x4096, .bf16⟩
  | .hbm, ⟨4, _⟩ => ⟨S4096x13824, .bf16⟩
  | .hbm, ⟨5, _⟩ => ⟨S1024x13824, .f32⟩
  | .local _ .vmem, ⟨0, _⟩ => ⟨S1024x4096, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .f32⟩
  | .local _ .vmem, ⟨4, _⟩ => ⟨S1024x768, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4x256x4096 : Shape := ⟨3, ![4, 256, 4096]⟩
abbrev S4096x13824 : Shape := ⟨2, ![4096, 13824]⟩
abbrev S4x256x13824 : Shape := ⟨3, ![4, 256, 13824]⟩
abbrev S1024x13824 : Shape := ⟨2, ![1024, 13824]⟩

abbrev nBuf : Space → Nat
  | .hbm => 4
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096x13824, .f32⟩
  | .hbm, ⟨2, _⟩ => ⟨S4x256x13824, .f32⟩
  | .hbm, ⟨3, _⟩ => ⟨S1024x13824, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S4x256x4096 : Shape := ⟨3, ![4, 256, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x256x4096, .f32⟩
  | .hbm, ⟨1, _⟩ => ⟨S4096x4096, .f32⟩
  | .hbm, ⟨2, _⟩ => ⟨S1024x4096, .f32⟩
  | .hbm, ⟨3, _⟩ => ⟨S1024x4096, .bf16⟩
  | .hbm, ⟨4, _⟩ => ⟨S4096x4096, .bf16⟩
  | .hbm, ⟨5, _⟩ => ⟨S1024x4096, .f32⟩
  | .local _ .vmem, ⟨0, _⟩ => ⟨S1024x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4x256x4096 : Shape := ⟨3, ![4, 256, 4096]⟩
abbrev S4096x4096 : Shape := ⟨2, ![4096, 4096]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096x4096, .f32⟩
  | .hbm, ⟨2, _⟩ => ⟨S4x256x4096, .f32⟩
  | .hbm, ⟨3, _⟩ => ⟨S1024x4096, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S4x256x4096 : Shape := ⟨3, ![4, 256, 4096]⟩
abbrev S4096x2048 : Shape := ⟨2, ![4096, 2048]⟩
abbrev S1024x4096 : Shape := ⟨2, ![1024, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4x256x4096, .f32⟩
  | .hbm, ⟨1, _⟩ => ⟨S4096x2048, .f32⟩
  | .hbm, ⟨2, _⟩ => ⟨S1024x4096, .f32⟩
  | .hbm, ⟨3, _⟩ => ⟨S1024x4096, .bf16⟩
  | .hbm, ⟨4, _⟩ => ⟨S2048x4096, .f32⟩
  | .hbm, ⟨5, _⟩ => ⟨S2048x4096, .bf16⟩
  | .hbm, ⟨6, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4x256x4096 : Shape := ⟨3, ![4, 256, 4096]⟩
abbrev S4096x2048 : Shape := ⟨2, ![4096, 2048]⟩
abbrev S1024x4096 : Shape := ⟨2, ![1024, 4096]⟩
abbrev S1024x2048 : Shape := ⟨2, ![1024, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096x2048, .f32⟩
  | .hbm, ⟨2, _⟩ => ⟨S1024x4096, .f32⟩
  | .hbm, ⟨3, _⟩ => ⟨S1024x2048, .f32⟩
  | .hbm, ⟨4, _⟩ => ⟨S2048x1024, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4x256x4096 : Shape := ⟨3, ![4, 256, 4096]⟩
abbrev S4096 : Shape := ⟨1, ![4096]⟩
abbrev S1x1x4096 : Shape := ⟨3, ![1, 1, 4096]⟩
abbrev S1x4096 : Shape := ⟨2, ![1, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S4x256x4096, .f32⟩
  | .hbm, ⟨1, _⟩ => ⟨S4096, .f32⟩
  | .hbm, ⟨2, _⟩ => ⟨S1x1x4096, .f32⟩
  | .hbm, ⟨3, _⟩ => ⟨S1x1x4096, .f32⟩
  | .hbm, ⟨4, _⟩ => ⟨S1x4096, .f32⟩
  | .hbm, ⟨5, _⟩ => ⟨S4x256x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x256x4096, .bf16⟩
  | .local _ .vmem, ⟨6, _⟩ => ⟨S1x256x4096, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel10Ideal.lean ====
abbrev S4x256x4096 : Shape := ⟨3, ![4, 256, 4096]⟩
abbrev S4096 : Shape := ⟨1, ![4096]⟩
abbrev S1x1x4096 : Shape := ⟨3, ![1, 1, 4096]⟩
abbrev S1x4096 : Shape := ⟨2, ![1, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S4x256x4096, .f32⟩
  | .hbm, ⟨1, _⟩ => ⟨S4096, .f32⟩
  | .hbm, ⟨2, _⟩ => ⟨S1x1x4096, .f32⟩
  | .hbm, ⟨3, _⟩ => ⟨S1x1x4096, .f32⟩
  | .hbm, ⟨4, _⟩ => ⟨S1x4096, .f32⟩
  | .hbm, ⟨5, _⟩ => ⟨S4x256x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x256x4096, .bf16⟩
  | .local _ .vmem, ⟨6, _⟩ => ⟨S1x256x4096, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S4x256x4096 : Shape := ⟨3, ![4, 256, 4096]⟩
abbrev S4096 : Shape := ⟨1, ![4096]⟩
abbrev S1x1x4096 : Shape := ⟨3, ![1, 1, 4096]⟩
abbrev S_ : Shape := ⟨0, ![]⟩
abbrev S4x256 : Shape := ⟨2, ![4, 256]⟩
abbrev S4x256x1 : Shape := ⟨3, ![4, 256, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096, .f32⟩
  | .hbm, ⟨2, _⟩ => ⟨S1x1x4096, .f32⟩
  | .hbm, ⟨3, _⟩ => ⟨S1x1x4096, .f32⟩
  | .hbm, ⟨4, _⟩ => ⟨S4x256x4096, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x4096, .f32⟩
  | .hbm, ⟨16, _⟩ => ⟨S4x256x4096, .f32⟩
  | .hbm, ⟨17, _⟩ => ⟨S1x1x4096, .f32⟩
  | .hbm, ⟨18, _⟩ => ⟨S4x256x4096, .f32⟩
  | .hbm, ⟨19, _⟩ => ⟨S4x256x4096, .f32⟩
  | .hbm, ⟨20, _⟩ => ⟨S_, .f32⟩
  | .hbm, ⟨21, _⟩ => ⟨S1x1x4096, .f32⟩
  | .hbm, ⟨22, _⟩ => ⟨S1x1x4096, .f32⟩
  | .hbm, ⟨23, _⟩ => ⟨S4x256x4096, .f32⟩
  | .hbm, ⟨24, _⟩ => ⟨S4x256x4096, .f32⟩
  | .hbm, ⟨25, _⟩ => ⟨S4x256x4096, .f32⟩
  | .hbm, ⟨26, _⟩ => ⟨S4x256x4096, .f32⟩
  | .hbm, ⟨27, _⟩ => ⟨S4x256x4096, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel11.lean ====
abbrev S4x256x4096 : Shape := ⟨3, ![4, 256, 4096]⟩
abbrev S4096 : Shape := ⟨1, ![4096]⟩
abbrev S1x1x4096 : Shape := ⟨3, ![1, 1, 4096]⟩
abbrev S1x4096 : Shape := ⟨2, ![1, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S4x256x4096, .f32⟩
  | .hbm, ⟨1, _⟩ => ⟨S4096, .f32⟩
  | .hbm, ⟨2, _⟩ => ⟨S1x1x4096, .f32⟩
  | .hbm, ⟨3, _⟩ => ⟨S1x1x4096, .f32⟩
  | .hbm, ⟨4, _⟩ => ⟨S4x256x4096, .f32⟩
  | .hbm, ⟨5, _⟩ => ⟨S1x1x4096, .f32⟩
  | .hbm, ⟨6, _⟩ => ⟨S1x4096, .f32⟩
  | .hbm, ⟨7, _⟩ => ⟨S4x256x4096, .f32⟩
  | .hbm, ⟨8, _⟩ => ⟨S4x256x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x256x4096, .f32⟩
  | .local _ .vmem, ⟨6, _⟩ => ⟨S1x256x4096, .f32⟩
  | .local _ .vmem, ⟨7, _⟩ => ⟨S1x1x4096, .f32⟩
  | .local _ .vmem, ⟨8, _⟩ => ⟨S1x256x4096, .f32⟩
  | .local _ .vmem, ⟨9, _⟩ => ⟨S1x256x4096, .f32⟩
  | .local _ .vmem, ⟨10, _⟩ => ⟨S1x256x4096, .bf16⟩
  | .local _ .vmem, ⟨11, _⟩ => ⟨S1x256x4096, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S4x256x4096 : Shape := ⟨3, ![4, 256, 4096]⟩
abbrev S4096 : Shape := ⟨1, ![4096]⟩
abbrev S1x1x4096 : Shape := ⟨3, ![1, 1, 4096]⟩
abbrev S_ : Shape := ⟨0, ![]⟩
abbrev S4x256 : Shape := ⟨2, ![4, 256]⟩
abbrev S4x256x1 : Shape := ⟨3, ![4, 256, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096, .f32⟩
  | .hbm, ⟨2, _⟩ => ⟨S1x1x4096, .f32⟩
  | .hbm, ⟨3, _⟩ => ⟨S1x1x4096, .f32⟩
  | .hbm, ⟨4, _⟩ => ⟨S4x256x4096, .f32⟩
  | .hbm, ⟨5, _⟩ => ⟨S1x1x4096, .f32⟩
  | .hbm, ⟨6, _⟩ => ⟨S4x256x4096, .f32⟩
  | .hbm, ⟨7, _⟩ => ⟨S4x256x4096, .f32⟩
  | .hbm, ⟨8, _⟩ => ⟨S4x256x4096, .f32⟩
  | .hbm, ⟨9, _⟩ => ⟨S4x256x4096, .f32⟩
  | .hbm, ⟨10, _⟩ => ⟨S_, .f32⟩
  | .hbm, ⟨11, _⟩ => ⟨S4x256, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S_, .f32⟩
  | .hbm, ⟨17, _⟩ => ⟨S4x256x1, .f32⟩
  | .hbm, ⟨18, _⟩ => ⟨S4x256x1, .f32⟩
  | .hbm, ⟨19, _⟩ => ⟨S4x256x1, .f32⟩
  | .hbm, ⟨20, _⟩ => ⟨S4x256x4096, .f32⟩
  | .hbm, ⟨21, _⟩ => ⟨S4x256x4096, .f32⟩
  | .hbm, ⟨22, _⟩ => ⟨S1x1x4096, .f32⟩
  | .hbm, ⟨23, _⟩ => ⟨S4x256x4096, .f32⟩
  | .hbm, ⟨24, _⟩ => ⟨S4x256x4096, .f32⟩
  | .hbm, ⟨25, _⟩ => ⟨S_, .f32⟩
  | .hbm, ⟨26, _⟩ => ⟨S1x1x4096, .f32⟩
  | .hbm, ⟨27, _⟩ => ⟨S1x1x4096, .f32⟩
  | .hbm, ⟨28, _⟩ => ⟨S4x256x4096, .f32⟩
  | .hbm, ⟨29, _⟩ => ⟨S4x256x4096, .f32⟩
  | .hbm, ⟨30, _⟩ => ⟨S4x256x4096, .f32⟩
  | .hbm, ⟨31, _⟩ => ⟨S4x256x4096, .f32⟩
  | .hbm, ⟨32, _⟩ => ⟨S4x256x4096, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.Softmax.lean ====
/- The arithmetic of neighbourhood attention over the extended reals, free of any program: the normalisation of a row
   is real whatever the row holds, and dividing a weighted sum by the softmax's denominator is weighting by the
   divided exponentials. -/
module

public import Idealize.ShloMosaic.PureOps.Ideal

@[expose] public section

noncomputable section

open Idealize.ShloMosaic

namespace Cert.NA

/-- An extended real that is a real number. -/
def IsReal (x : EReal) : Prop := ∃ r : ℝ, x = (r : EReal)

theorem IsReal.coe (r : ℝ) : IsReal (r : EReal) := ⟨r, rfl⟩

theorem IsReal.mul {x y : EReal} : IsReal x → IsReal y → IsReal (x * y) := by
  rintro ⟨r, rfl⟩ ⟨s, rfl⟩; exact ⟨r * s, (EReal.coe_mul r s).symm⟩

theorem IsReal.add {x y : EReal} : IsReal x → IsReal y → IsReal (x + y) := by
  rintro ⟨r, rfl⟩ ⟨s, rfl⟩; exact ⟨r + s, (EReal.coe_add r s).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.ne_top {x : EReal} : IsReal x → x ≠ ⊤ := by rintro ⟨r, rfl⟩; exact EReal.coe_ne_top r
theorem IsReal.ne_bot {x : EReal} : IsReal x → x ≠ ⊥ := by rintro ⟨r, rfl⟩; exact EReal.coe_ne_bot r

theorem isReal_iff {x : EReal} : IsReal x ↔ x ≠ ⊤ ∧ x ≠ ⊥ :=
  ⟨fun h => ⟨h.ne_top, h.ne_bot⟩, fun h => ⟨x.toReal, (EReal.coe_toReal h.1 h.2).symm⟩⟩

/-! ## The normalisation of a row -/

/-- Root-mean-square normalisation of the row `x` with gain `g`, at lane `d`: the row's mean square over `c` lanes,
    `e` added, its inverse root, the gain. -/
def rms (c e : EReal) (x g : Fin 128 → EReal) (d : Fin 128) : EReal :=
  x d * Ideal.rsqrt (Ideal.div (∑ k, x k * x k) c + e) * g d

theorem sq_nonneg (x : EReal) : 0 ≤ x * x := by
  induction x with
  | bot => simp
  | top => simp
  | coe r => rw [← EReal.coe_mul]; exact EReal.coe_nonneg.2 (mul_self_nonneg r)

/-- The normalised row is real at every lane, whatever the row holds: a row with an infinite square sum has inverse
    root zero, and zero times anything is zero. -/
theorem rms_real {c e : ℝ} (hc : 0 < c) (he : 0 < e) (x g : Fin 128 → EReal) (d : Fin 128) (hg : IsReal (g d)) :
    IsReal (rms (c : EReal) (e : EReal) x g d) := by
  refine IsReal.mul ?_ hg
  set S : EReal := ∑ k, x k * x k with hS
  have h0 : 0 ≤ S := Finset.sum_nonneg fun k _ => sq_nonneg (x k)
  rw [Ideal.div_coe hc.ne']
  by_cases hT : S = ⊤
  · rw [hT, EReal.top_mul_coe_of_pos (by positivity), EReal.top_add_coe, Ideal.rsqrt_top, mul_zero]
    exact ⟨0, rfl⟩
  · have hB : S ≠ ⊥ := fun h => by rw [h] at h0; simp at h0
    obtain ⟨s, hs⟩ := isReal_iff.2 ⟨hT, hB⟩
    have hs0 : 0 ≤ s := by rw [hs] at h0; exact EReal.coe_nonneg.1 h0
    have hle : x d * x d ≤ S := Finset.single_le_sum (f := fun k => x k * x k) (fun k _ => sq_nonneg (x k)) (Finset.mem_univ d)
    have hx : IsReal (x d) := by
      rw [isReal_iff]; constructor
      · intro h; rw [h] at hle; simp at hle; exact hT hle
      · intro h; rw [h] at hle; simp at hle; exact hT hle
    refine hx.mul ?_
    rw [hs, ← EReal.coe_mul, ← EReal.coe_add, Ideal.rsqrt_coe]
    have hp : 0 < s * (1 / c) + e := by positivity
    rw [if_neg hp.not_gt, if_neg hp.ne']
    exact ⟨_, rfl⟩

/-! ## Sums and maxima -/

theorem mul_sum_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.2 hr) (EReal.coe_ne_top r)]

/-- The maximum over a finite family, started at `⊥`. -/
abbrev top {ι : Type} [Fintype ι] (f : ι → EReal) : EReal := Finset.univ.fold max ⊥ f

theorem top_eq_sup {ι : Type} [Fintype ι] (f : ι → EReal) : top f = Finset.univ.sup f := rfl

theorem max_top_real {ι κ : Type} [Fintype ι] [Fintype κ] [Nonempty κ] (sC : κ → EReal) (sL : ι → EReal)
    (hC : ∀ c, IsReal (sC c)) (hL : ∀ i, sL i ≠ ⊤) : IsReal (max (top sC) (top sL)) := by
  rw [isReal_iff]
  constructor
  · refine (max_lt ?_ ?_).ne
    · rw [top_eq_sup, Finset.sup_lt_iff (by simp)]; exact fun c _ => lt_top_iff_ne_top.2 (hC c).ne_top
    · rw [top_eq_sup, Finset.sup_lt_iff (by simp)]; exact fun c _ => lt_top_iff_ne_top.2 (hL c)
  · have c : κ := Classical.arbitrary κ
    refine (lt_of_lt_of_le (bot_lt_iff_ne_bot.2 (hC c).ne_bot) (le_max_of_le_left ?_)).ne'
    rw [top_eq_sup]; exact Finset.le_sup (Finset.mem_univ c)

/-! ## The softmax -/

theorem exp_sub_real {s m : EReal} (hs : IsReal s) (hm : IsReal m) : ∃ r : ℝ, 0 < r ∧ Ideal.exp (s - m) = (r : EReal) := by
  obtain ⟨s, rfl⟩ := hs; obtain ⟨m, rfl⟩ := hm
  exact ⟨Real.exp (s - m), Real.exp_pos _, by rw [← EReal.coe_sub, Ideal.exp_coe]⟩

theorem exp_sub_nonneg {s m : EReal} (hs : s ≠ ⊤) (hm : IsReal m) : ∃ r : ℝ, 0 ≤ r ∧ Ideal.exp (s - m) = (r : EReal) := by
  by_cases hb : s = ⊥
  · exact ⟨0, le_rfl, by rw [hb, EReal.bot_sub, Ideal.exp_bot]; rfl⟩
  · obtain ⟨r, hr, h⟩ := exp_sub_real (isReal_iff.2 ⟨hs, hb⟩) hm
    exact ⟨r, hr.le, h⟩

theorem sum_coe {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ATTENTION'S TWO FORMS: the weighted sum of unnormalised exponentials divided once by their total, and the sum
    weighted by the divided exponentials. The context scores `sC` are real, the local scores `sL` real or `⊥` (an
    absent key), the values anything. -/
theorem softmax_forms {ι κ : Type} [Fintype ι] [Fintype κ] [Nonempty κ] (sC vC : κ → EReal) (sL vL : ι → EReal)
    (hC : ∀ c, IsReal (sC c)) (hL : ∀ i, sL i ≠ ⊤) (m : EReal) (hm : IsReal m) :
    Ideal.div ((∑ c, Ideal.exp (sC c - m) * vC c) + ∑ i, Ideal.exp (sL i - m) * vL i)
        ((∑ c, Ideal.exp (sC c - m)) + ∑ i, Ideal.exp (sL i - m))
      = (∑ i, vL i * Ideal.div (Ideal.exp (sL i - m)) ((∑ i, Ideal.exp (sL i - m)) + ∑ c, Ideal.exp (sC c - m)))
        + ∑ c, vC c * Ideal.div (Ideal.exp (sC c - m)) ((∑ i, Ideal.exp (sL i - m)) + ∑ c, Ideal.exp (sC c - m)) := by
  choose pC hpC eC using fun c => exp_sub_real (hC c) hm
  choose pL hpL eL using fun i => exp_sub_nonneg (hL i) hm
  simp only [eC, eL]
  rw [← sum_coe, ← sum_coe, ← EReal.coe_add, ← EReal.coe_add, add_comm (∑ i, pL i)]
  have hD : 0 < (∑ c, pC c) + ∑ i, pL i :=
    add_pos_of_pos_of_nonneg (Finset.sum_pos (fun c _ => hpC c) Finset.univ_nonempty) (Finset.sum_nonneg fun i _ => hpL i)
  generalize (∑ c, pC c) + ∑ i, pL i = D at hD ⊢
  have hD' : 0 ≤ 1 / D := by positivity
  simp only [Ideal.div_coe hD.ne']
  rw [EReal.right_distrib_of_nonneg_of_ne_top (EReal.coe_nonneg.2 hD') (EReal.coe_ne_top _), mul_sum_coe _ _ hD', mul_sum_coe _ _ hD', add_comm]
  refine congrArg₂ (· + ·) (Finset.sum_congr rfl fun i _ => ?_) (Finset.sum_congr rfl fun c _ => ?_)
  · rw [mul_comm (pL i : EReal), mul_assoc]
  · rw [mul_comm (pC c : EReal), mul_assoc]

end Cert.NA

end
-- ==== Proof.Pre.lean ====
/- The precondition, read: the bias and the two gains are real numbers. -/
module

public import proofs.«01_k».proof.Pre_finite_gains
public import proofs.«01_k».proof.Proof.Softmax
public import Idealize.ShloMosaic.Lib.Pointwise
public import Idealize.ShloMosaic.Lib.Affine

@[expose] public section

set_option maxRecDepth 16384

noncomputable section

open Idealize.ShloMosaic Idealize.ShloMosaic.TcCoe

namespace Cert.NA.Pre

open Cert.Pre_finite_gains

theorem facts : Cert.Pre_finite_gains.Facts where
  bcast_S_S12x15x31 := by decide
  reducesTo_S12x15x31_S_d0_1_2 := by decide
  h_S_ := by decide
  bcast_S_S128 := by decide
  reducesTo_S128_S_d0 := by decide

theorem andi_one : ∀ {x y : BitVec 1}, IntOp.andi x y = 1#1 → x = 1#1 ∧ y = 1#1 := by
  intro x y; revert x y; decide

theorem fold_one {ι : Type} (y : ι → BitVec 1) : ∀ (l : List ι) (r : BitVec 1),
    l.foldl (fun r n => IntOp.andi r (y n)) r = 1#1 → r = 1#1 ∧ ∀ n ∈ l, y n = 1#1
  | [], _, h => ⟨h, fun _ hn => nomatch hn⟩
  | a :: l, r, h => by
    obtain ⟨h1, h2⟩ := fold_one y l _ h
    obtain ⟨h3, h4⟩ := andi_one h1
    refine ⟨h3, fun n hn => ?_⟩
    rcases List.mem_cons.mp hn with rfl | hn
    · exact h4
    · exact h2 n hn

/-- A conjunction along axes that is one is of ones. -/
theorem reduce_one {s t u : Shape} {axes : List (Fin s.rank)} (x : s.Idx → BitVec 1) (init : u.Idx → BitVec 1)
    (h : s.ReducesTo axes t) (hu : 0 < u.numel) (i : s.Idx) (e : Host.reduce IntOp.andi x init h hu (h.drop i) = 1#1) : x i = 1#1 := by
  have := (fold_one (fun n => x (s.rowMajor.symm n)) _ _ e).2 (s.rowMajor i)
    (List.mem_filter.mpr ⟨List.mem_finRange _, by simp⟩)
  simpa using this

/-- A value whose absolute value lies below infinity is a real number. -/
theorem real_of_lt (x : EReal) (h : FloatOps.cmpf (F := Ideal) .olt (φ := .f32) (FloatOps.absf (F := Ideal) (φ := .f32) x) (Ideal.ofBits .f32 0x7F800000#32) = 1#1) : IsReal x := by
  have e : Ideal.ofBits .f32 0x7F800000#32 = (⊤ : EReal) := by simp [Ideal.ofBits, Ideal.ieee]
  rw [e] at h
  induction x using EReal.rec with
  | bot => exact absurd h (by simp [FloatOps.cmpf, FloatOps.absf, Ideal.cmp])
  | coe r => exact ⟨r, rfl⟩
  | top => exact absurd h (by simp [FloatOps.cmpf, FloatOps.absf, Ideal.cmp])

theorem real_args [Facts] (x0 : FVec Ideal S4x4096x13824 .f32) (x1 : FVec Ideal S4x256x13824 .f32) (x2 : FVec Ideal S12x15x31 .f32)
    (x3 x4 : FVec Ideal S128 .f32) (h : fn (F := Ideal) x0 x1 x2 x3 x4 = fun _ => 1#1) :
    (∀ i, IsReal (x2 i)) ∧ (∀ k : Fin 128, IsReal (x3 (ix1 k))) ∧ ∀ k : Fin 128, IsReal (x4 (ix1 k)) := by
  have e := congrFun h ix0
  unfold fn at e
  obtain ⟨e', e4⟩ := andi_one e
  obtain ⟨e2, e3⟩ := andi_one e'
  refine ⟨fun i => ?_, fun k => ?_, fun k => ?_⟩
  · have := reduce_one _ _ _ _ i ((congrArg _ (funext fun a => a.elim0)).trans e2)
    exact real_of_lt _ this
  · have := reduce_one _ _ _ _ (ix1 k) ((congrArg _ (funext fun a => a.elim0)).trans e3)
    exact real_of_lt _ this
  · have := reduce_one _ _ _ _ (ix1 k) ((congrArg _ (funext fun a => a.elim0)).trans e4)
    exact real_of_lt _ this

end Cert.NA.Pre
-- ==== Proof.Spec.lean ====
/- Neighbourhood attention on the 64 × 64 grid, spelled out over the extended reals: the normalised queries and keys,
   the window of rows a query attends to, its local and context scores, the weighted values over their total. Both
   programs are read as this function. -/
module

public import proofs.«01_k».proof.Proof.Softmax
public import Idealize.ShloMosaic.Lib.Pointwise

@[expose] public section

noncomputable section

open Idealize.ShloMosaic

namespace Cert.NA

/-- The combined projection of the latent tokens, of the context tokens; the bias table; a gain. -/
abbrev Proj := (⟨3, ![4, 4096, 13824]⟩ : Shape).Idx → EReal
abbrev ProjC := (⟨3, ![4, 256, 13824]⟩ : Shape).Idx → EReal
abbrev Rpb := (⟨3, ![12, 15, 31]⟩ : Shape).Idx → EReal
abbrev Gain := (⟨1, ![128]⟩ : Shape).Idx → EReal

/-- The constants both programs share: the number of lanes, the normalisation's epsilon, the score's scale. -/
def lanes : EReal := Ideal.ofBits .f32 0x43000000#32
def eps : EReal := Ideal.ofBits .f32 0x358637BD#32
def scale : EReal := Ideal.ofBits .f32 0x3DB504F3#32

theorem lanes_eq : lanes = ((128 : ℝ) : EReal) := by
  simp [lanes, Ideal.ofBits, Ideal.ieee, -EReal.coe_mul]; norm_num

theorem eps_pos : ∃ e : ℝ, 0 < e ∧ eps = (e : EReal) := by
  refine ⟨_, ?_, by simp [eps, Ideal.ofBits, Ideal.ieee, -EReal.coe_mul]; rfl⟩
  positivity

theorem scale_real : IsReal scale := by
  refine ⟨_, by simp [scale, Ideal.ofBits, Ideal.ieee, -EReal.coe_mul]; rfl⟩

theorem ofBits_ninf : Ideal.ofBits .f32 0xFF800000#32 = (⊥ : EReal) := by
  simp [Ideal.ofBits, Ideal.ieee]

/-- Lane `d` of head `h` in the group of 1536 columns that starts at column `o`. -/
def lane (o : Nat) (ho : o + 1536 ≤ 13824) (h : Fin 12) (d : Fin 128) : Fin 13824 := ⟨o + (h.val * 128 + d.val), by omega⟩

def qn (A0 : Proj) (A3 : Gain) (b : Fin 4) (n : Fin 4096) (h : Fin 12) (d : Fin 128) : EReal :=
  rms lanes eps (fun k => A0 (ix3 b n (lane 12288 (by decide) h k))) (fun k => A3 (ix1 k)) d
def kn (A0 : Proj) (A4 : Gain) (b : Fin 4) (n : Fin 4096) (h : Fin 12) (d : Fin 128) : EReal :=
  rms lanes eps (fun k => A0 (ix3 b n (lane 3072 (by decide) h k))) (fun k => A4 (ix1 k)) d
def vn (A0 : Proj) (b : Fin 4) (n : Fin 4096) (h : Fin 12) (d : Fin 128) : EReal :=
  A0 (ix3 b n (lane 4608 (by decide) h d))
def kc (A1 : ProjC) (A4 : Gain) (b : Fin 4) (n : Fin 256) (h : Fin 12) (d : Fin 128) : EReal :=
  rms lanes eps (fun k => A1 (ix3 b n (lane 3072 (by decide) h k))) (fun k => A4 (ix1 k)) d
def vc (A1 : ProjC) (b : Fin 4) (n : Fin 256) (h : Fin 12) (d : Fin 128) : EReal :=
  A1 (ix3 b n (lane 4608 (by decide) h d))

theorem rms_isReal (x g : Fin 128 → EReal) (d : Fin 128) (hg : IsReal (g d)) : IsReal (rms lanes eps x g d) := by
  obtain ⟨e, he, h⟩ := eps_pos
  rw [lanes_eq, h]
  exact rms_real (by norm_num) he x g d hg

/-- The first of the eight grid rows a query of row `r` attends to. -/
def start (r : Fin 64) : Nat := min 56 (r.val - 4)

theorem start_le (r : Fin 64) : start r ≤ 56 := by unfold start; omega

/-- The `i`-th of them. -/
def near (r : Fin 64) (i : Fin 8) : Fin 64 := ⟨start r + i.val, by have := start_le r; omega⟩

/-- The token at grid row `r`, column `x`. -/
def tok (r x : Fin 64) : Fin 4096 := ⟨r.val * 64 + x.val, by omega⟩

/-- Whether column `k` lies in the window of sixteen columns of a query at column `x`. -/
abbrev inWin (x k : Fin 64) : Prop := min 48 (x.val - 8) ≤ k.val ∧ k.val < min 48 (x.val - 8) + 16

/-- The bias table's row for the relative row, its column for the relative column. -/
def brow (r : Fin 64) (i : Fin 8) : Fin 15 := ⟨start r + i.val + 7 - r.val, by unfold start; omega⟩
def bcol (x k : Fin 64) : Fin 31 := ⟨min 30 (k.val + 15 - x.val), by omega⟩

/-- The row and column of the `n`-th of the 512 local keys. -/
def irow (n : Fin 512) : Fin 8 := ⟨n.val / 64, by omega⟩
def icol (n : Fin 512) : Fin 64 := ⟨n.val % 64, by omega⟩

section
variable (A0 : Proj) (A1 : ProjC) (A2 : Rpb) (A3 A4 : Gain) (b : Fin 4) (h : Fin 12) (r x : Fin 64)

/-- The local score of the `n`-th key, `⊥` off the window. -/
def sL (n : Fin 512) : EReal :=
  if inWin x (icol n) then
    (∑ d, qn A0 A3 b (tok r x) h d * kn A0 A4 b (tok (near r (irow n)) (icol n)) h d) * scale
      + A2 (ix3 h (brow r (irow n)) (bcol x (icol n)))
  else ⊥

/-- The score of context key `c`. -/
def sC (c : Fin 256) : EReal := (∑ d, qn A0 A3 b (tok r x) h d * kc A1 A4 b c h d) * scale

/-- The largest score. -/
def smax : EReal := max (top (sC A0 A1 A3 A4 b h r x)) (top (sL A0 A2 A3 A4 b h r x))

/-- Attention of the query at `(r, x)`, lane `d`: the exponentials' weighted sum of values over their total. -/
def attn (d : Fin 128) : EReal :=
  Ideal.div
    ((∑ c, Ideal.exp (sC A0 A1 A3 A4 b h r x c - smax A0 A1 A2 A3 A4 b h r x) * vc A1 b c h d)
      + ∑ n, Ideal.exp (sL A0 A2 A3 A4 b h r x n - smax A0 A1 A2 A3 A4 b h r x) * vn A0 b (tok (near r (irow n)) (icol n)) h d)
    ((∑ c, Ideal.exp (sC A0 A1 A3 A4 b h r x c - smax A0 A1 A2 A3 A4 b h r x))
      + ∑ n, Ideal.exp (sL A0 A2 A3 A4 b h r x n - smax A0 A1 A2 A3 A4 b h r x))

theorem sC_real (h3 : ∀ k, IsReal (A3 (ix1 k))) (h4 : ∀ k, IsReal (A4 (ix1 k))) (c : Fin 256) :
    IsReal (sC A0 A1 A3 A4 b h r x c) :=
  (IsReal.sum _ _ fun d => (rms_isReal _ _ d (h3 d)).mul (rms_isReal _ _ d (h4 d))).mul scale_real

theorem sL_ne_top (h2 : ∀ i, IsReal (A2 i)) (h3 : ∀ k, IsReal (A3 (ix1 k))) (h4 : ∀ k, IsReal (A4 (ix1 k))) (n : Fin 512) :
    sL A0 A2 A3 A4 b h r x n ≠ ⊤ := by
  unfold sL
  split
  · exact (((IsReal.sum _ _ fun d => (rms_isReal _ _ d (h3 d)).mul (rms_isReal _ _ d (h4 d))).mul scale_real).add (h2 _)).ne_top
  · exact bot_ne_top

/-- The divided form, which the reference computes. -/
theorem attn_eq (h2 : ∀ i, IsReal (A2 i)) (h3 : ∀ k, IsReal (A3 (ix1 k))) (h4 : ∀ k, IsReal (A4 (ix1 k))) (d : Fin 128) :
    attn A0 A1 A2 A3 A4 b h r x d
      = (∑ n, vn A0 b (tok (near r (irow n)) (icol n)) h d
            * Ideal.div (Ideal.exp (sL A0 A2 A3 A4 b h r x n - smax A0 A1 A2 A3 A4 b h r x))
                ((∑ n, Ideal.exp (sL A0 A2 A3 A4 b h r x n - smax A0 A1 A2 A3 A4 b h r x))
                  + ∑ c, Ideal.exp (sC A0 A1 A3 A4 b h r x c - smax A0 A1 A2 A3 A4 b h r x)))
        + ∑ c, vc A1 b c h d
            * Ideal.div (Ideal.exp (sC A0 A1 A3 A4 b h r x c - smax A0 A1 A2 A3 A4 b h r x))
                ((∑ n, Ideal.exp (sL A0 A2 A3 A4 b h r x n - smax A0 A1 A2 A3 A4 b h r x))
                  + ∑ c, Ideal.exp (sC A0 A1 A3 A4 b h r x c - smax A0 A1 A2 A3 A4 b h r x)) :=
  softmax_forms _ _ _ _ (sC_real A0 A1 A3 A4 b h r x h3 h4) (sL_ne_top A0 A2 A3 A4 b h r x h2 h3 h4) _
    (max_top_real _ _ (sC_real A0 A1 A3 A4 b h r x h3 h4) (sL_ne_top A0 A2 A3 A4 b h r x h2 h3 h4))
end

/-- A maximum over 768 scores, 512 local and then 256 context ones. -/
theorem top_768 (f : Fin 768 → EReal) (sl : Fin 512 → EReal) (sc : Fin 256 → EReal)
    (hf : ∀ n : Fin 768, f n = if h : n.val < 512 then sl ⟨n.val, h⟩ else sc ⟨n.val - 512, by omega⟩) :
    top f = max (top sc) (top sl) := by
  rw [top_eq_sup, top_eq_sup, top_eq_sup]
  refine le_antisymm (Finset.sup_le fun n _ => ?_) (max_le (Finset.sup_le fun c _ => ?_) (Finset.sup_le fun n _ => ?_))
  · rw [hf]; split
    · exact le_max_of_le_right (Finset.le_sup (f := sl) (Finset.mem_univ _))
    · exact le_max_of_le_left (Finset.le_sup (f := sc) (Finset.mem_univ _))
  · have := hf ⟨512 + c.val, by omega⟩
    rw [dif_neg (by simp)] at this
    have e : sc c = f ⟨512 + c.val, by omega⟩ := by rw [this]; congr 1; ext; simp
    rw [e]; exact Finset.le_sup (f := f) (Finset.mem_univ _)
  · have := hf ⟨n.val, by omega⟩
    rw [dif_pos n.isLt] at this
    have e : sl n = f ⟨n.val, by omega⟩ := by rw [this]
    rw [e]; exact Finset.le_sup (f := f) (Finset.mem_univ _)

/-- A sum over 768 terms, likewise. -/
theorem sum_768 (f : Fin 768 → EReal) :
    ∑ n, f n = (∑ n : Fin 512, f ⟨n.val, by omega⟩) + ∑ c : Fin 256, f ⟨512 + c.val, by omega⟩ :=
  Fin.sum_univ_add (a := 512) (b := 256) f

/-- A sum over eight rows of 64 columns, as one over 512 keys. -/
theorem sum_512 (f : Fin 8 → Fin 64 → EReal) : ∑ i, ∑ k, f i k = ∑ n : Fin 512, f (irow n) (icol n) := by
  rw [Fin.sum_univ_tiles 8 64 rfl (fun n : Fin 512 => f (irow n) (icol n))]
  refine Finset.sum_congr rfl fun i _ => Finset.sum_congr rfl fun k _ => ?_
  congr 1
  · ext; show i.val = (i.val * 64 + k.val) / 64; omega
  · ext; show k.val = (i.val * 64 + k.val) % 64; omega

end Cert.NA

end
-- ==== Proof.Gathers.lean ====
/- The reference's three gathers and its maximum along the last axis, each read at one index. -/
module

public import proofs.«01_k».proof.Proof.Gen.ReferenceIdeal
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen

namespace Cert.NA.Ref

variable {α : Type}

/-- The gather of whole grid rows: result row `(r, i)` is the operand's row `n`, when the index there is `n`. -/
theorem gather_rows (x : S4x64x64x12x128.Idx → α) (idx : IVec S64x8x1 32) (b : Fin 4) (r : Fin 64) (i : Fin 8) (k : Fin 64)
    (h : Fin 12) (d : Fin 128) (n : Fin 64) (hn : (idx (ix3 r i 0)).toInt.toNat = n.val) :
    Host.gather gather_S4x64x64x12x128_S64x8x1_S4x64x8x64x12x128_0345_1_n_n_1_2_416412128 x idx (ix6 b r i k h d)
      = x (ix5 b n k h d) := by
  unfold Host.gather
  congr 1
  funext a
  refine Fin.ext ?_
  set G := gather_S4x64x64x12x128_S64x8x1_S4x64x8x64x12x128_0345_1_n_n_1_2_416412128 with hG
  show G.start (ix6 b r i k h d) idx a + G.batchCoord (ix6 b r i k h d) a + G.offCoord (ix6 b r i k h d) a = _
  rw [GatherDims.batchCoord_eq_zero _ _ _ List.not_mem_nil]
  match a with
  | ⟨0, _⟩ => exact (Nat.zero_add _).trans rfl
  | ⟨1, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : G.siIdx (ix6 b r i k h d) ⟨List.idxOf (1 : Fin 5) G.startIndexMap,
        List.idxOf_lt_length_iff.2 (List.mem_singleton.mpr rfl)⟩ = ix3 r i 0 := by
      funext b; refine Fin.ext ?_
      match b with
      | ⟨0, _⟩ => rfl
      | ⟨1, _⟩ => rfl
      | ⟨2, _⟩ => rfl
    refine (congrArg (fun j => min (idx j).toInt.toNat 63) hsi).trans ?_
    show min (idx (ix3 r i 0)).toInt.toNat 63 = n.val
    omega
  | ⟨2, _⟩ => exact (Nat.zero_add _).trans rfl
  | ⟨3, _⟩ => exact (Nat.zero_add _).trans rfl
  | ⟨4, _⟩ => exact (Nat.zero_add _).trans rfl

/-- The gather of the bias table's columns. -/
theorem gather_cols (x : S12x15x31.Idx → α) (idx : IVec S64x64x1 32) (h : Fin 12) (w : Fin 15) (q k : Fin 64)
    (n : Fin 31) (hn : (idx (ix3 q k 0)).toInt.toNat = n.val) :
    Host.gather gather_S12x15x31_S64x64x1_S12x15x64x64_01_2_n_n_2_2_12151 x idx (ix4 h w q k) = x (ix3 h w n) := by
  unfold Host.gather
  congr 1
  funext a
  refine Fin.ext ?_
  set G := gather_S12x15x31_S64x64x1_S12x15x64x64_01_2_n_n_2_2_12151 with hG
  show G.start (ix4 h w q k) idx a + G.batchCoord (ix4 h w q k) a + G.offCoord (ix4 h w q k) a = _
  rw [GatherDims.batchCoord_eq_zero _ _ _ List.not_mem_nil]
  match a with
  | ⟨0, _⟩ => exact (Nat.zero_add _).trans rfl
  | ⟨1, _⟩ => exact (Nat.zero_add _).trans rfl
  | ⟨2, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : G.siIdx (ix4 h w q k) ⟨List.idxOf (2 : Fin 3) G.startIndexMap,
        List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    refine (congrArg (fun j => min (idx j).toInt.toNat 30) hsi).trans ?_
    show min (idx (ix3 q k 0)).toInt.toNat 30 = n.val
    omega

/-- The gather of the bias table's rows. -/
theorem gather_bias (x : S12x15x64x64.Idx → α) (idx : IVec S64x8x1 32) (h : Fin 12) (r : Fin 64) (i : Fin 8) (q k : Fin 64)
    (n : Fin 15) (hn : (idx (ix3 r i 0)).toInt.toNat = n.val) :
    Host.gather gather_S12x15x64x64_S64x8x1_S12x64x8x64x64_034_1_n_n_1_2_1216464 x idx (ix5 h r i q k) = x (ix4 h n q k) := by
  unfold Host.gather
  congr 1
  funext a
  refine Fin.ext ?_
  set G := gather_S12x15x64x64_S64x8x1_S12x64x8x64x64_034_1_n_n_1_2_1216464 with hG
  show G.start (ix5 h r i q k) idx a + G.batchCoord (ix5 h r i q k) a + G.offCoord (ix5 h r i q k) a = _
  rw [GatherDims.batchCoord_eq_zero _ _ _ List.not_mem_nil]
  match a with
  | ⟨0, _⟩ => exact (Nat.zero_add _).trans rfl
  | ⟨1, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : G.siIdx (ix5 h r i q k) ⟨List.idxOf (1 : Fin 4) G.startIndexMap,
        List.idxOf_lt_length_iff.2 (List.mem_singleton.mpr rfl)⟩ = ix3 r i 0 := by
      funext b; refine Fin.ext ?_
      match b with
      | ⟨0, _⟩ => rfl
      | ⟨1, _⟩ => rfl
      | ⟨2, _⟩ => rfl
    refine (congrArg (fun j => min (idx j).toInt.toNat 14) hsi).trans ?_
    show min (idx (ix3 r i 0)).toInt.toNat 14 = n.val
    omega
  | ⟨2, _⟩ => exact (Nat.zero_add _).trans rfl
  | ⟨3, _⟩ => exact (Nat.zero_add _).trans rfl

/-- A maximum along the last of five axes, whatever the axes' sizes. -/
theorem max_last {n0 n1 n2 n3 n4 : Nat} {u : Shape} (h : (⟨5, ![n0, n1, n2, n3, n4]⟩ : Shape).ReducesTo [4] ⟨4, ![n0, n1, n2, n3]⟩)
    (hu : 0 < u.numel) (v : (⟨5, ![n0, n1, n2, n3, n4]⟩ : Shape).Idx → EReal) (c : u.Idx → EReal) (a : Fin n0) (b : Fin n1) (d : Fin n2) (e : Fin n3) :
    Host.reduce (max : EReal → EReal → EReal) v c h hu (ix4 a b d e)
      = Finset.univ.fold max (c (Shape.Idx.first hu)) fun k : Fin n4 => v (ix5 a b d e k) := by
  rw [Host.reduce_eq_fold]
  exact h.fold_fiber_r5_a4 (ix4 a b d e) max _ v

end Cert.NA.Ref
-- ==== Proof.RefScores.lean ====
/- The reference's heads, masks and scores, each read at one index. -/
module

public import proofs.«01_k».proof.Proof.Spec
public import proofs.«01_k».proof.Proof.Gathers
public import proofs.«01_k».proof.Proof.Gen.ReferenceIdeal.Run

@[expose] public section

set_option maxRecDepth 16384

noncomputable section

open Idealize.ShloMosaic Idealize.ShloMosaic.TcCoe Idealize.SL.Sem
open Cert.ReferenceIdeal Cert.ReferenceIdeal.Gen Cert.ReferenceIdeal.Value Idealize.ShloMosaic.StableHlo

namespace Cert.NA.Ref

variable (V0 : Valuation τ sig (Elt Ideal))

/-- The arguments. -/
abbrev a0 : Proj := V0 (Proc.devRef .tc main_arg0)
abbrev a1 : ProjC := V0 (Proc.devRef .tc main_arg1)
abbrev a2 : Rpb := V0 (Proc.devRef .tc main_arg2)
abbrev a3 : Gain := V0 (Proc.devRef .tc main_arg3)
abbrev a4 : Gain := V0 (Proc.devRef .tc main_arg4)

/-! ## The heads -/

theorem v21_at (b : Fin 4) (n : Fin 4096) (h : Fin 12) (d : Fin 128) :
    res_main_v21 V0 (ix4 b n h d) = a0 V0 (ix3 b n (lane 12288 (by decide) h d)) := by
  pointwise [res_main_v21]
  refine congrArg (a0 V0) ((ix3_inj ..).2 ⟨rfl, rfl, Fin.ext ?_⟩)
  simp only [lane]; omega

theorem v36_at (b : Fin 4) (n : Fin 4096) (h : Fin 12) (d : Fin 128) :
    res_main_v36 V0 (ix4 b n h d) = a0 V0 (ix3 b n (lane 3072 (by decide) h d)) := by
  pointwise [res_main_v36, res_main_v0]
  rfl

theorem v4_at (b : Fin 4) (n : Fin 256) (h : Fin 12) (d : Fin 128) :
    res_main_v4 V0 (ix4 b n h d) = a1 V0 (ix3 b n (lane 3072 (by decide) h d)) := by
  pointwise [res_main_v4, res_main_v2]
  rfl

theorem q_at (b : Fin 4) (r x : Fin 64) (h : Fin 12) (d : Fin 128) :
    res_main_v88 V0 (ix5 b r x h d) = qn (a0 V0) (a3 V0) b (tok r x) h d := by
  pointwise [res_main_v88]
  simp only [v21_at]
  rfl

/-! ## The index words -/

theorem v98_at (r : Fin 64) (i : Fin 8) : @Eq (BitVec 32) (res_main_v98 V0 (ix2 r i)) (BitVec.ofNat 32 (near r i).val) := by
  pointwise [res_main_v98, res_main_v89]
  revert r i
  decide +kernel

theorem v119_at (r : Fin 64) (i : Fin 8) : @Eq (BitVec 32) (res_main_v119 V0 (ix2 r i)) (BitVec.ofNat 32 (brow r i).val) := by
  pointwise [res_main_v119, res_main_v89]
  rw [v98_at]
  revert r i
  decide +kernel

theorem v78_at (x k : Fin 64) : @Eq (BitVec 32) (res_main_v78 V0 (ix2 x k)) (BitVec.ofNat 32 (bcol x k).val) := by
  pointwise [res_main_v78, res_main_v52]
  revert x k
  decide +kernel

theorem near_word (r : Fin 64) (i : Fin 8) :
    ((broadcastInDim S64x8x1 ![0, 1] bcast_S64x8_S64x8x1_0_1 (select (cmpi .slt (res_main_v98 V0) (broadcastInDim S64x8 ![] bcast_S_S64x8 (constantI S_ 32 0#32))) (addi (res_main_v98 V0) (broadcastInDim S64x8 ![] bcast_S_S64x8 (constantI S_ 32 64#32))) (res_main_v98 V0))) (ix3 r i 0)).toInt.toNat = (near r i).val := by
  pointwise
  rw [v98_at]
  revert r i
  decide +kernel

theorem brow_word (r : Fin 64) (i : Fin 8) :
    ((broadcastInDim S64x8x1 ![0, 1] bcast_S64x8_S64x8x1_0_1 (select (cmpi .slt (res_main_v119 V0) (broadcastInDim S64x8 ![] bcast_S_S64x8 (constantI S_ 32 0#32))) (addi (res_main_v119 V0) (broadcastInDim S64x8 ![] bcast_S_S64x8 (constantI S_ 32 15#32))) (res_main_v119 V0))) (ix3 r i 0)).toInt.toNat = (brow r i).val := by
  pointwise
  rw [v119_at]
  revert r i
  decide +kernel

theorem bcol_word (x k : Fin 64) :
    ((broadcastInDim S64x64x1 ![0, 1] bcast_S64x64_S64x64x1_0_1 (select (cmpi .slt (res_main_v78 V0) (broadcastInDim S64x64 ![] bcast_S_S64x64 (constantI S_ 32 0#32))) (addi (res_main_v78 V0) (broadcastInDim S64x64 ![] bcast_S_S64x64 (constantI S_ 32 31#32))) (res_main_v78 V0))) (ix3 x k 0)).toInt.toNat = (bcol x k).val := by
  pointwise
  rw [v78_at]
  revert x k
  decide +kernel

theorem mask_word (x k : Fin 64) :
    IntOp.andi (IntOp.cmpi CmpIPredicate.sge (BitVec.ofNat 32 k.val) (IntOp.minsi 48#32 (IntOp.maxsi 0#32 (IntOp.subi (BitVec.ofNat 32 x.val) 8#32))))
        (IntOp.cmpi CmpIPredicate.slt (BitVec.ofNat 32 k.val)
          (IntOp.addi (IntOp.minsi 48#32 (IntOp.maxsi 0#32 (IntOp.subi (BitVec.ofNat 32 x.val) 8#32))) 16#32))
      = if inWin x k then 1#1 else 0#1 := by
  revert x k
  decide +kernel

/-! ## The scores -/

/-- The normalised keys, on the grid. -/
def keys : FVec Ideal S4x64x64x12x128 .f32 :=
  shapeCast _ (mulf (mulf (res_main_v36 V0 : FVec Ideal S4x4096x12x128 .f32) (broadcastInDim S4x4096x12x128 ![0, 1, 2, 3] bcast_S4x4096x12x1_S4x4096x12x128_0_1_2_3 (Host.rsqrt (addf (Host.divf (broadcastInDim S4x4096x12x1 ![0, 1, 2] bcast_S4x4096x12_S4x4096x12x1_0_1_2 (Host.reduceAdd (mulf (res_main_v36 V0) (res_main_v36 V0)) (constant S_ .f32 0x00000000#32) reducesTo_S4x4096x12x128_S4x4096x12_d3 h_S_)) (broadcastInDim S4x4096x12x1 ![] bcast_S_S4x4096x12x1 (constant S_ .f32 0x43000000#32))) (broadcastInDim S4x4096x12x1 ![] bcast_S_S4x4096x12x1 (constant S_ .f32 0x358637BD#32)))))) (broadcastInDim S4x4096x12x128 ![0, 1, 2, 3] bcast_S1x1x1x128_S4x4096x12x128_0_1_2_3 (broadcastInDim S1x1x1x128 ![3] bcast_S128_S1x1x1x128_3 (V0 (Proc.devRef .tc main_arg4))))) shapeCasts_S4x4096x12x128_S4x64x64x12x128

theorem keys_at (b : Fin 4) (r x : Fin 64) (h : Fin 12) (d : Fin 128) :
    keys V0 (ix5 b r x h d) = kn (a0 V0) (a4 V0) b (tok r x) h d := by
  pointwise [keys]
  simp only [v36_at]
  rfl

/-- The rows near each row. -/
def rowIdx : IVec S64x8x1 32 :=
  broadcastInDim S64x8x1 ![0, 1] bcast_S64x8_S64x8x1_0_1 (select (cmpi .slt (res_main_v98 V0) (broadcastInDim S64x8 ![] bcast_S_S64x8 (constantI S_ 32 0#32))) (addi (res_main_v98 V0) (broadcastInDim S64x8 ![] bcast_S_S64x8 (constantI S_ 32 64#32))) (res_main_v98 V0))

theorem keysNear_at (b : Fin 4) (r : Fin 64) (i : Fin 8) (k : Fin 64) (h : Fin 12) (d : Fin 128) :
    Host.gather gather_S4x64x64x12x128_S64x8x1_S4x64x8x64x12x128_0345_1_n_n_1_2_416412128 (keys V0) (rowIdx V0) (ix6 b r i k h d)
      = kn (a0 V0) (a4 V0) b (tok (near r i) k) h d :=
  (gather_rows (keys V0) (rowIdx V0) b r i k h d (near r i) (near_word V0 r i)).trans (keys_at V0 b (near r i) k h d)

/-- The bias of each query column and key column, and of each relative row. -/
def biasCols : FVec Ideal S12x15x64x64 .f32 :=
  Host.gather gather_S12x15x31_S64x64x1_S12x15x64x64_01_2_n_n_2_2_12151 (V0 (Proc.devRef .tc main_arg2)) (broadcastInDim S64x64x1 ![0, 1] bcast_S64x64_S64x64x1_0_1 (select (cmpi .slt (res_main_v78 V0) (broadcastInDim S64x64 ![] bcast_S_S64x64 (constantI S_ 32 0#32))) (addi (res_main_v78 V0) (broadcastInDim S64x64 ![] bcast_S_S64x64 (constantI S_ 32 31#32))) (res_main_v78 V0)))
def biasIdx : IVec S64x8x1 32 :=
  broadcastInDim S64x8x1 ![0, 1] bcast_S64x8_S64x8x1_0_1 (select (cmpi .slt (res_main_v119 V0) (broadcastInDim S64x8 ![] bcast_S_S64x8 (constantI S_ 32 0#32))) (addi (res_main_v119 V0) (broadcastInDim S64x8 ![] bcast_S_S64x8 (constantI S_ 32 15#32))) (res_main_v119 V0))

theorem bias_at (h : Fin 12) (r : Fin 64) (i : Fin 8) (x k : Fin 64) :
    Host.gather gather_S12x15x64x64_S64x8x1_S12x64x8x64x64_034_1_n_n_1_2_1216464 (biasCols V0) (biasIdx V0) (ix5 h r i x k)
      = a2 V0 (ix3 h (brow r i) (bcol x k)) :=
  (gather_bias (biasCols V0) (biasIdx V0) h r i x k (brow r i) (brow_word V0 r i)).trans
    (gather_cols (a2 V0) _ h (brow r i) x k (bcol x k) (bcol_word V0 x k))

/-- The local scores and the context scores. -/
def locScores : FVec Ideal S4x12x64x64x8x64 .f32 :=
  addf (mulf (Host.dotGeneral (φ₁ := .f32) (φ₂ := .f32) dot_S4x64x64x12x128_S4x64x8x64x12x128_S4x12x64x64x8x64_4_5_2_23_031_041 none (res_main_v88 V0) (Host.gather gather_S4x64x64x12x128_S64x8x1_S4x64x8x64x12x128_0345_1_n_n_1_2_416412128 (keys V0) (rowIdx V0))) (broadcastInDim S4x12x64x64x8x64 ![] bcast_S_S4x12x64x64x8x64 (constant S_ .f32 0x3DB504F3#32))) (broadcastInDim S4x12x64x64x8x64 ![0, 1, 2, 3, 4, 5] bcast_S1x12x64x64x8x64_S4x12x64x64x8x64_0_1_2_3_4_5 (broadcastInDim S1x12x64x64x8x64 ![1, 2, 3, 4, 5] bcast_S12x64x64x8x64_S1x12x64x64x8x64_1_2_3_4_5 (transpose S12x64x64x8x64 [0, 1, 3, 2, 4] (Host.gather gather_S12x15x64x64_S64x8x1_S12x64x8x64x64_034_1_n_n_1_2_1216464 (biasCols V0) (biasIdx V0)) transposes_S12x64x8x64x64_S12x64x64x8x64_0_1_3_2_4)))
def ctxScores : FVec Ideal S4x12x64x64x256 .f32 :=
  mulf (Host.dotGeneral (φ₁ := .f32) (φ₂ := .f32) dot_S4x64x64x12x128_S4x256x12x128_S4x12x64x64x256_4_3_12_1_03_02 none (res_main_v88 V0) (mulf (mulf (res_main_v4 V0) (broadcastInDim S4x256x12x128 ![0, 1, 2, 3] bcast_S4x256x12x1_S4x256x12x128_0_1_2_3 (Host.rsqrt (addf (Host.divf (broadcastInDim S4x256x12x1 ![0, 1, 2] bcast_S4x256x12_S4x256x12x1_0_1_2 (Host.reduceAdd (mulf (res_main_v4 V0) (res_main_v4 V0)) (constant S_ .f32 0x00000000#32) reducesTo_S4x256x12x128_S4x256x12_d3 h_S_)) (broadcastInDim S4x256x12x1 ![] bcast_S_S4x256x12x1 (constant S_ .f32 0x43000000#32))) (broadcastInDim S4x256x12x1 ![] bcast_S_S4x256x12x1 (constant S_ .f32 0x358637BD#32)))))) (broadcastInDim S4x256x12x128 ![0, 1, 2, 3] bcast_S1x1x1x128_S4x256x12x128_0_1_2_3 (broadcastInDim S1x1x1x128 ![3] bcast_S128_S1x1x1x128_3 (V0 (Proc.devRef .tc main_arg4)))))) (broadcastInDim S4x12x64x64x256 ![] bcast_S_S4x12x64x64x256 (constant S_ .f32 0x3DB504F3#32))

theorem locScores_at (b : Fin 4) (h : Fin 12) (r x : Fin 64) (i : Fin 8) (k : Fin 64) :
    locScores V0 (ix6 b h r x i k)
      = (∑ d, qn (a0 V0) (a3 V0) b (tok r x) h d * kn (a0 V0) (a4 V0) b (tok (near r i) k) h d) * scale
        + a2 V0 (ix3 h (brow r i) (bcol x k)) := by
  pointwise [locScores]
  simp only [q_at, keysNear_at, bias_at]
  rfl

theorem ctxScores_at (b : Fin 4) (h : Fin 12) (r x : Fin 64) (c : Fin 256) :
    ctxScores V0 (ix5 b h r x c) = sC (a0 V0) (a1 V0) (a3 V0) (a4 V0) b h r x c := by
  pointwise [ctxScores]
  simp only [q_at, v4_at]
  rfl

/-- The mask of the window of columns. -/
def colMask : IVec S64x64 1 :=
  andi (cmpi .sge (broadcastInDim S64x64 ![0, 1] bcast_S1x64_S64x64_0_1 (broadcastInDim S1x64 ![1] bcast_S64_S1x64_1 (res_main_v52 V0))) (broadcastInDim S64x64 ![0, 1] bcast_S64x1_S64x64_0_1 (broadcastInDim S64x1 ![0] bcast_S64_S64x1_0 (res_main_v55 V0)))) (cmpi .slt (broadcastInDim S64x64 ![0, 1] bcast_S1x64_S64x64_0_1 (broadcastInDim S1x64 ![1] bcast_S64_S1x64_1 (res_main_v52 V0))) (broadcastInDim S64x64 ![0, 1] bcast_S64x1_S64x64_0_1 (addi (broadcastInDim S64x1 ![0] bcast_S64_S64x1_0 (res_main_v55 V0)) (broadcastInDim S64x1 ![] bcast_S_S64x1 (constantI S_ 32 16#32)))))

theorem colMask_at (x k : Fin 64) : colMask V0 (ix2 x k) = if inWin x k then 1#1 else 0#1 := by
  pointwise [colMask, res_main_v52, res_main_v55]
  exact mask_word x k

/-- All the scores: the local ones off the window at `⊥`, then the context ones. -/
def scores : FVec Ideal S4x12x64x64x768 .f32 :=
  concatenate S4x12x64x64x768 4 [⟨S4x12x64x64x512, (shapeCast _ (select (broadcastInDim S4x12x64x64x8x64 ![0, 1, 2, 3, 4, 5] bcast_S1x1x1x64x1x64_S4x12x64x64x8x64_0_1_2_3_4_5 (broadcastInDim S1x1x1x64x1x64 ![3, 5] bcast_S64x64_S1x1x1x64x1x64_3_5 (colMask V0))) (locScores V0) (broadcastInDim S4x12x64x64x8x64 ![] bcast_S_S4x12x64x64x8x64 (id (constant (F := Ideal) S_ .f32 0xFF800000#32)))) shapeCasts_S4x12x64x64x8x64_S4x12x64x64x512)⟩, ⟨S4x12x64x64x256, ctxScores V0⟩] concatenates_S4x12x64x64x512_S4x12x64x64x256_S4x12x64x64x768_d4

theorem v140_eq : res_main_v140 V0 = scores V0 := rfl

theorem scores_at (b : Fin 4) (h : Fin 12) (r x : Fin 64) (n : Fin 768) :
    scores V0 (ix5 b h r x n)
      = if hn : n.val < 512 then sL (a0 V0) (a2 V0) (a3 V0) (a4 V0) b h r x ⟨n.val, hn⟩
        else sC (a0 V0) (a1 V0) (a3 V0) (a4 V0) b h r x ⟨n.val - 512, by omega⟩ := by
  pointwise [scores]
  by_cases hn : n.val < 512
  · rw [dif_pos hn, dif_pos hn, locScores_at]
    refine (congrArg (fun w => Scalar.select w _ _) (colMask_at V0 x (icol ⟨n.val, hn⟩))).trans ?_
    unfold sL
    by_cases hw : inWin x (icol ⟨n.val, hn⟩)
    · rw [if_pos hw, if_pos hw]
      rfl
    · rw [if_neg hw, if_neg hw]
      exact ofBits_ninf
  · rw [dif_neg hn, dif_neg hn]
    exact ctxScores_at V0 b h r x _

end Cert.NA.Ref
-- ==== Proof.Ref.lean ====
/- The reference's result, read at one index, is `attn`. -/
module

public import proofs.«01_k».proof.Proof.RefScores

@[expose] public section

set_option maxRecDepth 16384

noncomputable section

open Idealize.ShloMosaic Idealize.ShloMosaic.TcCoe Idealize.SL.Sem
open Cert.ReferenceIdeal Cert.ReferenceIdeal.Gen Cert.ReferenceIdeal.Value Idealize.ShloMosaic.StableHlo

namespace Cert.NA.Ref

variable (V0 : Valuation τ sig (Elt Ideal))

/-- The score of the `n`-th of the 768 keys. -/
def score (b : Fin 4) (h : Fin 12) (r x : Fin 64) (n : Fin 768) : EReal :=
  if hn : n.val < 512 then sL (a0 V0) (a2 V0) (a3 V0) (a4 V0) b h r x ⟨n.val, hn⟩
  else sC (a0 V0) (a1 V0) (a3 V0) (a4 V0) b h r x ⟨n.val - 512, by omega⟩

/-- The largest score of each query. -/
def rowMax : FVec Ideal S4x12x64x64 .f32 :=
  Host.reduce (FloatOps.maximumf (F := Ideal) (φ := .f32)) (scores V0) (constant (F := Ideal) S_ .f32 0xFF800000#32) reducesTo_S4x12x64x64x768_S4x12x64x64_d4 h_S_

theorem rowMax_at (b : Fin 4) (h : Fin 12) (r x : Fin 64) :
    rowMax V0 (ix4 b h r x) = smax (a0 V0) (a1 V0) (a2 V0) (a3 V0) (a4 V0) b h r x := by
  have e := max_last reducesTo_S4x12x64x64x768_S4x12x64x64_d4 h_S_ (scores V0) (constant (F := Ideal) S_ .f32 0xFF800000#32) b h r x
  refine Eq.trans e ?_
  refine (congrArg (fun z => Finset.univ.fold max z _) ofBits_ninf).trans ?_
  exact top_768 _ _ _ fun k => scores_at V0 b h r x k

def bottoms : FVec Ideal S4x12x64x64 .f32 :=
  broadcastInDim S4x12x64x64 ![] bcast_S_S4x12x64x64 (constant S_ .f32 0xFF800000#32)

def largest : FVec Ideal S4x12x64x64 .f32 := maximumf bottoms (rowMax V0)

theorem max_at (u v : FVec Ideal S4x12x64x64 .f32) (i : S4x12x64x64.Idx) : maximumf u v i = max (u i) (v i) := rfl

theorem largest_at (b : Fin 4) (h : Fin 12) (r x : Fin 64) :
    largest V0 (ix4 b h r x) = smax (a0 V0) (a1 V0) (a2 V0) (a3 V0) (a4 V0) b h r x := by
  have e : bottoms (ix4 b h r x) = (⊥ : EReal) := ofBits_ninf
  unfold largest
  rw [max_at, e, rowMax_at]
  exact max_eq_right bot_le

/-- The exponentials. -/
def exps : FVec Ideal S4x12x64x64x768 .f32 :=
  Host.exp (subf (scores V0) (broadcastInDim S4x12x64x64x768 ![0, 1, 2, 3, 4] bcast_S4x12x64x64x1_S4x12x64x64x768_0_1_2_3_4 (broadcastInDim S4x12x64x64x1 ![0, 1, 2, 3] bcast_S4x12x64x64_S4x12x64x64x1_0_1_2_3 (largest V0))))

theorem v147_eq : res_main_v147 V0 = exps V0 := rfl

theorem exps_at (b : Fin 4) (h : Fin 12) (r x : Fin 64) (n : Fin 768) :
    exps V0 (ix5 b h r x n)
      = Ideal.exp (score V0 b h r x n - smax (a0 V0) (a1 V0) (a2 V0) (a3 V0) (a4 V0) b h r x) := by
  pointwise [exps]
  rw [scores_at, largest_at]
  rfl

/-- The weights. -/
def weight (b : Fin 4) (h : Fin 12) (r x : Fin 64) (n : Fin 768) : EReal :=
  Ideal.div (Ideal.exp (score V0 b h r x n - smax (a0 V0) (a1 V0) (a2 V0) (a3 V0) (a4 V0) b h r x))
    (∑ k, Ideal.exp (score V0 b h r x k - smax (a0 V0) (a1 V0) (a2 V0) (a3 V0) (a4 V0) b h r x))

def weights : FVec Ideal S4x12x64x64x768 .f32 := res_main_v151 V0

theorem weights_at (b : Fin 4) (h : Fin 12) (r x : Fin 64) (n : Fin 768) :
    weights V0 (ix5 b h r x n)
      = weight V0 b h r x n := by
  pointwise [weights, res_main_v151]
  rw [v147_eq]
  simp only [exps_at]
  rfl

/-- The values, on the grid. -/
def vals : FVec Ideal S4x64x64x12x128 .f32 :=
  shapeCast _ (shapeCast _ (extractStridedSlice S4x4096x1536 ![0, 0, 4608] (res_main_v0 V0) slices_S4x4096x6144_S4x4096x1536_0_0_4608) shapeCasts_S4x4096x1536_S4x4096x12x128) shapeCasts_S4x4096x12x128_S4x64x64x12x128

theorem vals_at (b : Fin 4) (r x : Fin 64) (h : Fin 12) (d : Fin 128) :
    vals V0 (ix5 b r x h d) = vn (a0 V0) b (tok r x) h d := by
  pointwise [vals, res_main_v0]
  rfl

/-- The reference's result. -/
def out : FVec Ideal S4x4096x1536 .bf16 :=
  truncf (φ := .f32) .bf16 (shapeCast _ (shapeCast _ (addf (transpose S4x64x64x12x128 [0, 1, 4, 2, 3] (Host.dotGeneral (φ₁ := .f32) (φ₂ := .f32) dot_S4x64x8x64x12x128_S4x12x64x64x8x64_S4x64x12x128x64_23_45_5_3_014_021 none (Host.gather gather_S4x64x64x12x128_S64x8x1_S4x64x8x64x12x128_0345_1_n_n_1_2_416412128 (vals V0) (rowIdx V0)) (shapeCast _ (extractStridedSlice S4x12x64x64x512 ![0, 0, 0, 0, 0] (weights V0) slices_S4x12x64x64x768_S4x12x64x64x512_0_0_0_0_0) shapeCasts_S4x12x64x64x512_S4x12x64x64x8x64)) transposes_S4x64x12x128x64_S4x64x64x12x128_0_1_4_2_3) (transpose S4x64x64x12x128 [0, 3, 4, 1, 2] (Host.dotGeneral (φ₁ := .f32) (φ₂ := .f32) dot_S4x256x12x128_S4x12x64x64x256_S4x12x128x64x64_1_4_3_23_02_01 none (shapeCast _ (extractStridedSlice S4x256x1536 ![0, 0, 4608] (res_main_v2 V0) slices_S4x256x6144_S4x256x1536_0_0_4608) shapeCasts_S4x256x1536_S4x256x12x128) (extractStridedSlice S4x12x64x64x256 ![0, 0, 0, 0, 512] (weights V0) slices_S4x12x64x64x768_S4x12x64x64x256_0_0_0_0_512)) transposes_S4x12x128x64x64_S4x64x64x12x128_0_3_4_1_2)) shapeCasts_S4x64x64x12x128_S4x4096x12x128) shapeCasts_S4x4096x12x128_S4x4096x1536) bitsLt_bf16_f32

theorem valsNear_at (b : Fin 4) (r : Fin 64) (i : Fin 8) (k : Fin 64) (h : Fin 12) (d : Fin 128) :
    Host.gather gather_S4x64x64x12x128_S64x8x1_S4x64x8x64x12x128_0345_1_n_n_1_2_416412128 (vals V0) (rowIdx V0) (ix6 b r i k h d)
      = vn (a0 V0) b (tok (near r i) k) h d :=
  (gather_rows (vals V0) (rowIdx V0) b r i k h d (near r i) (near_word V0 r i)).trans (vals_at V0 b (near r i) k h d)

theorem out_at (h2 : ∀ i, IsReal (a2 V0 i)) (h3 : ∀ k, IsReal (a3 V0 (ix1 k))) (h4 : ∀ k, IsReal (a4 V0 (ix1 k)))
    (b : Fin 4) (n : Fin 4096) (e : Fin 1536) :
    out V0 (ix3 b n e)
      = attn (a0 V0) (a1 V0) (a2 V0) (a3 V0) (a4 V0) b ⟨e.val / 128, by omega⟩ ⟨n.val / 64, by omega⟩ ⟨n.val % 64, by omega⟩
          ⟨e.val % 128, by omega⟩ := by
  generalize hh : (⟨e.val / 128, by omega⟩ : Fin 12) = h
  generalize hr : (⟨n.val / 64, by omega⟩ : Fin 64) = r
  generalize hx : (⟨n.val % 64, by omega⟩ : Fin 64) = x
  generalize hd : (⟨e.val % 128, by omega⟩ : Fin 128) = d
  have step : out V0 (ix3 b n e)
      = (∑ i : Fin 8, ∑ k : Fin 64, vn (a0 V0) b (tok (near r i) k) h d * weight V0 b h r x ⟨i.val * 64 + k.val, by omega⟩)
        + ∑ c : Fin 256, vc (a1 V0) b c h d * weight V0 b h r x ⟨512 + c.val, by omega⟩ := by
    subst hh hr hx hd
    pointwise [out, res_main_v2]
    simp only [valsNear_at, weights_at]
    refine congrArg (_ + ·) (Finset.sum_congr rfl fun c _ => congrArg (· * _) (congrArg (a1 V0) ?_))
    refine congrArg (ix3 b c) (Fin.ext ?_)
    show 4608 + e.val = 4608 + (e.val / 128 * 128 + e.val % 128)
    omega
  rw [step, attn_eq _ _ _ _ _ _ _ _ _ h2 h3 h4, sum_512 fun i k => vn (a0 V0) b (tok (near r i) k) h d * weight V0 b h r x ⟨i.val * 64 + k.val, by omega⟩]
  have el : ∀ k : Fin 512, score V0 b h r x ⟨k.val, by omega⟩ = sL (a0 V0) (a2 V0) (a3 V0) (a4 V0) b h r x k :=
    fun k => dif_pos k.isLt
  have ec : ∀ k : Fin 256, score V0 b h r x ⟨512 + k.val, by omega⟩ = sC (a0 V0) (a1 V0) (a3 V0) (a4 V0) b h r x k :=
    fun k => (dif_neg (by simp)).trans (congrArg _ (Fin.ext (by simp)))
  have ek : ∀ k : Fin 512, (⟨(irow k).val * 64 + (icol k).val, by have := (irow k).isLt; have := (icol k).isLt; omega⟩ : Fin 768) = ⟨k.val, by omega⟩ :=
    fun k => Fin.ext (by show k.val / 64 * 64 + k.val % 64 = k.val; omega)
  have et : (∑ k, Ideal.exp (score V0 b h r x k - smax (a0 V0) (a1 V0) (a2 V0) (a3 V0) (a4 V0) b h r x))
      = (∑ n, Ideal.exp (sL (a0 V0) (a2 V0) (a3 V0) (a4 V0) b h r x n - smax (a0 V0) (a1 V0) (a2 V0) (a3 V0) (a4 V0) b h r x))
        + ∑ c, Ideal.exp (sC (a0 V0) (a1 V0) (a3 V0) (a4 V0) b h r x c - smax (a0 V0) (a1 V0) (a2 V0) (a3 V0) (a4 V0) b h r x) := by
    rw [sum_768]
    simp only [el, ec]
  simp only [ek, weight, et, el, ec]

/-- The run's own term of the result. -/
theorem val_out : val4 V0 (Proc.devRef .tc main_v162) = out V0 := val4_main_v162 V0

end Cert.NA.Ref
-- ==== Proof.RefRun.lean ====
/- The reference's run: it ends holding `out` of its arguments, the arguments unchanged, every counter at zero. -/
module

public import proofs.«01_k».proof.Proof.Ref

@[expose] public section

set_option maxRecDepth 16384

noncomputable section

open Idealize.ShloMosaic Idealize.ShloMosaic.TcCoe Idealize.SL.Sem
open Cert.ReferenceIdeal Cert.ReferenceIdeal.Gen Cert.ReferenceIdeal.Value Idealize.ShloMosaic.StableHlo

namespace Cert.NA.Ref

variable (m : (ℓ : Loc nD τ sig) → Buf (Elt Ideal) ℓ) (ρ : Dev nD → PrngReg)

/-- What the arguments hold is kept. -/
def Kept (m m' : (ℓ : Loc nD τ sig) → Buf (Elt Ideal) ℓ) (c : Dev nD) : Prop :=
  m' ((c : Thread nD τ).loc main_arg0) = m ((c : Thread nD τ).loc main_arg0)
  ∧ m' ((c : Thread nD τ).loc main_arg1) = m ((c : Thread nD τ).loc main_arg1)
  ∧ m' ((c : Thread nD τ).loc main_arg2) = m ((c : Thread nD τ).loc main_arg2)
  ∧ m' ((c : Thread nD τ).loc main_arg3) = m ((c : Thread nD τ).loc main_arg3)
  ∧ m' ((c : Thread nD τ).loc main_arg4) = m ((c : Thread nD τ).loc main_arg4)

theorem run : θ_run defs (onTc (τ := τ) (main (F := Ideal))) ⟨m, fun _ => 0, ρ⟩ fun r => ∀ c : Dev nD,
    r.2.mem ((c : Thread nD τ).loc main_v162) = out (launchContents m c) ∧ Kept m r.2.mem c :=
  (θ_run defs _ _).mono (fun _ h c => ⟨(h c main_v162).trans ((congrFun (after_ops (launchContents m c)) _).trans (val_out (launchContents m c))),
      (h c main_arg0).trans ((congrFun (after_ops (launchContents m c)) _).trans (val4_main_arg0 (launchContents m c))),
      (h c main_arg1).trans ((congrFun (after_ops (launchContents m c)) _).trans (val4_main_arg1 (launchContents m c))),
      (h c main_arg2).trans ((congrFun (after_ops (launchContents m c)) _).trans (val4_main_arg2 (launchContents m c))),
      (h c main_arg3).trans ((congrFun (after_ops (launchContents m c)) _).trans (val4_main_arg3 (launchContents m c))),
      (h c main_arg4).trans ((congrFun (after_ops (launchContents m c)) _).trans (val4_main_arg4 (launchContents m c)))⟩)
    (run_seq scopedRefs_eq scopedSems_eq defs main (fun _ => ops) main_eq (fun _ => ops_sub) m ρ fun _ => ops_fresh)

theorem frame : θ_run defs (onTc (τ := τ) (main (F := Ideal))) ⟨m, fun _ => 0, ρ⟩ fun r =>
    (∀ c : Dev nD, Kept m r.2.mem c) ∧ r.2.sem = fun _ => 0 :=
  (θ_run defs _ _).mono (fun r h => ⟨fun c => (h c).2, sem_eq_zero_of_no_sems (by decide) r.2⟩) (run m ρ)

end Cert.NA.Ref

end
-- ==== Proof.Trip.lean ====
/- What one trip of the loop writes. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen

namespace Cert.NA.Kernel

/-- The piece a trip stores: rows `64 k` to `64 k + 63`, from the query rows, the gain, the normalised context keys, the
    normalised keys of the window of rows, its bias, the context values and the window's values. -/
def tripPiece (k : Fin k0_t1_loop.trips) (q : Vec Ideal S1x64x128 .f32) (g : Vec Ideal S1x128 .f32) (kcx : Vec Ideal S256x128 .bf16)
    (kw : Vec Ideal S512x128 .bf16) (bw : Vec Ideal S1x1x64x512 .f32) (vcx : Vec Ideal S256x128 .bf16) (vw : Vec Ideal S512x128 .bf16) :
    View.Piece (Elt Ideal) S1x4096x128 .bf16 :=
  ⟨Rect.unit (k0_off1 k) S1x64x128.size (k0_off1_inb k),
    k0_pay3 (k0_pay5 q g kcx) (k0_pay6 q g kcx) (k0_pay7 q g kw) bw vcx vw⟩

theorem trip_pieces (𝒱 : Variants) (c : Dev nD) (bd : Option 𝒱.V) (i : grid0.Coords) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x8x64x512 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S256x128 .bf16) (harg13 : arg13.IsWhole) (arg14 : Memref sig .tc .vmem S256x128 .bf16) (harg14 : arg14.IsWhole) (X_arg2 : BufTy.Contents (Elt Ideal) arg2.view.ty) (X_arg7 : BufTy.Contents (Elt Ideal) arg7.view.ty) (X_arg8 : BufTy.Contents (Elt Ideal) arg8.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg7 X_arg8 X_arg11 X_arg12 X_arg13 X_arg14 k =
      [tripPiece k
        (View.readAt (Elt Ideal) arg2.view (Rect.unit (s := S1x4096x128) (k0_off1 k) S1x64x128.size (k0_off1_inb k)).toLoadRect X_arg2)
        (View.readAt (Elt Ideal) arg8.view (Rect.unit (s := S1x128) ![0, 0] S1x128.size inb_S1x128_S1x128_0_0).toLoadRect X_arg8)
        (View.readAt (Elt Ideal) arg13.view (Rect.unit (s := S256x128) ![0, 0] S256x128.size inb_S256x128_S256x128_0_0).toLoadRect X_arg13)
        (View.readAt (Elt Ideal) arg11.view (Rect.unit (s := S4096x128) (k0_off2 k) S512x128.size (k0_off2_inb k)).toLoadRect X_arg11)
        (View.readAt (Elt Ideal) arg7.view (Rect.unit (s := S1x8x64x512) (k0_off3 k) S1x1x64x512.size (k0_off3_inb k)).toLoadRect X_arg7)
        (View.readAt (Elt Ideal) arg14.view (Rect.unit (s := S256x128) ![0, 0] S256x128.size inb_S256x128_S256x128_0_0).toLoadRect X_arg14)
        (View.readAt (Elt Ideal) arg12.view (Rect.unit (s := S4096x128) (k0_off2 k) S512x128.size (k0_off2_inb k)).toLoadRect X_arg12)] := by
  unfold tripL_k0_t1 trip_k0_t1
  rfl

/-- Every piece the trips before `n` store is some trip's. -/
theorem pb_pieces (𝒱 : Variants) (c : Dev nD) (bd : Option 𝒱.V) (i : grid0.Coords) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x8x64x512 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S256x128 .bf16) (harg13 : arg13.IsWhole) (arg14 : Memref sig .tc .vmem S256x128 .bf16) (harg14 : arg14.IsWhole) (X_arg2 : BufTy.Contents (Elt Ideal) arg2.view.ty) (X_arg7 : BufTy.Contents (Elt Ideal) arg7.view.ty) (X_arg8 : BufTy.Contents (Elt Ideal) arg8.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) :
    ∀ (n : ℕ), n ≤ k0_t1_loop.trips → ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg7 X_arg8 X_arg11 X_arg12 X_arg13 X_arg14 n, ∃ k : Fin k0_t1_loop.trips, p =
      tripPiece k
        (View.readAt (Elt Ideal) arg2.view (Rect.unit (s := S1x4096x128) (k0_off1 k) S1x64x128.size (k0_off1_inb k)).toLoadRect X_arg2)
        (View.readAt (Elt Ideal) arg8.view (Rect.unit (s := S1x128) ![0, 0] S1x128.size inb_S1x128_S1x128_0_0).toLoadRect X_arg8)
        (View.readAt (Elt Ideal) arg13.view (Rect.unit (s := S256x128) ![0, 0] S256x128.size inb_S256x128_S256x128_0_0).toLoadRect X_arg13)
        (View.readAt (Elt Ideal) arg11.view (Rect.unit (s := S4096x128) (k0_off2 k) S512x128.size (k0_off2_inb k)).toLoadRect X_arg11)
        (View.readAt (Elt Ideal) arg7.view (Rect.unit (s := S1x8x64x512) (k0_off3 k) S1x1x64x512.size (k0_off3_inb k)).toLoadRect X_arg7)
        (View.readAt (Elt Ideal) arg14.view (Rect.unit (s := S256x128) ![0, 0] S256x128.size inb_S256x128_S256x128_0_0).toLoadRect X_arg14)
        (View.readAt (Elt Ideal) arg12.view (Rect.unit (s := S4096x128) (k0_off2 k) S512x128.size (k0_off2_inb k)).toLoadRect X_arg12)
  | 0, _, p, hp => by simp [pb_k0_t1] at hp
  | n + 1, hn, p, hp => by
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 X_arg2 X_arg7 X_arg8 X_arg11 X_arg12 X_arg13 X_arg14 ⟨n, hn⟩, trip_pieces, List.singleton_append] at hp
    rcases List.mem_cons.mp hp with rfl | hp
    · exact ⟨⟨n, hn⟩, rfl⟩
    · exact pb_pieces 𝒱 c bd i arg2 harg2 arg3 harg3 arg4 harg4 arg5 harg5 arg6 harg6 arg7 harg7 arg8 harg8 arg9 harg9 arg10 harg10 arg11 harg11 arg12 harg12 arg13 harg13 arg14 harg14 X_arg2 X_arg7 X_arg8 X_arg11 X_arg12 X_arg13 X_arg14 n (Nat.le_of_succ_le hn) p hp

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The block a grid point leaves: any function every trip's piece agrees with. -/
theorem out_eq (c : Dev nD) (i : grid0.Coords) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x8x64x512 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S256x128 .bf16) (harg13 : arg13.IsWhole) (arg14 : Memref sig .tc .vmem S256x128 .bf16) (harg14 : arg14.IsWhole)
    (x0 : Vec Ideal S1x4096x128 .f32) (x1 : Vec Ideal S1x4096x128 .f32) (x2 : Vec Ideal S1x4096x128 .f32) (x3 : Vec Ideal S1x256x128 .f32) (x4 : Vec Ideal S1x256x128 .f32) (x5 : Vec Ideal S1x8x64x512 .f32) (x6 : Vec Ideal S1x128 .f32) (x7 : Vec Ideal S1x128 .f32)
    (G : S1x4096x128.Idx → EReal)
    (hG : ∀ (k : Fin k0_t1_loop.trips) (y : S1x64x128.Idx),
      k0_pay3 (F := Ideal)
        (k0_pay5 (View.ld (Val := Elt Ideal) (e' := .f32) x0 (Rect.unit (s := S1x4096x128) (k0_off1 k) S1x64x128.size (k0_off1_inb k))) x6 (k0_pay8 x3 x7))
        (k0_pay6 (View.ld (Val := Elt Ideal) (e' := .f32) x0 (Rect.unit (s := S1x4096x128) (k0_off1 k) S1x64x128.size (k0_off1_inb k))) x6 (k0_pay8 x3 x7))
        (k0_pay7 (View.ld (Val := Elt Ideal) (e' := .f32) x0 (Rect.unit (s := S1x4096x128) (k0_off1 k) S1x64x128.size (k0_off1_inb k))) x6
          (View.ld (Val := Elt Ideal) (e' := .bf16) (k0_pay1 (F := Ideal) (k0_pay10 x1) (k0_pay11 x1) x7) (Rect.unit (s := S4096x128) (k0_off2 k) S512x128.size (k0_off2_inb k))))
        (View.ld (Val := Elt Ideal) (e' := .f32) x5 (Rect.unit (s := S1x8x64x512) (k0_off3 k) S1x1x64x512.size (k0_off3_inb k)))
        (k0_pay9 x4)
        (View.ld (Val := Elt Ideal) (e' := .bf16) (k0_pay2 (F := Ideal) x2) (Rect.unit (s := S4096x128) (k0_off2 k) S512x128.size (k0_off2_inb k))) y
      = G ((Rect.unit (s := S1x4096x128) (k0_off1 k) S1x64x128.size (k0_off1_inb k)).emb y)) :
    out0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = G := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7)]
  funext y
  refine View.canon_apply_of_pieces G _ ?_ y (cover0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)
  unfold kernelRun0_A
  dsimp only
  sl_unfold_words
  intro p hp z
  obtain ⟨k, rfl⟩ := pb_pieces _ _ _ _ _ _ _ _ _ _ _ _ _ _ _ _ _ _ _ _ _ _ _ _ _ _ _ _ _ _ _ _ _ _ _ _ _ _ (le_refl _) p hp
  clear hp
  revert z
  simp only [tripPiece, View.readAt_eq_ld, View.readAt_writes_junk_eq_canon, View.read_writes_junk_eq_canon, harg2.read_unread, harg3.read_unread, harg4.read_unread, harg5.read_unread, harg6.read_unread, harg7.read_unread, harg8.read_unread, harg9.read_unread, View.ld_unit_zero (S := S1x4096x128) hz3, View.ld_unit_zero (S := S1x256x128) hz3, View.ld_unit_zero (S := S1x128) hz2, View.ld_unit_zero (S := S256x128) hz2]
  have e13 : ∀ (w : Vec Ideal S256x128 .bf16) (L : List (View.Piece (Elt Ideal) S256x128 .bf16)), View.canon (Val := Elt Ideal) (s := S256x128) (e := .bf16) (⟨Rect.unit ![0, 0] ![256, 128] inb_S256x128_S256x128_0_0, w⟩ :: L) = w :=
    fun w L => View.canon_cons_unit_zero (S := S256x128) hz2 _ w L
  have e11 : ∀ (w : Vec Ideal S4096x128 .bf16) (L : List (View.Piece (Elt Ideal) S4096x128 .bf16)), View.canon (Val := Elt Ideal) (s := S4096x128) (e := .bf16) (⟨Rect.unit ![0, 0] ![4096, 128] inb_S4096x128_S4096x128_0_0, w⟩ :: L) = w :=
    fun w L => View.canon_cons_unit_zero (S := S4096x128) hz2 _ w L
  rw [e13, e13, e11, e11]
  exact hG k

end Cert.NA.Kernel
-- ==== Proof.Point.lean ====
/- The kernel's payloads, each read at one index. -/
module

public import proofs.«01_k».proof.Proof.Spec
public import proofs.«01_k».proof.Proof.Trip

@[expose] public section

set_option maxRecDepth 16384

noncomputable section

open Idealize.ShloMosaic Idealize.ShloMosaic.TcCoe Idealize.SL.Sem
open Cert.KernelIdeal Cert.KernelIdeal.Gen

namespace Cert.NA.Kernel

theorem pay4_at (q : Vec Ideal S1x64x128 .f32) (g : Vec Ideal S1x128 .f32) (x : Fin 64) (d : Fin 128) :
    k0_pay4 (F := Ideal) q g (ix2 x d) = rms lanes eps (fun k => q (ix3 0 x k)) (fun k => g (ix2 0 k)) d := by
  pointwise [k0_pay4]
  rfl

theorem pay8_at (k : Vec Ideal S1x256x128 .f32) (g : Vec Ideal S1x128 .f32) (c : Fin 256) (d : Fin 128) :
    k0_pay8 (F := Ideal) k g (ix2 c d) = rms lanes eps (fun j => k (ix3 0 c j)) (fun j => g (ix2 0 j)) d := by
  pointwise [k0_pay8]
  rfl

theorem pay9_at (v : Vec Ideal S1x256x128 .f32) (c : Fin 256) (d : Fin 128) :
    k0_pay9 (F := Ideal) v (ix2 c d) = v (ix3 0 c d) := by
  pointwise [k0_pay9]

theorem pay2_at (v : Vec Ideal S1x4096x128 .f32) (n : Fin 4096) (d : Fin 128) :
    k0_pay2 (F := Ideal) v (ix2 n d) = v (ix3 0 n d) := by
  pointwise [k0_pay2]

theorem pay1_at (v : Vec Ideal S1x4096x128 .f32) (g : Vec Ideal S1x128 .f32) (n : Fin 4096) (d : Fin 128) :
    k0_pay1 (F := Ideal) (k0_pay10 v) (k0_pay11 v) g (ix2 n d) = rms lanes eps (fun k => v (ix3 0 n k)) (fun k => g (ix2 0 k)) d := by
  pointwise [k0_pay1, k0_pay10, k0_pay11]
  rfl

theorem pay5_at (q : Vec Ideal S1x64x128 .f32) (g : Vec Ideal S1x128 .f32) (kx : Vec Ideal S256x128 .bf16) (x : Fin 64) (c : Fin 256) :
    k0_pay5 (F := Ideal) q g kx (ix2 x c) = (∑ d, k0_pay4 (F := Ideal) q g (ix2 x d) * kx (ix2 c d)) * scale := by
  pointwise [k0_pay5]
  rfl

theorem pay7_at (q : Vec Ideal S1x64x128 .f32) (g : Vec Ideal S1x128 .f32) (kx : Vec Ideal S512x128 .bf16) (x : Fin 64) (c : Fin 512) :
    k0_pay7 (F := Ideal) q g kx (ix2 x c) = (∑ d, k0_pay4 (F := Ideal) q g (ix2 x d) * kx (ix2 c d)) * scale := by
  pointwise [k0_pay7]
  rfl

theorem pay6_at (q : Vec Ideal S1x64x128 .f32) (g : Vec Ideal S1x128 .f32) (kx : Vec Ideal S256x128 .bf16) (x : Fin 64) :
    k0_pay6 (F := Ideal) q g kx (ix2 x 0) = top fun c => k0_pay5 (F := Ideal) q g kx (ix2 x c) := by
  pointwise [k0_pay6]
  exact congrArg (fun z => Finset.univ.fold max z _) ofBits_ninf

/-- The weighted values over the total, of given scores and values. -/
def soft (sc : Fin 256 → EReal) (sl : Fin 512 → EReal) (vx : Fin 256 → EReal) (vw : Fin 512 → EReal) : EReal :=
  Ideal.div
    ((∑ c, Ideal.exp (sc c - max (top sc) (top sl)) * vx c) + ∑ n, Ideal.exp (sl n - max (top sc) (top sl)) * vw n)
    ((∑ c, Ideal.exp (sc c - max (top sc) (top sl))) + ∑ n, Ideal.exp (sl n - max (top sc) (top sl)))

theorem attn_soft (A0 : Proj) (A1 : ProjC) (A2 : Rpb) (A3 A4 : Gain) (b : Fin 4) (h : Fin 12) (r x : Fin 64) (d : Fin 128) :
    attn A0 A1 A2 A3 A4 b h r x d
      = soft (sC A0 A1 A3 A4 b h r x) (sL A0 A2 A3 A4 b h r x) (fun c => vc A1 b c h d)
          (fun n => vn A0 b (tok (near r (irow n)) (icol n)) h d) := rfl

theorem pay3_at (sc : FVec Ideal S64x256 .f32) (mc : FVec Ideal S64x1 .f32) (sl : FVec Ideal S64x512 .f32) (bw : Vec Ideal S1x1x64x512 .f32)
    (vx : Vec Ideal S256x128 .bf16) (vw : Vec Ideal S512x128 .bf16) (x : Fin 64) (d : Fin 128)
    (hm : mc (ix2 x 0) = top fun c => sc (ix2 x c)) :
    k0_pay3 (F := Ideal) sc mc sl bw vx vw (ix3 0 x d)
      = soft (fun c => sc (ix2 x c)) (fun n => sl (ix2 x n) + bw (ix4 0 0 x n)) (fun c => vx (ix2 c d)) (fun n => vw (ix2 n d)) := by
  pointwise [k0_pay3]
  have e : Ideal.ofBits FTy.f32 4286578688#32 = (⊥ : EReal) := ofBits_ninf
  rw [hm, e]
  rfl

/-! ## The loads of trip `r` -/

theorem trips_eq : k0_t1_loop.trips = 64 := by decide +kernel

/-- The grid row of a trip. -/
def row (k : Fin k0_t1_loop.trips) : Fin 64 := ⟨k.val, trips_eq ▸ k.isLt⟩

theorem off2_eq : ∀ k : Fin k0_t1_loop.trips, k0_off2 k = ![64 * start (row k), 0] := by decide +kernel
theorem off3_eq : ∀ k : Fin k0_t1_loop.trips, k0_off3 k = ![0, start (row k) + 7 - k.val, 0, 0] := by decide +kernel

theorem rows_at (X : Vec Ideal S1x4096x128 .f32) (k : Fin k0_t1_loop.trips) (x : Fin 64) (d : Fin 128) :
    View.ld (Val := Elt Ideal) (e' := .f32) X (Rect.unit (s := S1x4096x128) (k0_off1 k) S1x64x128.size (k0_off1_inb k)) (ix3 0 x d)
      = X (ix3 0 (tok (row k) x) d) := by
  refine congrArg X (funext fun a => Fin.ext ?_)
  have h := congrFun (k0_off1_eq k) a
  match a with
  | ⟨0, _⟩ => rfl
  | ⟨1, _⟩ =>
    show k0_off1 k 1 + 1 * x.val = k.val * 64 + x.val
    rw [show k0_off1 k 1 = 64 * k.val from h]; omega
  | ⟨2, _⟩ =>
    show k0_off1 k 2 + 1 * d.val = d.val
    rw [show k0_off1 k 2 = 0 from h]; omega

theorem emb_at (k : Fin k0_t1_loop.trips) (x : Fin 64) (d : Fin 128) :
    (Rect.unit (s := S1x4096x128) (k0_off1 k) S1x64x128.size (k0_off1_inb k)).emb (ix3 0 x d) = ix3 0 (tok (row k) x) d := by
  refine funext fun a => Fin.ext ?_
  have h := congrFun (k0_off1_eq k) a
  match a with
  | ⟨0, _⟩ =>
    show k0_off1 k 0 + 1 * 0 = 0
    rw [show k0_off1 k 0 = 0 from h]
  | ⟨1, _⟩ =>
    show k0_off1 k 1 + 1 * x.val = k.val * 64 + x.val
    rw [show k0_off1 k 1 = 64 * k.val from h]; omega
  | ⟨2, _⟩ =>
    show k0_off1 k 2 + 1 * d.val = d.val
    rw [show k0_off1 k 2 = 0 from h]; omega

theorem window_at (X : Vec Ideal S4096x128 .bf16) (k : Fin k0_t1_loop.trips) (n : Fin 512) (d : Fin 128) :
    View.ld (Val := Elt Ideal) (e' := .bf16) X (Rect.unit (s := S4096x128) (k0_off2 k) S512x128.size (k0_off2_inb k)) (ix2 n d)
      = X (ix2 (tok (near (row k) (irow n)) (icol n)) d) := by
  refine congrArg X (funext fun a => Fin.ext ?_)
  have h := congrFun (off2_eq k) a
  match a with
  | ⟨0, _⟩ =>
    show k0_off2 k 0 + 1 * n.val = (start (row k) + n.val / 64) * 64 + n.val % 64
    rw [show k0_off2 k 0 = 64 * start (row k) from h]; omega
  | ⟨1, _⟩ =>
    show k0_off2 k 1 + 1 * d.val = d.val
    rw [show k0_off2 k 1 = 0 from h]; omega

/-- The row of the bias windows that trip `k` reads. -/
def wrow (r : Fin 64) : Fin 8 := ⟨start r + 7 - r.val, by unfold start; omega⟩

theorem bias_at (X : Vec Ideal S1x8x64x512 .f32) (k : Fin k0_t1_loop.trips) (x : Fin 64) (n : Fin 512) :
    View.ld (Val := Elt Ideal) (e' := .f32) X (Rect.unit (s := S1x8x64x512) (k0_off3 k) S1x1x64x512.size (k0_off3_inb k)) (ix4 0 0 x n)
      = X (ix4 0 (wrow (row k)) x n) := by
  refine congrArg X (funext fun a => Fin.ext ?_)
  have h := congrFun (off3_eq k) a
  match a with
  | ⟨0, _⟩ => rfl
  | ⟨1, _⟩ =>
    show k0_off3 k 1 + 1 * 0 = start (row k) + 7 - k.val
    rw [show k0_off3 k 1 = start (row k) + 7 - k.val from h]; omega
  | ⟨2, _⟩ =>
    show k0_off3 k 2 + 1 * x.val = x.val
    rw [show k0_off3 k 2 = 0 from h]; omega
  | ⟨3, _⟩ =>
    show k0_off3 k 3 + 1 * n.val = n.val
    rw [show k0_off3 k 3 = 0 from h]; omega

/-- The bias windows: window row `w`, query column `x`, local key `n`. -/
def biasWin (A2 : Rpb) (h : Fin 12) (w : Fin 8) (x : Fin 64) (n : Fin 512) : EReal :=
  if inWin x (icol n) then A2 (ix3 h ⟨w.val + n.val / 64, by omega⟩ (bcol x (icol n))) else ⊥

/-- One trip's piece, at its own index. -/
theorem trip_at (A0 : Proj) (A1 : ProjC) (A2 : Rpb) (A3 A4 : Gain) (b : Fin 4) (h : Fin 12)
    (x0 x1 x2 : Vec Ideal S1x4096x128 .f32) (x3 x4 : Vec Ideal S1x256x128 .f32) (x5 : Vec Ideal S1x8x64x512 .f32) (x6 x7 : Vec Ideal S1x128 .f32)
    (h0 : ∀ n d, x0 (ix3 0 n d) = A0 (ix3 b n (lane 12288 (by decide) h d)))
    (h1 : ∀ n d, x1 (ix3 0 n d) = A0 (ix3 b n (lane 3072 (by decide) h d)))
    (h2 : ∀ n d, x2 (ix3 0 n d) = A0 (ix3 b n (lane 4608 (by decide) h d)))
    (h3 : ∀ n d, x3 (ix3 0 n d) = A1 (ix3 b n (lane 3072 (by decide) h d)))
    (h4 : ∀ n d, x4 (ix3 0 n d) = A1 (ix3 b n (lane 4608 (by decide) h d)))
    (h5 : ∀ w x n, x5 (ix4 0 w x n) = biasWin A2 h w x n)
    (h6 : ∀ d, x6 (ix2 0 d) = A3 (ix1 d)) (h7 : ∀ d, x7 (ix2 0 d) = A4 (ix1 d))
    (k : Fin k0_t1_loop.trips) (x : Fin 64) (d : Fin 128) :
      k0_pay3 (F := Ideal)
        (k0_pay5 (View.ld (Val := Elt Ideal) (e' := .f32) x0 (Rect.unit (s := S1x4096x128) (k0_off1 k) S1x64x128.size (k0_off1_inb k))) x6 (k0_pay8 x3 x7))
        (k0_pay6 (View.ld (Val := Elt Ideal) (e' := .f32) x0 (Rect.unit (s := S1x4096x128) (k0_off1 k) S1x64x128.size (k0_off1_inb k))) x6 (k0_pay8 x3 x7))
        (k0_pay7 (View.ld (Val := Elt Ideal) (e' := .f32) x0 (Rect.unit (s := S1x4096x128) (k0_off1 k) S1x64x128.size (k0_off1_inb k))) x6
          (View.ld (Val := Elt Ideal) (e' := .bf16) (k0_pay1 (F := Ideal) (k0_pay10 x1) (k0_pay11 x1) x7) (Rect.unit (s := S4096x128) (k0_off2 k) S512x128.size (k0_off2_inb k))))
        (View.ld (Val := Elt Ideal) (e' := .f32) x5 (Rect.unit (s := S1x8x64x512) (k0_off3 k) S1x1x64x512.size (k0_off3_inb k)))
        (k0_pay9 x4)
        (View.ld (Val := Elt Ideal) (e' := .bf16) (k0_pay2 (F := Ideal) x2) (Rect.unit (s := S4096x128) (k0_off2 k) S512x128.size (k0_off2_inb k))) (ix3 0 x d)
      = attn A0 A1 A2 A3 A4 b h (row k) x d := by
  rw [pay3_at _ _ _ _ _ _ _ _ (pay6_at _ _ _ _), attn_soft]
  have eq : ∀ e, k0_pay4 (F := Ideal) (View.ld (Val := Elt Ideal) (e' := .f32) x0 (Rect.unit (s := S1x4096x128) (k0_off1 k) S1x64x128.size (k0_off1_inb k))) x6 (ix2 x e)
      = qn A0 A3 b (tok (row k) x) h e := fun e => by
    rw [pay4_at]
    exact congrArg₂ (fun f g => rms lanes eps f g e) (funext fun j => (rows_at x0 k x j).trans (h0 _ j)) (funext h6)
  have ec : ∀ c e, k0_pay8 (F := Ideal) x3 x7 (ix2 c e) = kc A1 A4 b c h e := fun c e => by
    rw [pay8_at]
    simp only [h3, h7]
    rfl
  have ek : ∀ n e, k0_pay1 (F := Ideal) (k0_pay10 x1) (k0_pay11 x1) x7 (ix2 n e) = kn A0 A4 b n h e := fun n e => by
    rw [pay1_at]
    simp only [h1, h7]
    rfl
  have e1 : (fun c => k0_pay5 (F := Ideal) (View.ld (Val := Elt Ideal) (e' := .f32) x0 (Rect.unit (s := S1x4096x128) (k0_off1 k) S1x64x128.size (k0_off1_inb k))) x6 (k0_pay8 x3 x7) (ix2 x c))
      = sC A0 A1 A3 A4 b h (row k) x := funext fun c => by
    rw [pay5_at]
    simp only [eq, ec]
    rfl
  have e2 : (fun n => k0_pay7 (F := Ideal) (View.ld (Val := Elt Ideal) (e' := .f32) x0 (Rect.unit (s := S1x4096x128) (k0_off1 k) S1x64x128.size (k0_off1_inb k))) x6
          (View.ld (Val := Elt Ideal) (e' := .bf16) (k0_pay1 (F := Ideal) (k0_pay10 x1) (k0_pay11 x1) x7) (Rect.unit (s := S4096x128) (k0_off2 k) S512x128.size (k0_off2_inb k))) (ix2 x n)
        + View.ld (Val := Elt Ideal) (e' := .f32) x5 (Rect.unit (s := S1x8x64x512) (k0_off3 k) S1x1x64x512.size (k0_off3_inb k)) (ix4 0 0 x n))
      = sL A0 A2 A3 A4 b h (row k) x := funext fun n => by
    rw [pay7_at, bias_at, h5]
    have es : ∀ e, k0_pay4 (F := Ideal) (View.ld (Val := Elt Ideal) (e' := .f32) x0 (Rect.unit (s := S1x4096x128) (k0_off1 k) S1x64x128.size (k0_off1_inb k))) x6 (ix2 x e)
          * View.ld (Val := Elt Ideal) (e' := .bf16) (k0_pay1 (F := Ideal) (k0_pay10 x1) (k0_pay11 x1) x7) (Rect.unit (s := S4096x128) (k0_off2 k) S512x128.size (k0_off2_inb k)) (ix2 n e)
        = qn A0 A3 b (tok (row k) x) h e * kn A0 A4 b (tok (near (row k) (irow n)) (icol n)) h e := fun e => by
      rw [eq, window_at, ek]
    rw [Finset.sum_congr rfl fun e _ => es e]
    unfold biasWin sL
    split
    · refine congrArg (fun z => _ + A2 z) (congrArg (fun z => ix3 h z _) (Fin.ext ?_))
      show start (row k) + 7 - (row k).val + n.val / 64 = start (row k) + n.val / 64 + 7 - (row k).val
      unfold start; omega
    · exact EReal.add_bot _
  have e3 : (fun c => k0_pay9 (F := Ideal) x4 (ix2 c d)) = fun c => vc A1 b c h d := funext fun c => by
    rw [pay9_at, h4]; rfl
  have e4 : (fun n => View.ld (Val := Elt Ideal) (e' := .bf16) (k0_pay2 (F := Ideal) x2) (Rect.unit (s := S4096x128) (k0_off2 k) S512x128.size (k0_off2_inb k)) (ix2 n d))
      = fun n => vn A0 b (tok (near (row k) (irow n)) (icol n)) h d := funext fun n => by
    rw [window_at, pay2_at, h2]; rfl
  rw [e1, e2, e3, e4]

end Cert.NA.Kernel
-- ==== Proof.Bias.lean ====
/- The bias windows the host lines lay out for the kernel, each read at one index. -/
module

public import proofs.«01_k».proof.Proof.Point

@[expose] public section

set_option maxRecDepth 16384

noncomputable section

open Idealize.ShloMosaic Idealize.ShloMosaic.TcCoe Idealize.SL.Sem
open Cert.KernelIdeal Cert.KernelIdeal.Gen

namespace Cert.NA.Kernel

/-- The masked bias, per head, relative row, query column and key column. -/
abbrev Cols := FVec Ideal S12x15x64x64 .f32

/-- Window `0`: the eight relative rows from `0` on, side by side. -/
def win0 (t : Cols) : FVec Ideal S12x64x512 .f32 :=
  concatenate S12x64x512 2 [⟨S12x64x64, shapeCast _ (extractStridedSlice S12x1x64x64 ![0, 0, 0, 0] t slices_S12x15x64x64_S12x1x64x64_0_0_0_0) shapeCasts_S12x1x64x64_S12x64x64⟩,
    ⟨S12x64x64, shapeCast _ (extractStridedSlice S12x1x64x64 ![0, 1, 0, 0] t slices_S12x15x64x64_S12x1x64x64_0_1_0_0) shapeCasts_S12x1x64x64_S12x64x64⟩,
    ⟨S12x64x64, shapeCast _ (extractStridedSlice S12x1x64x64 ![0, 2, 0, 0] t slices_S12x15x64x64_S12x1x64x64_0_2_0_0) shapeCasts_S12x1x64x64_S12x64x64⟩,
    ⟨S12x64x64, shapeCast _ (extractStridedSlice S12x1x64x64 ![0, 3, 0, 0] t slices_S12x15x64x64_S12x1x64x64_0_3_0_0) shapeCasts_S12x1x64x64_S12x64x64⟩,
    ⟨S12x64x64, shapeCast _ (extractStridedSlice S12x1x64x64 ![0, 4, 0, 0] t slices_S12x15x64x64_S12x1x64x64_0_4_0_0) shapeCasts_S12x1x64x64_S12x64x64⟩,
    ⟨S12x64x64, shapeCast _ (extractStridedSlice S12x1x64x64 ![0, 5, 0, 0] t slices_S12x15x64x64_S12x1x64x64_0_5_0_0) shapeCasts_S12x1x64x64_S12x64x64⟩,
    ⟨S12x64x64, shapeCast _ (extractStridedSlice S12x1x64x64 ![0, 6, 0, 0] t slices_S12x15x64x64_S12x1x64x64_0_6_0_0) shapeCasts_S12x1x64x64_S12x64x64⟩,
    ⟨S12x64x64, shapeCast _ (extractStridedSlice S12x1x64x64 ![0, 7, 0, 0] t slices_S12x15x64x64_S12x1x64x64_0_7_0_0) shapeCasts_S12x1x64x64_S12x64x64⟩] concatenates_S12x64x64_S12x64x64_S12x64x64_S12x64x64_S12x64x64_S12x64x64_S12x64x64_S12x64x64_S12x64x512_d2

/-- Window `1`: the eight relative rows from `1` on, side by side. -/
def win1 (t : Cols) : FVec Ideal S12x64x512 .f32 :=
  concatenate S12x64x512 2 [⟨S12x64x64, shapeCast _ (extractStridedSlice S12x1x64x64 ![0, 1, 0, 0] t slices_S12x15x64x64_S12x1x64x64_0_1_0_0) shapeCasts_S12x1x64x64_S12x64x64⟩,
    ⟨S12x64x64, shapeCast _ (extractStridedSlice S12x1x64x64 ![0, 2, 0, 0] t slices_S12x15x64x64_S12x1x64x64_0_2_0_0) shapeCasts_S12x1x64x64_S12x64x64⟩,
    ⟨S12x64x64, shapeCast _ (extractStridedSlice S12x1x64x64 ![0, 3, 0, 0] t slices_S12x15x64x64_S12x1x64x64_0_3_0_0) shapeCasts_S12x1x64x64_S12x64x64⟩,
    ⟨S12x64x64, shapeCast _ (extractStridedSlice S12x1x64x64 ![0, 4, 0, 0] t slices_S12x15x64x64_S12x1x64x64_0_4_0_0) shapeCasts_S12x1x64x64_S12x64x64⟩,
    ⟨S12x64x64, shapeCast _ (extractStridedSlice S12x1x64x64 ![0, 5, 0, 0] t slices_S12x15x64x64_S12x1x64x64_0_5_0_0) shapeCasts_S12x1x64x64_S12x64x64⟩,
    ⟨S12x64x64, shapeCast _ (extractStridedSlice S12x1x64x64 ![0, 6, 0, 0] t slices_S12x15x64x64_S12x1x64x64_0_6_0_0) shapeCasts_S12x1x64x64_S12x64x64⟩,
    ⟨S12x64x64, shapeCast _ (extractStridedSlice S12x1x64x64 ![0, 7, 0, 0] t slices_S12x15x64x64_S12x1x64x64_0_7_0_0) shapeCasts_S12x1x64x64_S12x64x64⟩,
    ⟨S12x64x64, shapeCast _ (extractStridedSlice S12x1x64x64 ![0, 8, 0, 0] t slices_S12x15x64x64_S12x1x64x64_0_8_0_0) shapeCasts_S12x1x64x64_S12x64x64⟩] concatenates_S12x64x64_S12x64x64_S12x64x64_S12x64x64_S12x64x64_S12x64x64_S12x64x64_S12x64x64_S12x64x512_d2

/-- Window `2`: the eight relative rows from `2` on, side by side. -/
def win2 (t : Cols) : FVec Ideal S12x64x512 .f32 :=
  concatenate S12x64x512 2 [⟨S12x64x64, shapeCast _ (extractStridedSlice S12x1x64x64 ![0, 2, 0, 0] t slices_S12x15x64x64_S12x1x64x64_0_2_0_0) shapeCasts_S12x1x64x64_S12x64x64⟩,
    ⟨S12x64x64, shapeCast _ (extractStridedSlice S12x1x64x64 ![0, 3, 0, 0] t slices_S12x15x64x64_S12x1x64x64_0_3_0_0) shapeCasts_S12x1x64x64_S12x64x64⟩,
    ⟨S12x64x64, shapeCast _ (extractStridedSlice S12x1x64x64 ![0, 4, 0, 0] t slices_S12x15x64x64_S12x1x64x64_0_4_0_0) shapeCasts_S12x1x64x64_S12x64x64⟩,
    ⟨S12x64x64, shapeCast _ (extractStridedSlice S12x1x64x64 ![0, 5, 0, 0] t slices_S12x15x64x64_S12x1x64x64_0_5_0_0) shapeCasts_S12x1x64x64_S12x64x64⟩,
    ⟨S12x64x64, shapeCast _ (extractStridedSlice S12x1x64x64 ![0, 6, 0, 0] t slices_S12x15x64x64_S12x1x64x64_0_6_0_0) shapeCasts_S12x1x64x64_S12x64x64⟩,
    ⟨S12x64x64, shapeCast _ (extractStridedSlice S12x1x64x64 ![0, 7, 0, 0] t slices_S12x15x64x64_S12x1x64x64_0_7_0_0) shapeCasts_S12x1x64x64_S12x64x64⟩,
    ⟨S12x64x64, shapeCast _ (extractStridedSlice S12x1x64x64 ![0, 8, 0, 0] t slices_S12x15x64x64_S12x1x64x64_0_8_0_0) shapeCasts_S12x1x64x64_S12x64x64⟩,
    ⟨S12x64x64, shapeCast _ (extractStridedSlice S12x1x64x64 ![0, 9, 0, 0] t slices_S12x15x64x64_S12x1x64x64_0_9_0_0) shapeCasts_S12x1x64x64_S12x64x64⟩] concatenates_S12x64x64_S12x64x64_S12x64x64_S12x64x64_S12x64x64_S12x64x64_S12x64x64_S12x64x64_S12x64x512_d2

/-- Window `3`: the eight relative rows from `3` on, side by side. -/
def win3 (t : Cols) : FVec Ideal S12x64x512 .f32 :=
  concatenate S12x64x512 2 [⟨S12x64x64, shapeCast _ (extractStridedSlice S12x1x64x64 ![0, 3, 0, 0] t slices_S12x15x64x64_S12x1x64x64_0_3_0_0) shapeCasts_S12x1x64x64_S12x64x64⟩,
    ⟨S12x64x64, shapeCast _ (extractStridedSlice S12x1x64x64 ![0, 4, 0, 0] t slices_S12x15x64x64_S12x1x64x64_0_4_0_0) shapeCasts_S12x1x64x64_S12x64x64⟩,
    ⟨S12x64x64, shapeCast _ (extractStridedSlice S12x1x64x64 ![0, 5, 0, 0] t slices_S12x15x64x64_S12x1x64x64_0_5_0_0) shapeCasts_S12x1x64x64_S12x64x64⟩,
    ⟨S12x64x64, shapeCast _ (extractStridedSlice S12x1x64x64 ![0, 6, 0, 0] t slices_S12x15x64x64_S12x1x64x64_0_6_0_0) shapeCasts_S12x1x64x64_S12x64x64⟩,
    ⟨S12x64x64, shapeCast _ (extractStridedSlice S12x1x64x64 ![0, 7, 0, 0] t slices_S12x15x64x64_S12x1x64x64_0_7_0_0) shapeCasts_S12x1x64x64_S12x64x64⟩,
    ⟨S12x64x64, shapeCast _ (extractStridedSlice S12x1x64x64 ![0, 8, 0, 0] t slices_S12x15x64x64_S12x1x64x64_0_8_0_0) shapeCasts_S12x1x64x64_S12x64x64⟩,
    ⟨S12x64x64, shapeCast _ (extractStridedSlice S12x1x64x64 ![0, 9, 0, 0] t slices_S12x15x64x64_S12x1x64x64_0_9_0_0) shapeCasts_S12x1x64x64_S12x64x64⟩,
    ⟨S12x64x64, shapeCast _ (extractStridedSlice S12x1x64x64 ![0, 10, 0, 0] t slices_S12x15x64x64_S12x1x64x64_0_10_0_0) shapeCasts_S12x1x64x64_S12x64x64⟩] concatenates_S12x64x64_S12x64x64_S12x64x64_S12x64x64_S12x64x64_S12x64x64_S12x64x64_S12x64x64_S12x64x512_d2

/-- Window `4`: the eight relative rows from `4` on, side by side. -/
def win4 (t : Cols) : FVec Ideal S12x64x512 .f32 :=
  concatenate S12x64x512 2 [⟨S12x64x64, shapeCast _ (extractStridedSlice S12x1x64x64 ![0, 4, 0, 0] t slices_S12x15x64x64_S12x1x64x64_0_4_0_0) shapeCasts_S12x1x64x64_S12x64x64⟩,
    ⟨S12x64x64, shapeCast _ (extractStridedSlice S12x1x64x64 ![0, 5, 0, 0] t slices_S12x15x64x64_S12x1x64x64_0_5_0_0) shapeCasts_S12x1x64x64_S12x64x64⟩,
    ⟨S12x64x64, shapeCast _ (extractStridedSlice S12x1x64x64 ![0, 6, 0, 0] t slices_S12x15x64x64_S12x1x64x64_0_6_0_0) shapeCasts_S12x1x64x64_S12x64x64⟩,
    ⟨S12x64x64, shapeCast _ (extractStridedSlice S12x1x64x64 ![0, 7, 0, 0] t slices_S12x15x64x64_S12x1x64x64_0_7_0_0) shapeCasts_S12x1x64x64_S12x64x64⟩,
    ⟨S12x64x64, shapeCast _ (extractStridedSlice S12x1x64x64 ![0, 8, 0, 0] t slices_S12x15x64x64_S12x1x64x64_0_8_0_0) shapeCasts_S12x1x64x64_S12x64x64⟩,
    ⟨S12x64x64, shapeCast _ (extractStridedSlice S12x1x64x64 ![0, 9, 0, 0] t slices_S12x15x64x64_S12x1x64x64_0_9_0_0) shapeCasts_S12x1x64x64_S12x64x64⟩,
    ⟨S12x64x64, shapeCast _ (extractStridedSlice S12x1x64x64 ![0, 10, 0, 0] t slices_S12x15x64x64_S12x1x64x64_0_10_0_0) shapeCasts_S12x1x64x64_S12x64x64⟩,
    ⟨S12x64x64, shapeCast _ (extractStridedSlice S12x1x64x64 ![0, 11, 0, 0] t slices_S12x15x64x64_S12x1x64x64_0_11_0_0) shapeCasts_S12x1x64x64_S12x64x64⟩] concatenates_S12x64x64_S12x64x64_S12x64x64_S12x64x64_S12x64x64_S12x64x64_S12x64x64_S12x64x64_S12x64x512_d2

/-- Window `5`: the eight relative rows from `5` on, side by side. -/
def win5 (t : Cols) : FVec Ideal S12x64x512 .f32 :=
  concatenate S12x64x512 2 [⟨S12x64x64, shapeCast _ (extractStridedSlice S12x1x64x64 ![0, 5, 0, 0] t slices_S12x15x64x64_S12x1x64x64_0_5_0_0) shapeCasts_S12x1x64x64_S12x64x64⟩,
    ⟨S12x64x64, shapeCast _ (extractStridedSlice S12x1x64x64 ![0, 6, 0, 0] t slices_S12x15x64x64_S12x1x64x64_0_6_0_0) shapeCasts_S12x1x64x64_S12x64x64⟩,
    ⟨S12x64x64, shapeCast _ (extractStridedSlice S12x1x64x64 ![0, 7, 0, 0] t slices_S12x15x64x64_S12x1x64x64_0_7_0_0) shapeCasts_S12x1x64x64_S12x64x64⟩,
    ⟨S12x64x64, shapeCast _ (extractStridedSlice S12x1x64x64 ![0, 8, 0, 0] t slices_S12x15x64x64_S12x1x64x64_0_8_0_0) shapeCasts_S12x1x64x64_S12x64x64⟩,
    ⟨S12x64x64, shapeCast _ (extractStridedSlice S12x1x64x64 ![0, 9, 0, 0] t slices_S12x15x64x64_S12x1x64x64_0_9_0_0) shapeCasts_S12x1x64x64_S12x64x64⟩,
    ⟨S12x64x64, shapeCast _ (extractStridedSlice S12x1x64x64 ![0, 10, 0, 0] t slices_S12x15x64x64_S12x1x64x64_0_10_0_0) shapeCasts_S12x1x64x64_S12x64x64⟩,
    ⟨S12x64x64, shapeCast _ (extractStridedSlice S12x1x64x64 ![0, 11, 0, 0] t slices_S12x15x64x64_S12x1x64x64_0_11_0_0) shapeCasts_S12x1x64x64_S12x64x64⟩,
    ⟨S12x64x64, shapeCast _ (extractStridedSlice S12x1x64x64 ![0, 12, 0, 0] t slices_S12x15x64x64_S12x1x64x64_0_12_0_0) shapeCasts_S12x1x64x64_S12x64x64⟩] concatenates_S12x64x64_S12x64x64_S12x64x64_S12x64x64_S12x64x64_S12x64x64_S12x64x64_S12x64x64_S12x64x512_d2

/-- Window `6`: the eight relative rows from `6` on, side by side. -/
def win6 (t : Cols) : FVec Ideal S12x64x512 .f32 :=
  concatenate S12x64x512 2 [⟨S12x64x64, shapeCast _ (extractStridedSlice S12x1x64x64 ![0, 6, 0, 0] t slices_S12x15x64x64_S12x1x64x64_0_6_0_0) shapeCasts_S12x1x64x64_S12x64x64⟩,
    ⟨S12x64x64, shapeCast _ (extractStridedSlice S12x1x64x64 ![0, 7, 0, 0] t slices_S12x15x64x64_S12x1x64x64_0_7_0_0) shapeCasts_S12x1x64x64_S12x64x64⟩,
    ⟨S12x64x64, shapeCast _ (extractStridedSlice S12x1x64x64 ![0, 8, 0, 0] t slices_S12x15x64x64_S12x1x64x64_0_8_0_0) shapeCasts_S12x1x64x64_S12x64x64⟩,
    ⟨S12x64x64, shapeCast _ (extractStridedSlice S12x1x64x64 ![0, 9, 0, 0] t slices_S12x15x64x64_S12x1x64x64_0_9_0_0) shapeCasts_S12x1x64x64_S12x64x64⟩,
    ⟨S12x64x64, shapeCast _ (extractStridedSlice S12x1x64x64 ![0, 10, 0, 0] t slices_S12x15x64x64_S12x1x64x64_0_10_0_0) shapeCasts_S12x1x64x64_S12x64x64⟩,
    ⟨S12x64x64, shapeCast _ (extractStridedSlice S12x1x64x64 ![0, 11, 0, 0] t slices_S12x15x64x64_S12x1x64x64_0_11_0_0) shapeCasts_S12x1x64x64_S12x64x64⟩,
    ⟨S12x64x64, shapeCast _ (extractStridedSlice S12x1x64x64 ![0, 12, 0, 0] t slices_S12x15x64x64_S12x1x64x64_0_12_0_0) shapeCasts_S12x1x64x64_S12x64x64⟩,
    ⟨S12x64x64, shapeCast _ (extractStridedSlice S12x1x64x64 ![0, 13, 0, 0] t slices_S12x15x64x64_S12x1x64x64_0_13_0_0) shapeCasts_S12x1x64x64_S12x64x64⟩] concatenates_S12x64x64_S12x64x64_S12x64x64_S12x64x64_S12x64x64_S12x64x64_S12x64x64_S12x64x64_S12x64x512_d2

/-- Window `7`: the eight relative rows from `7` on, side by side. -/
def win7 (t : Cols) : FVec Ideal S12x64x512 .f32 :=
  concatenate S12x64x512 2 [⟨S12x64x64, shapeCast _ (extractStridedSlice S12x1x64x64 ![0, 7, 0, 0] t slices_S12x15x64x64_S12x1x64x64_0_7_0_0) shapeCasts_S12x1x64x64_S12x64x64⟩,
    ⟨S12x64x64, shapeCast _ (extractStridedSlice S12x1x64x64 ![0, 8, 0, 0] t slices_S12x15x64x64_S12x1x64x64_0_8_0_0) shapeCasts_S12x1x64x64_S12x64x64⟩,
    ⟨S12x64x64, shapeCast _ (extractStridedSlice S12x1x64x64 ![0, 9, 0, 0] t slices_S12x15x64x64_S12x1x64x64_0_9_0_0) shapeCasts_S12x1x64x64_S12x64x64⟩,
    ⟨S12x64x64, shapeCast _ (extractStridedSlice S12x1x64x64 ![0, 10, 0, 0] t slices_S12x15x64x64_S12x1x64x64_0_10_0_0) shapeCasts_S12x1x64x64_S12x64x64⟩,
    ⟨S12x64x64, shapeCast _ (extractStridedSlice S12x1x64x64 ![0, 11, 0, 0] t slices_S12x15x64x64_S12x1x64x64_0_11_0_0) shapeCasts_S12x1x64x64_S12x64x64⟩,
    ⟨S12x64x64, shapeCast _ (extractStridedSlice S12x1x64x64 ![0, 12, 0, 0] t slices_S12x15x64x64_S12x1x64x64_0_12_0_0) shapeCasts_S12x1x64x64_S12x64x64⟩,
    ⟨S12x64x64, shapeCast _ (extractStridedSlice S12x1x64x64 ![0, 13, 0, 0] t slices_S12x15x64x64_S12x1x64x64_0_13_0_0) shapeCasts_S12x1x64x64_S12x64x64⟩,
    ⟨S12x64x64, shapeCast _ (extractStridedSlice S12x1x64x64 ![0, 14, 0, 0] t slices_S12x15x64x64_S12x1x64x64_0_14_0_0) shapeCasts_S12x1x64x64_S12x64x64⟩] concatenates_S12x64x64_S12x64x64_S12x64x64_S12x64x64_S12x64x64_S12x64x64_S12x64x64_S12x64x64_S12x64x512_d2

/-- The eight windows, stacked. -/
def wins (t : Cols) : FVec Ideal S12x8x64x512 .f32 :=
  concatenate S12x8x64x512 1 [⟨S12x1x64x512, broadcastInDim S12x1x64x512 ![0, 2, 3] bcast_S12x64x512_S12x1x64x512_0_2_3 (win0 t)⟩,
    ⟨S12x1x64x512, broadcastInDim S12x1x64x512 ![0, 2, 3] bcast_S12x64x512_S12x1x64x512_0_2_3 (win1 t)⟩,
    ⟨S12x1x64x512, broadcastInDim S12x1x64x512 ![0, 2, 3] bcast_S12x64x512_S12x1x64x512_0_2_3 (win2 t)⟩,
    ⟨S12x1x64x512, broadcastInDim S12x1x64x512 ![0, 2, 3] bcast_S12x64x512_S12x1x64x512_0_2_3 (win3 t)⟩,
    ⟨S12x1x64x512, broadcastInDim S12x1x64x512 ![0, 2, 3] bcast_S12x64x512_S12x1x64x512_0_2_3 (win4 t)⟩,
    ⟨S12x1x64x512, broadcastInDim S12x1x64x512 ![0, 2, 3] bcast_S12x64x512_S12x1x64x512_0_2_3 (win5 t)⟩,
    ⟨S12x1x64x512, broadcastInDim S12x1x64x512 ![0, 2, 3] bcast_S12x64x512_S12x1x64x512_0_2_3 (win6 t)⟩,
    ⟨S12x1x64x512, broadcastInDim S12x1x64x512 ![0, 2, 3] bcast_S12x64x512_S12x1x64x512_0_2_3 (win7 t)⟩] concatenates_S12x1x64x512_S12x1x64x512_S12x1x64x512_S12x1x64x512_S12x1x64x512_S12x1x64x512_S12x1x64x512_S12x1x64x512_S12x8x64x512_d1

theorem cols_congr (t : Cols) (h : Fin 12) (x : Fin 64) {a a' : Fin 15} {k k' : Fin 64} (ha : a.val = a'.val) (hk : k.val = k'.val) :
    t (ix4 h a x k) = t (ix4 h a' x k') := by
  rw [Fin.ext ha, Fin.ext hk]

theorem win0_at (t : Cols) (h : Fin 12) (x : Fin 64) (n : Fin 512) :
    win0 t (ix3 h x n) = t (ix4 h ⟨0 + n.val / 64, by omega⟩ x (icol n)) := by
  pointwise [win0]
  repeat' split
  all_goals exact cols_congr t h x (by simp only [Fin.isValue]; first | omega | (simp; omega)) (by simp only [icol]; omega)

theorem win1_at (t : Cols) (h : Fin 12) (x : Fin 64) (n : Fin 512) :
    win1 t (ix3 h x n) = t (ix4 h ⟨1 + n.val / 64, by omega⟩ x (icol n)) := by
  pointwise [win1]
  repeat' split
  all_goals exact cols_congr t h x (by simp only [Fin.isValue]; first | omega | (simp; omega)) (by simp only [icol]; omega)

theorem win2_at (t : Cols) (h : Fin 12) (x : Fin 64) (n : Fin 512) :
    win2 t (ix3 h x n) = t (ix4 h ⟨2 + n.val / 64, by omega⟩ x (icol n)) := by
  pointwise [win2]
  repeat' split
  all_goals exact cols_congr t h x (by simp only [Fin.isValue]; first | omega | (simp; omega)) (by simp only [icol]; omega)

theorem win3_at (t : Cols) (h : Fin 12) (x : Fin 64) (n : Fin 512) :
    win3 t (ix3 h x n) = t (ix4 h ⟨3 + n.val / 64, by omega⟩ x (icol n)) := by
  pointwise [win3]
  repeat' split
  all_goals exact cols_congr t h x (by simp only [Fin.isValue]; first | omega | (simp; omega)) (by simp only [icol]; omega)

theorem win4_at (t : Cols) (h : Fin 12) (x : Fin 64) (n : Fin 512) :
    win4 t (ix3 h x n) = t (ix4 h ⟨4 + n.val / 64, by omega⟩ x (icol n)) := by
  pointwise [win4]
  repeat' split
  all_goals exact cols_congr t h x (by simp only [Fin.isValue]; first | omega | (simp; omega)) (by simp only [icol]; omega)

theorem win5_at (t : Cols) (h : Fin 12) (x : Fin 64) (n : Fin 512) :
    win5 t (ix3 h x n) = t (ix4 h ⟨5 + n.val / 64, by omega⟩ x (icol n)) := by
  pointwise [win5]
  repeat' split
  all_goals exact cols_congr t h x (by simp only [Fin.isValue]; first | omega | (simp; omega)) (by simp only [icol]; omega)

theorem win6_at (t : Cols) (h : Fin 12) (x : Fin 64) (n : Fin 512) :
    win6 t (ix3 h x n) = t (ix4 h ⟨6 + n.val / 64, by omega⟩ x (icol n)) := by
  pointwise [win6]
  repeat' split
  all_goals exact cols_congr t h x (by simp only [Fin.isValue]; first | omega | (simp; omega)) (by simp only [icol]; omega)

theorem win7_at (t : Cols) (h : Fin 12) (x : Fin 64) (n : Fin 512) :
    win7 t (ix3 h x n) = t (ix4 h ⟨7 + n.val / 64, by omega⟩ x (icol n)) := by
  pointwise [win7]
  repeat' split
  all_goals exact cols_congr t h x (by simp only [Fin.isValue]; first | omega | (simp; omega)) (by simp only [icol]; omega)

theorem wins_at (t : Cols) (h : Fin 12) (w : Fin 8) (x : Fin 64) (n : Fin 512) :
    wins t (ix4 h w x n) = t (ix4 h ⟨w.val + n.val / 64, by omega⟩ x (icol n)) := by
  pointwise [wins]
  simp only [win0_at, win1_at, win2_at, win3_at, win4_at, win5_at, win6_at, win7_at]
  repeat' split
  all_goals exact cols_congr t h x (by simp only; omega) rfl

/-- The column mask: whether key column `k` lies in query column `x`'s window. -/
def cstart : IVec S64 32 :=
  minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))
def cmask : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 cstart)))
    (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 cstart) (broadcastInDim S64x1 ![] bcast_S_S64x1 (constantI S_ 32 16#32)))))
/-- The relative column of each query column and key column, before and after the wrap of negative words. -/
def crel : IVec S64x64 32 :=
  minsi (broadcastInDim S64x64 ![] bcast_S_S64x64 (id (constantI S_ 32 30#32))) (maxsi (broadcastInDim S64x64 ![] bcast_S_S64x64 (id (constantI S_ 32 0#32)))
    (subi (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 16#32))) (broadcastInDim S64x64 ![] bcast_S_S64x64 (constantI S_ 32 1#32))))
def cidx : IVec S64x64x1 32 :=
  broadcastInDim S64x64x1 ![0, 1] bcast_S64x64_S64x64x1_0_1 (select (cmpi .slt crel (broadcastInDim S64x64 ![] bcast_S_S64x64 (constantI S_ 32 0#32))) (addi crel (broadcastInDim S64x64 ![] bcast_S_S64x64 (constantI S_ 32 31#32))) crel)
/-- The masked bias. -/
def cols (A2 : Rpb) : Cols :=
  select (broadcastInDim S12x15x64x64 ![0, 1, 2, 3] bcast_S1x1x64x64_S12x15x64x64_0_1_2_3 (broadcastInDim S1x1x64x64 ![2, 3] bcast_S64x64_S1x1x64x64_2_3 cmask))
    (Host.gather gather_S12x15x31_S64x64x1_S12x15x64x64_01_2_n_n_2_2_12151 A2 cidx) (broadcastInDim S12x15x64x64 ![] bcast_S_S12x15x64x64 (id (constant S_ .f32 0xFF800000#32)))

theorem cmask_at (x k : Fin 64) : @Eq (BitVec 1) (cmask (ix2 x k)) (if inWin x k then 1#1 else 0#1) := by
  pointwise [cmask, cstart]
  revert x k
  decide +kernel

theorem crel_at (x k : Fin 64) : @Eq (BitVec 32) (crel (ix2 x k)) (BitVec.ofNat 32 (bcol x k).val) := by
  pointwise [crel]
  revert x k
  decide +kernel

theorem cidx_word (x k : Fin 64) : (cidx (ix3 x k 0)).toInt.toNat = (bcol x k).val := by
  pointwise [cidx]
  rw [crel_at]
  revert x k
  decide +kernel

/-- The gather of the bias table's columns. -/
theorem gather_cols (x : S12x15x31.Idx → EReal) (idx : IVec S64x64x1 32) (h : Fin 12) (w : Fin 15) (q k : Fin 64)
    (n : Fin 31) (hn : (idx (ix3 q k 0)).toInt.toNat = n.val) :
    Host.gather gather_S12x15x31_S64x64x1_S12x15x64x64_01_2_n_n_2_2_12151 x idx (ix4 h w q k) = x (ix3 h w n) := by
  unfold Host.gather
  congr 1
  funext a
  refine Fin.ext ?_
  set G := gather_S12x15x31_S64x64x1_S12x15x64x64_01_2_n_n_2_2_12151 with hG
  show G.start (ix4 h w q k) idx a + G.batchCoord (ix4 h w q k) a + G.offCoord (ix4 h w q k) a = _
  rw [GatherDims.batchCoord_eq_zero _ _ _ List.not_mem_nil]
  match a with
  | ⟨0, _⟩ => exact (Nat.zero_add _).trans rfl
  | ⟨1, _⟩ => exact (Nat.zero_add _).trans rfl
  | ⟨2, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : G.siIdx (ix4 h w q k) ⟨List.idxOf (2 : Fin 3) G.startIndexMap,
        List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    refine (congrArg (fun j => min (idx j).toInt.toNat 30) hsi).trans ?_
    show min (idx (ix3 q k 0)).toInt.toNat 30 = n.val
    omega

theorem cols_at (A2 : Rpb) (h : Fin 12) (w : Fin 15) (x k : Fin 64) :
    cols A2 (ix4 h w x k) = if inWin x k then A2 (ix3 h w (bcol x k)) else ⊥ := by
  have e := gather_cols A2 cidx h w x k (bcol x k) (cidx_word x k)
  pointwise [cols]
  rw [cmask_at, e, show (id (constant (F := Ideal) S_ FTy.f32 4286578688#32) ix0 : EReal) = ⊥ from ofBits_ninf]
  by_cases hx : inWin x k
  · rw [if_pos hx, if_pos hx]; rfl
  · rw [if_neg hx, if_neg hx]; rfl

theorem cols_bias (A2 : Rpb) (h : Fin 12) (w : Fin 8) (x : Fin 64) (n : Fin 512) :
    wins (cols A2) (ix4 h w x n) = biasWin A2 h w x n := by
  rw [wins_at, cols_at]
  rfl

end Cert.NA.Kernel
-- ==== Proof.Entry.lean ====
/- What the host lines before the kernel leave in its operands. -/
module

public import proofs.«01_k».proof.Proof.Bias

@[expose] public section

set_option maxRecDepth 16384

noncomputable section

open Idealize.ShloMosaic Idealize.ShloMosaic.TcCoe Idealize.SL.Sem
open Cert.KernelIdeal Cert.KernelIdeal.Gen

namespace Cert.NA.Kernel

set_option maxHeartbeats 4000000 in
theorem cols_read (A : Valuation τ sig (Elt Ideal)) :
    StableHlo.after (hostOps0 ++ hostOps0_1 ++ hostOps0_2 ++ hostOps0_3 ++ hostOps0_4 ++ hostOps0_5) A (Proc.devRef .tc main_v37)
      = cols (A (Proc.devRef .tc main_arg2)) := by
  simp only [StableHlo.after_append]
  after_results_simp
  rfl

set_option maxHeartbeats 40000000 in
theorem keep_v0 (A : Valuation τ sig (Elt Ideal)) :
    StableHlo.after (hostOps0_1 ++ hostOps0_2 ++ hostOps0_3 ++ hostOps0_4 ++ hostOps0_5 ++ hostOps0_6) A (Proc.devRef .tc main_v0) = A (Proc.devRef .tc main_v0) :=
  StableHlo.after_of_forall_not_mem (b := Proc.devRef .tc main_v0) _ _ (List.forall_iff_forall_mem.mp (by
    simp only [hostOps0_1, hostOps0_2, hostOps0_3, hostOps0_4, hostOps0_5, hostOps0_6, List.append_assoc, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 40000000 in
theorem keep_v1 (A : Valuation τ sig (Elt Ideal)) :
    StableHlo.after (hostOps0_1 ++ hostOps0_2 ++ hostOps0_3 ++ hostOps0_4 ++ hostOps0_5 ++ hostOps0_6) A (Proc.devRef .tc main_v1) = A (Proc.devRef .tc main_v1) :=
  StableHlo.after_of_forall_not_mem (b := Proc.devRef .tc main_v1) _ _ (List.forall_iff_forall_mem.mp (by
    simp only [hostOps0_1, hostOps0_2, hostOps0_3, hostOps0_4, hostOps0_5, hostOps0_6, List.append_assoc, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

variable (m : (ℓ : Loc nD τ sig) → Buf (Elt Ideal) ℓ) (c : Dev nD)

theorem V_gainq (d : Fin 128) : V m c main_v0 (ix2 0 d) = m ((c : Thread nD τ).loc main_arg3) (ix1 d) := by
  have e : V m c main_v0 = StableHlo.after (hostOps0_1 ++ hostOps0_2 ++ hostOps0_3 ++ hostOps0_4 ++ hostOps0_5 ++ hostOps0_6) (StableHlo.after hostOps0 fun b => m (c, b)) (Proc.devRef .tc main_v0) := by
    rw [← StableHlo.after_append]
    show StableHlo.after (List.flatten _) _ _ = _
    simp only [List.flatten_cons, List.flatten_nil, List.append_nil, List.append_assoc]
  have e' : StableHlo.after hostOps0 (fun b => m (c, b)) (Proc.devRef .tc main_v0) = shapeCast _ (m ((c : Thread nD τ).loc main_arg3)) shapeCasts_S128_S1x128 := by
    after_results_simp
    rfl
  rw [e, keep_v0, e']
  pointwise

theorem V_gaink (d : Fin 128) : V m c main_v1 (ix2 0 d) = m ((c : Thread nD τ).loc main_arg4) (ix1 d) := by
  have e : V m c main_v1 = StableHlo.after (hostOps0_1 ++ hostOps0_2 ++ hostOps0_3 ++ hostOps0_4 ++ hostOps0_5 ++ hostOps0_6) (StableHlo.after hostOps0 fun b => m (c, b)) (Proc.devRef .tc main_v1) := by
    rw [← StableHlo.after_append]
    show StableHlo.after (List.flatten _) _ _ = _
    simp only [List.flatten_cons, List.flatten_nil, List.append_nil, List.append_assoc]
  have e' : StableHlo.after hostOps0 (fun b => m (c, b)) (Proc.devRef .tc main_v1) = shapeCast _ (m ((c : Thread nD τ).loc main_arg4)) shapeCasts_S128_S1x128 := by
    after_results_simp
    rfl
  rw [e, keep_v1, e']
  pointwise

end Cert.NA.Kernel
-- ==== Proof.Wins.lean ====
/- What the host lines before the kernel leave in its operands. -/
module

public import proofs.«01_k».proof.Proof.Bias

@[expose] public section

set_option maxRecDepth 16384

noncomputable section

open Idealize.ShloMosaic Idealize.ShloMosaic.TcCoe Idealize.SL.Sem
open Cert.KernelIdeal Cert.KernelIdeal.Gen

namespace Cert.NA.Kernel

/-- The host lines of window `w`: its eight slices, then their concatenation. -/
def slices (w : Nat) : List (HloOp τ sig (Elt Ideal)) := (hostOps0_6.drop (17 * w)).take 16
def join (w : Nat) : List (HloOp τ sig (Elt Ideal)) := (hostOps0_6.drop (17 * w + 16)).take 1
/-- The last host lines: the eight windows, stacked. -/
def stack : List (HloOp τ sig (Elt Ideal)) := hostOps0_6.drop 136

/-- One relative row of the masked bias. -/
abbrev Side := FVec Ideal S12x64x64 .f32
def side (a b c d e f g h : Side) : FVec Ideal S12x64x512 .f32 :=
  concatenate S12x64x512 2 [⟨S12x64x64, a⟩, ⟨S12x64x64, b⟩, ⟨S12x64x64, c⟩, ⟨S12x64x64, d⟩, ⟨S12x64x64, e⟩, ⟨S12x64x64, f⟩, ⟨S12x64x64, g⟩, ⟨S12x64x64, h⟩] concatenates_S12x64x64_S12x64x64_S12x64x64_S12x64x64_S12x64x64_S12x64x64_S12x64x64_S12x64x64_S12x64x512_d2

theorem s0_0 (A : Valuation τ sig (Elt Ideal)) : StableHlo.after (slices 0) A (Proc.devRef .tc main_v39)
    = shapeCast _ (extractStridedSlice S12x1x64x64 ![0, 0, 0, 0] (A (Proc.devRef .tc main_v37) : Cols) slices_S12x15x64x64_S12x1x64x64_0_0_0_0) shapeCasts_S12x1x64x64_S12x64x64 := by
  simp only [slices, hostOps0_6, Nat.reduceMul, Nat.reduceAdd, List.drop_succ_cons, List.take_succ_cons, List.drop_zero, List.take_zero]
  after_results_simp
  rfl

theorem s0_1 (A : Valuation τ sig (Elt Ideal)) : StableHlo.after (slices 0) A (Proc.devRef .tc main_v41)
    = shapeCast _ (extractStridedSlice S12x1x64x64 ![0, 1, 0, 0] (A (Proc.devRef .tc main_v37) : Cols) slices_S12x15x64x64_S12x1x64x64_0_1_0_0) shapeCasts_S12x1x64x64_S12x64x64 := by
  simp only [slices, hostOps0_6, Nat.reduceMul, Nat.reduceAdd, List.drop_succ_cons, List.take_succ_cons, List.drop_zero, List.take_zero]
  after_results_simp
  rfl

theorem s0_2 (A : Valuation τ sig (Elt Ideal)) : StableHlo.after (slices 0) A (Proc.devRef .tc main_v43)
    = shapeCast _ (extractStridedSlice S12x1x64x64 ![0, 2, 0, 0] (A (Proc.devRef .tc main_v37) : Cols) slices_S12x15x64x64_S12x1x64x64_0_2_0_0) shapeCasts_S12x1x64x64_S12x64x64 := by
  simp only [slices, hostOps0_6, Nat.reduceMul, Nat.reduceAdd, List.drop_succ_cons, List.take_succ_cons, List.drop_zero, List.take_zero]
  after_results_simp
  rfl

theorem s0_3 (A : Valuation τ sig (Elt Ideal)) : StableHlo.after (slices 0) A (Proc.devRef .tc main_v45)
    = shapeCast _ (extractStridedSlice S12x1x64x64 ![0, 3, 0, 0] (A (Proc.devRef .tc main_v37) : Cols) slices_S12x15x64x64_S12x1x64x64_0_3_0_0) shapeCasts_S12x1x64x64_S12x64x64 := by
  simp only [slices, hostOps0_6, Nat.reduceMul, Nat.reduceAdd, List.drop_succ_cons, List.take_succ_cons, List.drop_zero, List.take_zero]
  after_results_simp
  rfl

theorem s0_4 (A : Valuation τ sig (Elt Ideal)) : StableHlo.after (slices 0) A (Proc.devRef .tc main_v47)
    = shapeCast _ (extractStridedSlice S12x1x64x64 ![0, 4, 0, 0] (A (Proc.devRef .tc main_v37) : Cols) slices_S12x15x64x64_S12x1x64x64_0_4_0_0) shapeCasts_S12x1x64x64_S12x64x64 := by
  simp only [slices, hostOps0_6, Nat.reduceMul, Nat.reduceAdd, List.drop_succ_cons, List.take_succ_cons, List.drop_zero, List.take_zero]
  after_results_simp
  rfl

theorem s0_5 (A : Valuation τ sig (Elt Ideal)) : StableHlo.after (slices 0) A (Proc.devRef .tc main_v49)
    = shapeCast _ (extractStridedSlice S12x1x64x64 ![0, 5, 0, 0] (A (Proc.devRef .tc main_v37) : Cols) slices_S12x15x64x64_S12x1x64x64_0_5_0_0) shapeCasts_S12x1x64x64_S12x64x64 := by
  simp only [slices, hostOps0_6, Nat.reduceMul, Nat.reduceAdd, List.drop_succ_cons, List.take_succ_cons, List.drop_zero, List.take_zero]
  after_results_simp
  rfl

theorem s0_6 (A : Valuation τ sig (Elt Ideal)) : StableHlo.after (slices 0) A (Proc.devRef .tc main_v51)
    = shapeCast _ (extractStridedSlice S12x1x64x64 ![0, 6, 0, 0] (A (Proc.devRef .tc main_v37) : Cols) slices_S12x15x64x64_S12x1x64x64_0_6_0_0) shapeCasts_S12x1x64x64_S12x64x64 := by
  simp only [slices, hostOps0_6, Nat.reduceMul, Nat.reduceAdd, List.drop_succ_cons, List.take_succ_cons, List.drop_zero, List.take_zero]
  after_results_simp
  rfl

theorem s0_7 (A : Valuation τ sig (Elt Ideal)) : StableHlo.after (slices 0) A (Proc.devRef .tc main_v53)
    = shapeCast _ (extractStridedSlice S12x1x64x64 ![0, 7, 0, 0] (A (Proc.devRef .tc main_v37) : Cols) slices_S12x15x64x64_S12x1x64x64_0_7_0_0) shapeCasts_S12x1x64x64_S12x64x64 := by
  simp only [slices, hostOps0_6, Nat.reduceMul, Nat.reduceAdd, List.drop_succ_cons, List.take_succ_cons, List.drop_zero, List.take_zero]
  after_results_simp
  rfl

theorem j0 (B : Valuation τ sig (Elt Ideal)) : StableHlo.after (join 0) B (Proc.devRef .tc main_v54)
    = side (B (Proc.devRef .tc main_v39)) (B (Proc.devRef .tc main_v41)) (B (Proc.devRef .tc main_v43)) (B (Proc.devRef .tc main_v45)) (B (Proc.devRef .tc main_v47)) (B (Proc.devRef .tc main_v49)) (B (Proc.devRef .tc main_v51)) (B (Proc.devRef .tc main_v53)) := rfl

theorem jk0 (B : Valuation τ sig (Elt Ideal)) (b : Ref sig .tc) (h : b ≠ main_v54) : StableHlo.after (join 0) B (Proc.devRef .tc b) = B (Proc.devRef .tc b) := by
  simp only [join, hostOps0_6, Nat.reduceMul, Nat.reduceAdd, List.drop_succ_cons, List.take_succ_cons, List.drop_zero, List.take_zero, StableHlo.after_cons, StableHlo.after_nil]
  exact StableHlo.nary_result_ne _ _ _ _ _ _ h

theorem k0_0 (A : Valuation τ sig (Elt Ideal)) : StableHlo.after (slices 0 ++ join 0) A (Proc.devRef .tc main_v37) = A (Proc.devRef .tc main_v37) := by
  have h : main_v37 ≠ main_v54 := by decide
  rw [StableHlo.after_append]
  refine (jk0 _ _ h).trans ?_
  simp only [slices, hostOps0_6, Nat.reduceMul, Nat.reduceAdd, List.drop_succ_cons, List.take_succ_cons, List.drop_zero, List.take_zero]
  after_results_simp

theorem w0 (A : Valuation τ sig (Elt Ideal)) : StableHlo.after (slices 0 ++ join 0) A (Proc.devRef .tc main_v54) = win0 (A (Proc.devRef .tc main_v37)) := by
  rw [StableHlo.after_append, j0, s0_0, s0_1, s0_2, s0_3, s0_4, s0_5, s0_6, s0_7]
  rfl

theorem s1_0 (A : Valuation τ sig (Elt Ideal)) : StableHlo.after (slices 1) A (Proc.devRef .tc main_v56)
    = shapeCast _ (extractStridedSlice S12x1x64x64 ![0, 1, 0, 0] (A (Proc.devRef .tc main_v37) : Cols) slices_S12x15x64x64_S12x1x64x64_0_1_0_0) shapeCasts_S12x1x64x64_S12x64x64 := by
  simp only [slices, hostOps0_6, Nat.reduceMul, Nat.reduceAdd, List.drop_succ_cons, List.take_succ_cons, List.drop_zero, List.take_zero]
  after_results_simp
  rfl

theorem s1_1 (A : Valuation τ sig (Elt Ideal)) : StableHlo.after (slices 1) A (Proc.devRef .tc main_v58)
    = shapeCast _ (extractStridedSlice S12x1x64x64 ![0, 2, 0, 0] (A (Proc.devRef .tc main_v37) : Cols) slices_S12x15x64x64_S12x1x64x64_0_2_0_0) shapeCasts_S12x1x64x64_S12x64x64 := by
  simp only [slices, hostOps0_6, Nat.reduceMul, Nat.reduceAdd, List.drop_succ_cons, List.take_succ_cons, List.drop_zero, List.take_zero]
  after_results_simp
  rfl

theorem s1_2 (A : Valuation τ sig (Elt Ideal)) : StableHlo.after (slices 1) A (Proc.devRef .tc main_v60)
    = shapeCast _ (extractStridedSlice S12x1x64x64 ![0, 3, 0, 0] (A (Proc.devRef .tc main_v37) : Cols) slices_S12x15x64x64_S12x1x64x64_0_3_0_0) shapeCasts_S12x1x64x64_S12x64x64 := by
  simp only [slices, hostOps0_6, Nat.reduceMul, Nat.reduceAdd, List.drop_succ_cons, List.take_succ_cons, List.drop_zero, List.take_zero]
  after_results_simp
  rfl

theorem s1_3 (A : Valuation τ sig (Elt Ideal)) : StableHlo.after (slices 1) A (Proc.devRef .tc main_v62)
    = shapeCast _ (extractStridedSlice S12x1x64x64 ![0, 4, 0, 0] (A (Proc.devRef .tc main_v37) : Cols) slices_S12x15x64x64_S12x1x64x64_0_4_0_0) shapeCasts_S12x1x64x64_S12x64x64 := by
  simp only [slices, hostOps0_6, Nat.reduceMul, Nat.reduceAdd, List.drop_succ_cons, List.take_succ_cons, List.drop_zero, List.take_zero]
  after_results_simp
  rfl

theorem s1_4 (A : Valuation τ sig (Elt Ideal)) : StableHlo.after (slices 1) A (Proc.devRef .tc main_v64)
    = shapeCast _ (extractStridedSlice S12x1x64x64 ![0, 5, 0, 0] (A (Proc.devRef .tc main_v37) : Cols) slices_S12x15x64x64_S12x1x64x64_0_5_0_0) shapeCasts_S12x1x64x64_S12x64x64 := by
  simp only [slices, hostOps0_6, Nat.reduceMul, Nat.reduceAdd, List.drop_succ_cons, List.take_succ_cons, List.drop_zero, List.take_zero]
  after_results_simp
  rfl

theorem s1_5 (A : Valuation τ sig (Elt Ideal)) : StableHlo.after (slices 1) A (Proc.devRef .tc main_v66)
    = shapeCast _ (extractStridedSlice S12x1x64x64 ![0, 6, 0, 0] (A (Proc.devRef .tc main_v37) : Cols) slices_S12x15x64x64_S12x1x64x64_0_6_0_0) shapeCasts_S12x1x64x64_S12x64x64 := by
  simp only [slices, hostOps0_6, Nat.reduceMul, Nat.reduceAdd, List.drop_succ_cons, List.take_succ_cons, List.drop_zero, List.take_zero]
  after_results_simp
  rfl

theorem s1_6 (A : Valuation τ sig (Elt Ideal)) : StableHlo.after (slices 1) A (Proc.devRef .tc main_v68)
    = shapeCast _ (extractStridedSlice S12x1x64x64 ![0, 7, 0, 0] (A (Proc.devRef .tc main_v37) : Cols) slices_S12x15x64x64_S12x1x64x64_0_7_0_0) shapeCasts_S12x1x64x64_S12x64x64 := by
  simp only [slices, hostOps0_6, Nat.reduceMul, Nat.reduceAdd, List.drop_succ_cons, List.take_succ_cons, List.drop_zero, List.take_zero]
  after_results_simp
  rfl

theorem s1_7 (A : Valuation τ sig (Elt Ideal)) : StableHlo.after (slices 1) A (Proc.devRef .tc main_v70)
    = shapeCast _ (extractStridedSlice S12x1x64x64 ![0, 8, 0, 0] (A (Proc.devRef .tc main_v37) : Cols) slices_S12x15x64x64_S12x1x64x64_0_8_0_0) shapeCasts_S12x1x64x64_S12x64x64 := by
  simp only [slices, hostOps0_6, Nat.reduceMul, Nat.reduceAdd, List.drop_succ_cons, List.take_succ_cons, List.drop_zero, List.take_zero]
  after_results_simp
  rfl

theorem j1 (B : Valuation τ sig (Elt Ideal)) : StableHlo.after (join 1) B (Proc.devRef .tc main_v71)
    = side (B (Proc.devRef .tc main_v56)) (B (Proc.devRef .tc main_v58)) (B (Proc.devRef .tc main_v60)) (B (Proc.devRef .tc main_v62)) (B (Proc.devRef .tc main_v64)) (B (Proc.devRef .tc main_v66)) (B (Proc.devRef .tc main_v68)) (B (Proc.devRef .tc main_v70)) := rfl

theorem jk1 (B : Valuation τ sig (Elt Ideal)) (b : Ref sig .tc) (h : b ≠ main_v71) : StableHlo.after (join 1) B (Proc.devRef .tc b) = B (Proc.devRef .tc b) := by
  simp only [join, hostOps0_6, Nat.reduceMul, Nat.reduceAdd, List.drop_succ_cons, List.take_succ_cons, List.drop_zero, List.take_zero, StableHlo.after_cons, StableHlo.after_nil]
  exact StableHlo.nary_result_ne _ _ _ _ _ _ h

theorem k1_0 (A : Valuation τ sig (Elt Ideal)) : StableHlo.after (slices 1 ++ join 1) A (Proc.devRef .tc main_v37) = A (Proc.devRef .tc main_v37) := by
  have h : main_v37 ≠ main_v71 := by decide
  rw [StableHlo.after_append]
  refine (jk1 _ _ h).trans ?_
  simp only [slices, hostOps0_6, Nat.reduceMul, Nat.reduceAdd, List.drop_succ_cons, List.take_succ_cons, List.drop_zero, List.take_zero]
  after_results_simp

theorem k1_1 (A : Valuation τ sig (Elt Ideal)) : StableHlo.after (slices 1 ++ join 1) A (Proc.devRef .tc main_v54) = A (Proc.devRef .tc main_v54) := by
  have h : main_v54 ≠ main_v71 := by decide
  rw [StableHlo.after_append]
  refine (jk1 _ _ h).trans ?_
  simp only [slices, hostOps0_6, Nat.reduceMul, Nat.reduceAdd, List.drop_succ_cons, List.take_succ_cons, List.drop_zero, List.take_zero]
  after_results_simp

theorem w1 (A : Valuation τ sig (Elt Ideal)) : StableHlo.after (slices 1 ++ join 1) A (Proc.devRef .tc main_v71) = win1 (A (Proc.devRef .tc main_v37)) := by
  rw [StableHlo.after_append, j1, s1_0, s1_1, s1_2, s1_3, s1_4, s1_5, s1_6, s1_7]
  rfl

theorem s2_0 (A : Valuation τ sig (Elt Ideal)) : StableHlo.after (slices 2) A (Proc.devRef .tc main_v73)
    = shapeCast _ (extractStridedSlice S12x1x64x64 ![0, 2, 0, 0] (A (Proc.devRef .tc main_v37) : Cols) slices_S12x15x64x64_S12x1x64x64_0_2_0_0) shapeCasts_S12x1x64x64_S12x64x64 := by
  simp only [slices, hostOps0_6, Nat.reduceMul, Nat.reduceAdd, List.drop_succ_cons, List.take_succ_cons, List.drop_zero, List.take_zero]
  after_results_simp
  rfl

theorem s2_1 (A : Valuation τ sig (Elt Ideal)) : StableHlo.after (slices 2) A (Proc.devRef .tc main_v75)
    = shapeCast _ (extractStridedSlice S12x1x64x64 ![0, 3, 0, 0] (A (Proc.devRef .tc main_v37) : Cols) slices_S12x15x64x64_S12x1x64x64_0_3_0_0) shapeCasts_S12x1x64x64_S12x64x64 := by
  simp only [slices, hostOps0_6, Nat.reduceMul, Nat.reduceAdd, List.drop_succ_cons, List.take_succ_cons, List.drop_zero, List.take_zero]
  after_results_simp
  rfl

theorem s2_2 (A : Valuation τ sig (Elt Ideal)) : StableHlo.after (slices 2) A (Proc.devRef .tc main_v77)
    = shapeCast _ (extractStridedSlice S12x1x64x64 ![0, 4, 0, 0] (A (Proc.devRef .tc main_v37) : Cols) slices_S12x15x64x64_S12x1x64x64_0_4_0_0) shapeCasts_S12x1x64x64_S12x64x64 := by
  simp only [slices, hostOps0_6, Nat.reduceMul, Nat.reduceAdd, List.drop_succ_cons, List.take_succ_cons, List.drop_zero, List.take_zero]
  after_results_simp
  rfl

theorem s2_3 (A : Valuation τ sig (Elt Ideal)) : StableHlo.after (slices 2) A (Proc.devRef .tc main_v79)
    = shapeCast _ (extractStridedSlice S12x1x64x64 ![0, 5, 0, 0] (A (Proc.devRef .tc main_v37) : Cols) slices_S12x15x64x64_S12x1x64x64_0_5_0_0) shapeCasts_S12x1x64x64_S12x64x64 := by
  simp only [slices, hostOps0_6, Nat.reduceMul, Nat.reduceAdd, List.drop_succ_cons, List.take_succ_cons, List.drop_zero, List.take_zero]
  after_results_simp
  rfl

theorem s2_4 (A : Valuation τ sig (Elt Ideal)) : StableHlo.after (slices 2) A (Proc.devRef .tc main_v81)
    = shapeCast _ (extractStridedSlice S12x1x64x64 ![0, 6, 0, 0] (A (Proc.devRef .tc main_v37) : Cols) slices_S12x15x64x64_S12x1x64x64_0_6_0_0) shapeCasts_S12x1x64x64_S12x64x64 := by
  simp only [slices, hostOps0_6, Nat.reduceMul, Nat.reduceAdd, List.drop_succ_cons, List.take_succ_cons, List.drop_zero, List.take_zero]
  after_results_simp
  rfl

theorem s2_5 (A : Valuation τ sig (Elt Ideal)) : StableHlo.after (slices 2) A (Proc.devRef .tc main_v83)
    = shapeCast _ (extractStridedSlice S12x1x64x64 ![0, 7, 0, 0] (A (Proc.devRef .tc main_v37) : Cols) slices_S12x15x64x64_S12x1x64x64_0_7_0_0) shapeCasts_S12x1x64x64_S12x64x64 := by
  simp only [slices, hostOps0_6, Nat.reduceMul, Nat.reduceAdd, List.drop_succ_cons, List.take_succ_cons, List.drop_zero, List.take_zero]
  after_results_simp
  rfl

theorem s2_6 (A : Valuation τ sig (Elt Ideal)) : StableHlo.after (slices 2) A (Proc.devRef .tc main_v85)
    = shapeCast _ (extractStridedSlice S12x1x64x64 ![0, 8, 0, 0] (A (Proc.devRef .tc main_v37) : Cols) slices_S12x15x64x64_S12x1x64x64_0_8_0_0) shapeCasts_S12x1x64x64_S12x64x64 := by
  simp only [slices, hostOps0_6, Nat.reduceMul, Nat.reduceAdd, List.drop_succ_cons, List.take_succ_cons, List.drop_zero, List.take_zero]
  after_results_simp
  rfl

theorem s2_7 (A : Valuation τ sig (Elt Ideal)) : StableHlo.after (slices 2) A (Proc.devRef .tc main_v87)
    = shapeCast _ (extractStridedSlice S12x1x64x64 ![0, 9, 0, 0] (A (Proc.devRef .tc main_v37) : Cols) slices_S12x15x64x64_S12x1x64x64_0_9_0_0) shapeCasts_S12x1x64x64_S12x64x64 := by
  simp only [slices, hostOps0_6, Nat.reduceMul, Nat.reduceAdd, List.drop_succ_cons, List.take_succ_cons, List.drop_zero, List.take_zero]
  after_results_simp
  rfl

theorem j2 (B : Valuation τ sig (Elt Ideal)) : StableHlo.after (join 2) B (Proc.devRef .tc main_v88)
    = side (B (Proc.devRef .tc main_v73)) (B (Proc.devRef .tc main_v75)) (B (Proc.devRef .tc main_v77)) (B (Proc.devRef .tc main_v79)) (B (Proc.devRef .tc main_v81)) (B (Proc.devRef .tc main_v83)) (B (Proc.devRef .tc main_v85)) (B (Proc.devRef .tc main_v87)) := rfl

theorem jk2 (B : Valuation τ sig (Elt Ideal)) (b : Ref sig .tc) (h : b ≠ main_v88) : StableHlo.after (join 2) B (Proc.devRef .tc b) = B (Proc.devRef .tc b) := by
  simp only [join, hostOps0_6, Nat.reduceMul, Nat.reduceAdd, List.drop_succ_cons, List.take_succ_cons, List.drop_zero, List.take_zero, StableHlo.after_cons, StableHlo.after_nil]
  exact StableHlo.nary_result_ne _ _ _ _ _ _ h

theorem k2_0 (A : Valuation τ sig (Elt Ideal)) : StableHlo.after (slices 2 ++ join 2) A (Proc.devRef .tc main_v37) = A (Proc.devRef .tc main_v37) := by
  have h : main_v37 ≠ main_v88 := by decide
  rw [StableHlo.after_append]
  refine (jk2 _ _ h).trans ?_
  simp only [slices, hostOps0_6, Nat.reduceMul, Nat.reduceAdd, List.drop_succ_cons, List.take_succ_cons, List.drop_zero, List.take_zero]
  after_results_simp

theorem k2_1 (A : Valuation τ sig (Elt Ideal)) : StableHlo.after (slices 2 ++ join 2) A (Proc.devRef .tc main_v54) = A (Proc.devRef .tc main_v54) := by
  have h : main_v54 ≠ main_v88 := by decide
  rw [StableHlo.after_append]
  refine (jk2 _ _ h).trans ?_
  simp only [slices, hostOps0_6, Nat.reduceMul, Nat.reduceAdd, List.drop_succ_cons, List.take_succ_cons, List.drop_zero, List.take_zero]
  after_results_simp

theorem k2_2 (A : Valuation τ sig (Elt Ideal)) : StableHlo.after (slices 2 ++ join 2) A (Proc.devRef .tc main_v71) = A (Proc.devRef .tc main_v71) := by
  have h : main_v71 ≠ main_v88 := by decide
  rw [StableHlo.after_append]
  refine (jk2 _ _ h).trans ?_
  simp only [slices, hostOps0_6, Nat.reduceMul, Nat.reduceAdd, List.drop_succ_cons, List.take_succ_cons, List.drop_zero, List.take_zero]
  after_results_simp

theorem w2 (A : Valuation τ sig (Elt Ideal)) : StableHlo.after (slices 2 ++ join 2) A (Proc.devRef .tc main_v88) = win2 (A (Proc.devRef .tc main_v37)) := by
  rw [StableHlo.after_append, j2, s2_0, s2_1, s2_2, s2_3, s2_4, s2_5, s2_6, s2_7]
  rfl

theorem s3_0 (A : Valuation τ sig (Elt Ideal)) : StableHlo.after (slices 3) A (Proc.devRef .tc main_v90)
    = shapeCast _ (extractStridedSlice S12x1x64x64 ![0, 3, 0, 0] (A (Proc.devRef .tc main_v37) : Cols) slices_S12x15x64x64_S12x1x64x64_0_3_0_0) shapeCasts_S12x1x64x64_S12x64x64 := by
  simp only [slices, hostOps0_6, Nat.reduceMul, Nat.reduceAdd, List.drop_succ_cons, List.take_succ_cons, List.drop_zero, List.take_zero]
  after_results_simp
  rfl

theorem s3_1 (A : Valuation τ sig (Elt Ideal)) : StableHlo.after (slices 3) A (Proc.devRef .tc main_v92)
    = shapeCast _ (extractStridedSlice S12x1x64x64 ![0, 4, 0, 0] (A (Proc.devRef .tc main_v37) : Cols) slices_S12x15x64x64_S12x1x64x64_0_4_0_0) shapeCasts_S12x1x64x64_S12x64x64 := by
  simp only [slices, hostOps0_6, Nat.reduceMul, Nat.reduceAdd, List.drop_succ_cons, List.take_succ_cons, List.drop_zero, List.take_zero]
  after_results_simp
  rfl

theorem s3_2 (A : Valuation τ sig (Elt Ideal)) : StableHlo.after (slices 3) A (Proc.devRef .tc main_v94)
    = shapeCast _ (extractStridedSlice S12x1x64x64 ![0, 5, 0, 0] (A (Proc.devRef .tc main_v37) : Cols) slices_S12x15x64x64_S12x1x64x64_0_5_0_0) shapeCasts_S12x1x64x64_S12x64x64 := by
  simp only [slices, hostOps0_6, Nat.reduceMul, Nat.reduceAdd, List.drop_succ_cons, List.take_succ_cons, List.drop_zero, List.take_zero]
  after_results_simp
  rfl

theorem s3_3 (A : Valuation τ sig (Elt Ideal)) : StableHlo.after (slices 3) A (Proc.devRef .tc main_v96)
    = shapeCast _ (extractStridedSlice S12x1x64x64 ![0, 6, 0, 0] (A (Proc.devRef .tc main_v37) : Cols) slices_S12x15x64x64_S12x1x64x64_0_6_0_0) shapeCasts_S12x1x64x64_S12x64x64 := by
  simp only [slices, hostOps0_6, Nat.reduceMul, Nat.reduceAdd, List.drop_succ_cons, List.take_succ_cons, List.drop_zero, List.take_zero]
  after_results_simp
  rfl

theorem s3_4 (A : Valuation τ sig (Elt Ideal)) : StableHlo.after (slices 3) A (Proc.devRef .tc main_v98)
    = shapeCast _ (extractStridedSlice S12x1x64x64 ![0, 7, 0, 0] (A (Proc.devRef .tc main_v37) : Cols) slices_S12x15x64x64_S12x1x64x64_0_7_0_0) shapeCasts_S12x1x64x64_S12x64x64 := by
  simp only [slices, hostOps0_6, Nat.reduceMul, Nat.reduceAdd, List.drop_succ_cons, List.take_succ_cons, List.drop_zero, List.take_zero]
  after_results_simp
  rfl

theorem s3_5 (A : Valuation τ sig (Elt Ideal)) : StableHlo.after (slices 3) A (Proc.devRef .tc main_v100)
    = shapeCast _ (extractStridedSlice S12x1x64x64 ![0, 8, 0, 0] (A (Proc.devRef .tc main_v37) : Cols) slices_S12x15x64x64_S12x1x64x64_0_8_0_0) shapeCasts_S12x1x64x64_S12x64x64 := by
  simp only [slices, hostOps0_6, Nat.reduceMul, Nat.reduceAdd, List.drop_succ_cons, List.take_succ_cons, List.drop_zero, List.take_zero]
  after_results_simp
  rfl

theorem s3_6 (A : Valuation τ sig (Elt Ideal)) : StableHlo.after (slices 3) A (Proc.devRef .tc main_v102)
    = shapeCast _ (extractStridedSlice S12x1x64x64 ![0, 9, 0, 0] (A (Proc.devRef .tc main_v37) : Cols) slices_S12x15x64x64_S12x1x64x64_0_9_0_0) shapeCasts_S12x1x64x64_S12x64x64 := by
  simp only [slices, hostOps0_6, Nat.reduceMul, Nat.reduceAdd, List.drop_succ_cons, List.take_succ_cons, List.drop_zero, List.take_zero]
  after_results_simp
  rfl

theorem s3_7 (A : Valuation τ sig (Elt Ideal)) : StableHlo.after (slices 3) A (Proc.devRef .tc main_v104)
    = shapeCast _ (extractStridedSlice S12x1x64x64 ![0, 10, 0, 0] (A (Proc.devRef .tc main_v37) : Cols) slices_S12x15x64x64_S12x1x64x64_0_10_0_0) shapeCasts_S12x1x64x64_S12x64x64 := by
  simp only [slices, hostOps0_6, Nat.reduceMul, Nat.reduceAdd, List.drop_succ_cons, List.take_succ_cons, List.drop_zero, List.take_zero]
  after_results_simp
  rfl

theorem j3 (B : Valuation τ sig (Elt Ideal)) : StableHlo.after (join 3) B (Proc.devRef .tc main_v105)
    = side (B (Proc.devRef .tc main_v90)) (B (Proc.devRef .tc main_v92)) (B (Proc.devRef .tc main_v94)) (B (Proc.devRef .tc main_v96)) (B (Proc.devRef .tc main_v98)) (B (Proc.devRef .tc main_v100)) (B (Proc.devRef .tc main_v102)) (B (Proc.devRef .tc main_v104)) := rfl

theorem jk3 (B : Valuation τ sig (Elt Ideal)) (b : Ref sig .tc) (h : b ≠ main_v105) : StableHlo.after (join 3) B (Proc.devRef .tc b) = B (Proc.devRef .tc b) := by
  simp only [join, hostOps0_6, Nat.reduceMul, Nat.reduceAdd, List.drop_succ_cons, List.take_succ_cons, List.drop_zero, List.take_zero, StableHlo.after_cons, StableHlo.after_nil]
  exact StableHlo.nary_result_ne _ _ _ _ _ _ h

theorem k3_0 (A : Valuation τ sig (Elt Ideal)) : StableHlo.after (slices 3 ++ join 3) A (Proc.devRef .tc main_v37) = A (Proc.devRef .tc main_v37) := by
  have h : main_v37 ≠ main_v105 := by decide
  rw [StableHlo.after_append]
  refine (jk3 _ _ h).trans ?_
  simp only [slices, hostOps0_6, Nat.reduceMul, Nat.reduceAdd, List.drop_succ_cons, List.take_succ_cons, List.drop_zero, List.take_zero]
  after_results_simp

theorem k3_1 (A : Valuation τ sig (Elt Ideal)) : StableHlo.after (slices 3 ++ join 3) A (Proc.devRef .tc main_v54) = A (Proc.devRef .tc main_v54) := by
  have h : main_v54 ≠ main_v105 := by decide
  rw [StableHlo.after_append]
  refine (jk3 _ _ h).trans ?_
  simp only [slices, hostOps0_6, Nat.reduceMul, Nat.reduceAdd, List.drop_succ_cons, List.take_succ_cons, List.drop_zero, List.take_zero]
  after_results_simp

theorem k3_2 (A : Valuation τ sig (Elt Ideal)) : StableHlo.after (slices 3 ++ join 3) A (Proc.devRef .tc main_v71) = A (Proc.devRef .tc main_v71) := by
  have h : main_v71 ≠ main_v105 := by decide
  rw [StableHlo.after_append]
  refine (jk3 _ _ h).trans ?_
  simp only [slices, hostOps0_6, Nat.reduceMul, Nat.reduceAdd, List.drop_succ_cons, List.take_succ_cons, List.drop_zero, List.take_zero]
  after_results_simp

theorem k3_3 (A : Valuation τ sig (Elt Ideal)) : StableHlo.after (slices 3 ++ join 3) A (Proc.devRef .tc main_v88) = A (Proc.devRef .tc main_v88) := by
  have h : main_v88 ≠ main_v105 := by decide
  rw [StableHlo.after_append]
  refine (jk3 _ _ h).trans ?_
  simp only [slices, hostOps0_6, Nat.reduceMul, Nat.reduceAdd, List.drop_succ_cons, List.take_succ_cons, List.drop_zero, List.take_zero]
  after_results_simp

theorem w3 (A : Valuation τ sig (Elt Ideal)) : StableHlo.after (slices 3 ++ join 3) A (Proc.devRef .tc main_v105) = win3 (A (Proc.devRef .tc main_v37)) := by
  rw [StableHlo.after_append, j3, s3_0, s3_1, s3_2, s3_3, s3_4, s3_5, s3_6, s3_7]
  rfl

theorem s4_0 (A : Valuation τ sig (Elt Ideal)) : StableHlo.after (slices 4) A (Proc.devRef .tc main_v107)
    = shapeCast _ (extractStridedSlice S12x1x64x64 ![0, 4, 0, 0] (A (Proc.devRef .tc main_v37) : Cols) slices_S12x15x64x64_S12x1x64x64_0_4_0_0) shapeCasts_S12x1x64x64_S12x64x64 := by
  simp only [slices, hostOps0_6, Nat.reduceMul, Nat.reduceAdd, List.drop_succ_cons, List.take_succ_cons, List.drop_zero, List.take_zero]
  after_results_simp
  rfl

theorem s4_1 (A : Valuation τ sig (Elt Ideal)) : StableHlo.after (slices 4) A (Proc.devRef .tc main_v109)
    = shapeCast _ (extractStridedSlice S12x1x64x64 ![0, 5, 0, 0] (A (Proc.devRef .tc main_v37) : Cols) slices_S12x15x64x64_S12x1x64x64_0_5_0_0) shapeCasts_S12x1x64x64_S12x64x64 := by
  simp only [slices, hostOps0_6, Nat.reduceMul, Nat.reduceAdd, List.drop_succ_cons, List.take_succ_cons, List.drop_zero, List.take_zero]
  after_results_simp
  rfl

theorem s4_2 (A : Valuation τ sig (Elt Ideal)) : StableHlo.after (slices 4) A (Proc.devRef .tc main_v111)
    = shapeCast _ (extractStridedSlice S12x1x64x64 ![0, 6, 0, 0] (A (Proc.devRef .tc main_v37) : Cols) slices_S12x15x64x64_S12x1x64x64_0_6_0_0) shapeCasts_S12x1x64x64_S12x64x64 := by
  simp only [slices, hostOps0_6, Nat.reduceMul, Nat.reduceAdd, List.drop_succ_cons, List.take_succ_cons, List.drop_zero, List.take_zero]
  after_results_simp
  rfl

theorem s4_3 (A : Valuation τ sig (Elt Ideal)) : StableHlo.after (slices 4) A (Proc.devRef .tc main_v113)
    = shapeCast _ (extractStridedSlice S12x1x64x64 ![0, 7, 0, 0] (A (Proc.devRef .tc main_v37) : Cols) slices_S12x15x64x64_S12x1x64x64_0_7_0_0) shapeCasts_S12x1x64x64_S12x64x64 := by
  simp only [slices, hostOps0_6, Nat.reduceMul, Nat.reduceAdd, List.drop_succ_cons, List.take_succ_cons, List.drop_zero, List.take_zero]
  after_results_simp
  rfl

theorem s4_4 (A : Valuation τ sig (Elt Ideal)) : StableHlo.after (slices 4) A (Proc.devRef .tc main_v115)
    = shapeCast _ (extractStridedSlice S12x1x64x64 ![0, 8, 0, 0] (A (Proc.devRef .tc main_v37) : Cols) slices_S12x15x64x64_S12x1x64x64_0_8_0_0) shapeCasts_S12x1x64x64_S12x64x64 := by
  simp only [slices, hostOps0_6, Nat.reduceMul, Nat.reduceAdd, List.drop_succ_cons, List.take_succ_cons, List.drop_zero, List.take_zero]
  after_results_simp
  rfl

theorem s4_5 (A : Valuation τ sig (Elt Ideal)) : StableHlo.after (slices 4) A (Proc.devRef .tc main_v117)
    = shapeCast _ (extractStridedSlice S12x1x64x64 ![0, 9, 0, 0] (A (Proc.devRef .tc main_v37) : Cols) slices_S12x15x64x64_S12x1x64x64_0_9_0_0) shapeCasts_S12x1x64x64_S12x64x64 := by
  simp only [slices, hostOps0_6, Nat.reduceMul, Nat.reduceAdd, List.drop_succ_cons, List.take_succ_cons, List.drop_zero, List.take_zero]
  after_results_simp
  rfl

theorem s4_6 (A : Valuation τ sig (Elt Ideal)) : StableHlo.after (slices 4) A (Proc.devRef .tc main_v119)
    = shapeCast _ (extractStridedSlice S12x1x64x64 ![0, 10, 0, 0] (A (Proc.devRef .tc main_v37) : Cols) slices_S12x15x64x64_S12x1x64x64_0_10_0_0) shapeCasts_S12x1x64x64_S12x64x64 := by
  simp only [slices, hostOps0_6, Nat.reduceMul, Nat.reduceAdd, List.drop_succ_cons, List.take_succ_cons, List.drop_zero, List.take_zero]
  after_results_simp
  rfl

theorem s4_7 (A : Valuation τ sig (Elt Ideal)) : StableHlo.after (slices 4) A (Proc.devRef .tc main_v121)
    = shapeCast _ (extractStridedSlice S12x1x64x64 ![0, 11, 0, 0] (A (Proc.devRef .tc main_v37) : Cols) slices_S12x15x64x64_S12x1x64x64_0_11_0_0) shapeCasts_S12x1x64x64_S12x64x64 := by
  simp only [slices, hostOps0_6, Nat.reduceMul, Nat.reduceAdd, List.drop_succ_cons, List.take_succ_cons, List.drop_zero, List.take_zero]
  after_results_simp
  rfl

theorem j4 (B : Valuation τ sig (Elt Ideal)) : StableHlo.after (join 4) B (Proc.devRef .tc main_v122)
    = side (B (Proc.devRef .tc main_v107)) (B (Proc.devRef .tc main_v109)) (B (Proc.devRef .tc main_v111)) (B (Proc.devRef .tc main_v113)) (B (Proc.devRef .tc main_v115)) (B (Proc.devRef .tc main_v117)) (B (Proc.devRef .tc main_v119)) (B (Proc.devRef .tc main_v121)) := rfl

theorem jk4 (B : Valuation τ sig (Elt Ideal)) (b : Ref sig .tc) (h : b ≠ main_v122) : StableHlo.after (join 4) B (Proc.devRef .tc b) = B (Proc.devRef .tc b) := by
  simp only [join, hostOps0_6, Nat.reduceMul, Nat.reduceAdd, List.drop_succ_cons, List.take_succ_cons, List.drop_zero, List.take_zero, StableHlo.after_cons, StableHlo.after_nil]
  exact StableHlo.nary_result_ne _ _ _ _ _ _ h

theorem k4_0 (A : Valuation τ sig (Elt Ideal)) : StableHlo.after (slices 4 ++ join 4) A (Proc.devRef .tc main_v37) = A (Proc.devRef .tc main_v37) := by
  have h : main_v37 ≠ main_v122 := by decide
  rw [StableHlo.after_append]
  refine (jk4 _ _ h).trans ?_
  simp only [slices, hostOps0_6, Nat.reduceMul, Nat.reduceAdd, List.drop_succ_cons, List.take_succ_cons, List.drop_zero, List.take_zero]
  after_results_simp

theorem k4_1 (A : Valuation τ sig (Elt Ideal)) : StableHlo.after (slices 4 ++ join 4) A (Proc.devRef .tc main_v54) = A (Proc.devRef .tc main_v54) := by
  have h : main_v54 ≠ main_v122 := by decide
  rw [StableHlo.after_append]
  refine (jk4 _ _ h).trans ?_
  simp only [slices, hostOps0_6, Nat.reduceMul, Nat.reduceAdd, List.drop_succ_cons, List.take_succ_cons, List.drop_zero, List.take_zero]
  after_results_simp

theorem k4_2 (A : Valuation τ sig (Elt Ideal)) : StableHlo.after (slices 4 ++ join 4) A (Proc.devRef .tc main_v71) = A (Proc.devRef .tc main_v71) := by
  have h : main_v71 ≠ main_v122 := by decide
  rw [StableHlo.after_append]
  refine (jk4 _ _ h).trans ?_
  simp only [slices, hostOps0_6, Nat.reduceMul, Nat.reduceAdd, List.drop_succ_cons, List.take_succ_cons, List.drop_zero, List.take_zero]
  after_results_simp

theorem k4_3 (A : Valuation τ sig (Elt Ideal)) : StableHlo.after (slices 4 ++ join 4) A (Proc.devRef .tc main_v88) = A (Proc.devRef .tc main_v88) := by
  have h : main_v88 ≠ main_v122 := by decide
  rw [StableHlo.after_append]
  refine (jk4 _ _ h).trans ?_
  simp only [slices, hostOps0_6, Nat.reduceMul, Nat.reduceAdd, List.drop_succ_cons, List.take_succ_cons, List.drop_zero, List.take_zero]
  after_results_simp

theorem k4_4 (A : Valuation τ sig (Elt Ideal)) : StableHlo.after (slices 4 ++ join 4) A (Proc.devRef .tc main_v105) = A (Proc.devRef .tc main_v105) := by
  have h : main_v105 ≠ main_v122 := by decide
  rw [StableHlo.after_append]
  refine (jk4 _ _ h).trans ?_
  simp only [slices, hostOps0_6, Nat.reduceMul, Nat.reduceAdd, List.drop_succ_cons, List.take_succ_cons, List.drop_zero, List.take_zero]
  after_results_simp

theorem w4 (A : Valuation τ sig (Elt Ideal)) : StableHlo.after (slices 4 ++ join 4) A (Proc.devRef .tc main_v122) = win4 (A (Proc.devRef .tc main_v37)) := by
  rw [StableHlo.after_append, j4, s4_0, s4_1, s4_2, s4_3, s4_4, s4_5, s4_6, s4_7]
  rfl

theorem s5_0 (A : Valuation τ sig (Elt Ideal)) : StableHlo.after (slices 5) A (Proc.devRef .tc main_v124)
    = shapeCast _ (extractStridedSlice S12x1x64x64 ![0, 5, 0, 0] (A (Proc.devRef .tc main_v37) : Cols) slices_S12x15x64x64_S12x1x64x64_0_5_0_0) shapeCasts_S12x1x64x64_S12x64x64 := by
  simp only [slices, hostOps0_6, Nat.reduceMul, Nat.reduceAdd, List.drop_succ_cons, List.take_succ_cons, List.drop_zero, List.take_zero]
  after_results_simp
  rfl

theorem s5_1 (A : Valuation τ sig (Elt Ideal)) : StableHlo.after (slices 5) A (Proc.devRef .tc main_v126)
    = shapeCast _ (extractStridedSlice S12x1x64x64 ![0, 6, 0, 0] (A (Proc.devRef .tc main_v37) : Cols) slices_S12x15x64x64_S12x1x64x64_0_6_0_0) shapeCasts_S12x1x64x64_S12x64x64 := by
  simp only [slices, hostOps0_6, Nat.reduceMul, Nat.reduceAdd, List.drop_succ_cons, List.take_succ_cons, List.drop_zero, List.take_zero]
  after_results_simp
  rfl

theorem s5_2 (A : Valuation τ sig (Elt Ideal)) : StableHlo.after (slices 5) A (Proc.devRef .tc main_v128)
    = shapeCast _ (extractStridedSlice S12x1x64x64 ![0, 7, 0, 0] (A (Proc.devRef .tc main_v37) : Cols) slices_S12x15x64x64_S12x1x64x64_0_7_0_0) shapeCasts_S12x1x64x64_S12x64x64 := by
  simp only [slices, hostOps0_6, Nat.reduceMul, Nat.reduceAdd, List.drop_succ_cons, List.take_succ_cons, List.drop_zero, List.take_zero]
  after_results_simp
  rfl

theorem s5_3 (A : Valuation τ sig (Elt Ideal)) : StableHlo.after (slices 5) A (Proc.devRef .tc main_v130)
    = shapeCast _ (extractStridedSlice S12x1x64x64 ![0, 8, 0, 0] (A (Proc.devRef .tc main_v37) : Cols) slices_S12x15x64x64_S12x1x64x64_0_8_0_0) shapeCasts_S12x1x64x64_S12x64x64 := by
  simp only [slices, hostOps0_6, Nat.reduceMul, Nat.reduceAdd, List.drop_succ_cons, List.take_succ_cons, List.drop_zero, List.take_zero]
  after_results_simp
  rfl

theorem s5_4 (A : Valuation τ sig (Elt Ideal)) : StableHlo.after (slices 5) A (Proc.devRef .tc main_v132)
    = shapeCast _ (extractStridedSlice S12x1x64x64 ![0, 9, 0, 0] (A (Proc.devRef .tc main_v37) : Cols) slices_S12x15x64x64_S12x1x64x64_0_9_0_0) shapeCasts_S12x1x64x64_S12x64x64 := by
  simp only [slices, hostOps0_6, Nat.reduceMul, Nat.reduceAdd, List.drop_succ_cons, List.take_succ_cons, List.drop_zero, List.take_zero]
  after_results_simp
  rfl

theorem s5_5 (A : Valuation τ sig (Elt Ideal)) : StableHlo.after (slices 5) A (Proc.devRef .tc main_v134)
    = shapeCast _ (extractStridedSlice S12x1x64x64 ![0, 10, 0, 0] (A (Proc.devRef .tc main_v37) : Cols) slices_S12x15x64x64_S12x1x64x64_0_10_0_0) shapeCasts_S12x1x64x64_S12x64x64 := by
  simp only [slices, hostOps0_6, Nat.reduceMul, Nat.reduceAdd, List.drop_succ_cons, List.take_succ_cons, List.drop_zero, List.take_zero]
  after_results_simp
  rfl

theorem s5_6 (A : Valuation τ sig (Elt Ideal)) : StableHlo.after (slices 5) A (Proc.devRef .tc main_v136)
    = shapeCast _ (extractStridedSlice S12x1x64x64 ![0, 11, 0, 0] (A (Proc.devRef .tc main_v37) : Cols) slices_S12x15x64x64_S12x1x64x64_0_11_0_0) shapeCasts_S12x1x64x64_S12x64x64 := by
  simp only [slices, hostOps0_6, Nat.reduceMul, Nat.reduceAdd, List.drop_succ_cons, List.take_succ_cons, List.drop_zero, List.take_zero]
  after_results_simp
  rfl

theorem s5_7 (A : Valuation τ sig (Elt Ideal)) : StableHlo.after (slices 5) A (Proc.devRef .tc main_v138)
    = shapeCast _ (extractStridedSlice S12x1x64x64 ![0, 12, 0, 0] (A (Proc.devRef .tc main_v37) : Cols) slices_S12x15x64x64_S12x1x64x64_0_12_0_0) shapeCasts_S12x1x64x64_S12x64x64 := by
  simp only [slices, hostOps0_6, Nat.reduceMul, Nat.reduceAdd, List.drop_succ_cons, List.take_succ_cons, List.drop_zero, List.take_zero]
  after_results_simp
  rfl

theorem j5 (B : Valuation τ sig (Elt Ideal)) : StableHlo.after (join 5) B (Proc.devRef .tc main_v139)
    = side (B (Proc.devRef .tc main_v124)) (B (Proc.devRef .tc main_v126)) (B (Proc.devRef .tc main_v128)) (B (Proc.devRef .tc main_v130)) (B (Proc.devRef .tc main_v132)) (B (Proc.devRef .tc main_v134)) (B (Proc.devRef .tc main_v136)) (B (Proc.devRef .tc main_v138)) := rfl

theorem jk5 (B : Valuation τ sig (Elt Ideal)) (b : Ref sig .tc) (h : b ≠ main_v139) : StableHlo.after (join 5) B (Proc.devRef .tc b) = B (Proc.devRef .tc b) := by
  simp only [join, hostOps0_6, Nat.reduceMul, Nat.reduceAdd, List.drop_succ_cons, List.take_succ_cons, List.drop_zero, List.take_zero, StableHlo.after_cons, StableHlo.after_nil]
  exact StableHlo.nary_result_ne _ _ _ _ _ _ h

theorem k5_0 (A : Valuation τ sig (Elt Ideal)) : StableHlo.after (slices 5 ++ join 5) A (Proc.devRef .tc main_v37) = A (Proc.devRef .tc main_v37) := by
  have h : main_v37 ≠ main_v139 := by decide
  rw [StableHlo.after_append]
  refine (jk5 _ _ h).trans ?_
  simp only [slices, hostOps0_6, Nat.reduceMul, Nat.reduceAdd, List.drop_succ_cons, List.take_succ_cons, List.drop_zero, List.take_zero]
  after_results_simp

theorem k5_1 (A : Valuation τ sig (Elt Ideal)) : StableHlo.after (slices 5 ++ join 5) A (Proc.devRef .tc main_v54) = A (Proc.devRef .tc main_v54) := by
  have h : main_v54 ≠ main_v139 := by decide
  rw [StableHlo.after_append]
  refine (jk5 _ _ h).trans ?_
  simp only [slices, hostOps0_6, Nat.reduceMul, Nat.reduceAdd, List.drop_succ_cons, List.take_succ_cons, List.drop_zero, List.take_zero]
  after_results_simp

theorem k5_2 (A : Valuation τ sig (Elt Ideal)) : StableHlo.after (slices 5 ++ join 5) A (Proc.devRef .tc main_v71) = A (Proc.devRef .tc main_v71) := by
  have h : main_v71 ≠ main_v139 := by decide
  rw [StableHlo.after_append]
  refine (jk5 _ _ h).trans ?_
  simp only [slices, hostOps0_6, Nat.reduceMul, Nat.reduceAdd, List.drop_succ_cons, List.take_succ_cons, List.drop_zero, List.take_zero]
  after_results_simp

theorem k5_3 (A : Valuation τ sig (Elt Ideal)) : StableHlo.after (slices 5 ++ join 5) A (Proc.devRef .tc main_v88) = A (Proc.devRef .tc main_v88) := by
  have h : main_v88 ≠ main_v139 := by decide
  rw [StableHlo.after_append]
  refine (jk5 _ _ h).trans ?_
  simp only [slices, hostOps0_6, Nat.reduceMul, Nat.reduceAdd, List.drop_succ_cons, List.take_succ_cons, List.drop_zero, List.take_zero]
  after_results_simp

theorem k5_4 (A : Valuation τ sig (Elt Ideal)) : StableHlo.after (slices 5 ++ join 5) A (Proc.devRef .tc main_v105) = A (Proc.devRef .tc main_v105) := by
  have h : main_v105 ≠ main_v139 := by decide
  rw [StableHlo.after_append]
  refine (jk5 _ _ h).trans ?_
  simp only [slices, hostOps0_6, Nat.reduceMul, Nat.reduceAdd, List.drop_succ_cons, List.take_succ_cons, List.drop_zero, List.take_zero]
  after_results_simp

theorem k5_5 (A : Valuation τ sig (Elt Ideal)) : StableHlo.after (slices 5 ++ join 5) A (Proc.devRef .tc main_v122) = A (Proc.devRef .tc main_v122) := by
  have h : main_v122 ≠ main_v139 := by decide
  rw [StableHlo.after_append]
  refine (jk5 _ _ h).trans ?_
  simp only [slices, hostOps0_6, Nat.reduceMul, Nat.reduceAdd, List.drop_succ_cons, List.take_succ_cons, List.drop_zero, List.take_zero]
  after_results_simp

theorem w5 (A : Valuation τ sig (Elt Ideal)) : StableHlo.after (slices 5 ++ join 5) A (Proc.devRef .tc main_v139) = win5 (A (Proc.devRef .tc main_v37)) := by
  rw [StableHlo.after_append, j5, s5_0, s5_1, s5_2, s5_3, s5_4, s5_5, s5_6, s5_7]
  rfl

theorem s6_0 (A : Valuation τ sig (Elt Ideal)) : StableHlo.after (slices 6) A (Proc.devRef .tc main_v141)
    = shapeCast _ (extractStridedSlice S12x1x64x64 ![0, 6, 0, 0] (A (Proc.devRef .tc main_v37) : Cols) slices_S12x15x64x64_S12x1x64x64_0_6_0_0) shapeCasts_S12x1x64x64_S12x64x64 := by
  simp only [slices, hostOps0_6, Nat.reduceMul, Nat.reduceAdd, List.drop_succ_cons, List.take_succ_cons, List.drop_zero, List.take_zero]
  after_results_simp
  rfl

theorem s6_1 (A : Valuation τ sig (Elt Ideal)) : StableHlo.after (slices 6) A (Proc.devRef .tc main_v143)
    = shapeCast _ (extractStridedSlice S12x1x64x64 ![0, 7, 0, 0] (A (Proc.devRef .tc main_v37) : Cols) slices_S12x15x64x64_S12x1x64x64_0_7_0_0) shapeCasts_S12x1x64x64_S12x64x64 := by
  simp only [slices, hostOps0_6, Nat.reduceMul, Nat.reduceAdd, List.drop_succ_cons, List.take_succ_cons, List.drop_zero, List.take_zero]
  after_results_simp
  rfl

theorem s6_2 (A : Valuation τ sig (Elt Ideal)) : StableHlo.after (slices 6) A (Proc.devRef .tc main_v145)
    = shapeCast _ (extractStridedSlice S12x1x64x64 ![0, 8, 0, 0] (A (Proc.devRef .tc main_v37) : Cols) slices_S12x15x64x64_S12x1x64x64_0_8_0_0) shapeCasts_S12x1x64x64_S12x64x64 := by
  simp only [slices, hostOps0_6, Nat.reduceMul, Nat.reduceAdd, List.drop_succ_cons, List.take_succ_cons, List.drop_zero, List.take_zero]
  after_results_simp
  rfl

theorem s6_3 (A : Valuation τ sig (Elt Ideal)) : StableHlo.after (slices 6) A (Proc.devRef .tc main_v147)
    = shapeCast _ (extractStridedSlice S12x1x64x64 ![0, 9, 0, 0] (A (Proc.devRef .tc main_v37) : Cols) slices_S12x15x64x64_S12x1x64x64_0_9_0_0) shapeCasts_S12x1x64x64_S12x64x64 := by
  simp only [slices, hostOps0_6, Nat.reduceMul, Nat.reduceAdd, List.drop_succ_cons, List.take_succ_cons, List.drop_zero, List.take_zero]
  after_results_simp
  rfl

theorem s6_4 (A : Valuation τ sig (Elt Ideal)) : StableHlo.after (slices 6) A (Proc.devRef .tc main_v149)
    = shapeCast _ (extractStridedSlice S12x1x64x64 ![0, 10, 0, 0] (A (Proc.devRef .tc main_v37) : Cols) slices_S12x15x64x64_S12x1x64x64_0_10_0_0) shapeCasts_S12x1x64x64_S12x64x64 := by
  simp only [slices, hostOps0_6, Nat.reduceMul, Nat.reduceAdd, List.drop_succ_cons, List.take_succ_cons, List.drop_zero, List.take_zero]
  after_results_simp
  rfl

theorem s6_5 (A : Valuation τ sig (Elt Ideal)) : StableHlo.after (slices 6) A (Proc.devRef .tc main_v151)
    = shapeCast _ (extractStridedSlice S12x1x64x64 ![0, 11, 0, 0] (A (Proc.devRef .tc main_v37) : Cols) slices_S12x15x64x64_S12x1x64x64_0_11_0_0) shapeCasts_S12x1x64x64_S12x64x64 := by
  simp only [slices, hostOps0_6, Nat.reduceMul, Nat.reduceAdd, List.drop_succ_cons, List.take_succ_cons, List.drop_zero, List.take_zero]
  after_results_simp
  rfl

theorem s6_6 (A : Valuation τ sig (Elt Ideal)) : StableHlo.after (slices 6) A (Proc.devRef .tc main_v153)
    = shapeCast _ (extractStridedSlice S12x1x64x64 ![0, 12, 0, 0] (A (Proc.devRef .tc main_v37) : Cols) slices_S12x15x64x64_S12x1x64x64_0_12_0_0) shapeCasts_S12x1x64x64_S12x64x64 := by
  simp only [slices, hostOps0_6, Nat.reduceMul, Nat.reduceAdd, List.drop_succ_cons, List.take_succ_cons, List.drop_zero, List.take_zero]
  after_results_simp
  rfl

theorem s6_7 (A : Valuation τ sig (Elt Ideal)) : StableHlo.after (slices 6) A (Proc.devRef .tc main_v155)
    = shapeCast _ (extractStridedSlice S12x1x64x64 ![0, 13, 0, 0] (A (Proc.devRef .tc main_v37) : Cols) slices_S12x15x64x64_S12x1x64x64_0_13_0_0) shapeCasts_S12x1x64x64_S12x64x64 := by
  simp only [slices, hostOps0_6, Nat.reduceMul, Nat.reduceAdd, List.drop_succ_cons, List.take_succ_cons, List.drop_zero, List.take_zero]
  after_results_simp
  rfl

theorem j6 (B : Valuation τ sig (Elt Ideal)) : StableHlo.after (join 6) B (Proc.devRef .tc main_v156)
    = side (B (Proc.devRef .tc main_v141)) (B (Proc.devRef .tc main_v143)) (B (Proc.devRef .tc main_v145)) (B (Proc.devRef .tc main_v147)) (B (Proc.devRef .tc main_v149)) (B (Proc.devRef .tc main_v151)) (B (Proc.devRef .tc main_v153)) (B (Proc.devRef .tc main_v155)) := rfl

theorem jk6 (B : Valuation τ sig (Elt Ideal)) (b : Ref sig .tc) (h : b ≠ main_v156) : StableHlo.after (join 6) B (Proc.devRef .tc b) = B (Proc.devRef .tc b) := by
  simp only [join, hostOps0_6, Nat.reduceMul, Nat.reduceAdd, List.drop_succ_cons, List.take_succ_cons, List.drop_zero, List.take_zero, StableHlo.after_cons, StableHlo.after_nil]
  exact StableHlo.nary_result_ne _ _ _ _ _ _ h

theorem k6_0 (A : Valuation τ sig (Elt Ideal)) : StableHlo.after (slices 6 ++ join 6) A (Proc.devRef .tc main_v37) = A (Proc.devRef .tc main_v37) := by
  have h : main_v37 ≠ main_v156 := by decide
  rw [StableHlo.after_append]
  refine (jk6 _ _ h).trans ?_
  simp only [slices, hostOps0_6, Nat.reduceMul, Nat.reduceAdd, List.drop_succ_cons, List.take_succ_cons, List.drop_zero, List.take_zero]
  after_results_simp

theorem k6_1 (A : Valuation τ sig (Elt Ideal)) : StableHlo.after (slices 6 ++ join 6) A (Proc.devRef .tc main_v54) = A (Proc.devRef .tc main_v54) := by
  have h : main_v54 ≠ main_v156 := by decide
  rw [StableHlo.after_append]
  refine (jk6 _ _ h).trans ?_
  simp only [slices, hostOps0_6, Nat.reduceMul, Nat.reduceAdd, List.drop_succ_cons, List.take_succ_cons, List.drop_zero, List.take_zero]
  after_results_simp

theorem k6_2 (A : Valuation τ sig (Elt Ideal)) : StableHlo.after (slices 6 ++ join 6) A (Proc.devRef .tc main_v71) = A (Proc.devRef .tc main_v71) := by
  have h : main_v71 ≠ main_v156 := by decide
  rw [StableHlo.after_append]
  refine (jk6 _ _ h).trans ?_
  simp only [slices, hostOps0_6, Nat.reduceMul, Nat.reduceAdd, List.drop_succ_cons, List.take_succ_cons, List.drop_zero, List.take_zero]
  after_results_simp

theorem k6_3 (A : Valuation τ sig (Elt Ideal)) : StableHlo.after (slices 6 ++ join 6) A (Proc.devRef .tc main_v88) = A (Proc.devRef .tc main_v88) := by
  have h : main_v88 ≠ main_v156 := by decide
  rw [StableHlo.after_append]
  refine (jk6 _ _ h).trans ?_
  simp only [slices, hostOps0_6, Nat.reduceMul, Nat.reduceAdd, List.drop_succ_cons, List.take_succ_cons, List.drop_zero, List.take_zero]
  after_results_simp

theorem k6_4 (A : Valuation τ sig (Elt Ideal)) : StableHlo.after (slices 6 ++ join 6) A (Proc.devRef .tc main_v105) = A (Proc.devRef .tc main_v105) := by
  have h : main_v105 ≠ main_v156 := by decide
  rw [StableHlo.after_append]
  refine (jk6 _ _ h).trans ?_
  simp only [slices, hostOps0_6, Nat.reduceMul, Nat.reduceAdd, List.drop_succ_cons, List.take_succ_cons, List.drop_zero, List.take_zero]
  after_results_simp

theorem k6_5 (A : Valuation τ sig (Elt Ideal)) : StableHlo.after (slices 6 ++ join 6) A (Proc.devRef .tc main_v122) = A (Proc.devRef .tc main_v122) := by
  have h : main_v122 ≠ main_v156 := by decide
  rw [StableHlo.after_append]
  refine (jk6 _ _ h).trans ?_
  simp only [slices, hostOps0_6, Nat.reduceMul, Nat.reduceAdd, List.drop_succ_cons, List.take_succ_cons, List.drop_zero, List.take_zero]
  after_results_simp

theorem k6_6 (A : Valuation τ sig (Elt Ideal)) : StableHlo.after (slices 6 ++ join 6) A (Proc.devRef .tc main_v139) = A (Proc.devRef .tc main_v139) := by
  have h : main_v139 ≠ main_v156 := by decide
  rw [StableHlo.after_append]
  refine (jk6 _ _ h).trans ?_
  simp only [slices, hostOps0_6, Nat.reduceMul, Nat.reduceAdd, List.drop_succ_cons, List.take_succ_cons, List.drop_zero, List.take_zero]
  after_results_simp

theorem w6 (A : Valuation τ sig (Elt Ideal)) : StableHlo.after (slices 6 ++ join 6) A (Proc.devRef .tc main_v156) = win6 (A (Proc.devRef .tc main_v37)) := by
  rw [StableHlo.after_append, j6, s6_0, s6_1, s6_2, s6_3, s6_4, s6_5, s6_6, s6_7]
  rfl

theorem s7_0 (A : Valuation τ sig (Elt Ideal)) : StableHlo.after (slices 7) A (Proc.devRef .tc main_v158)
    = shapeCast _ (extractStridedSlice S12x1x64x64 ![0, 7, 0, 0] (A (Proc.devRef .tc main_v37) : Cols) slices_S12x15x64x64_S12x1x64x64_0_7_0_0) shapeCasts_S12x1x64x64_S12x64x64 := by
  simp only [slices, hostOps0_6, Nat.reduceMul, Nat.reduceAdd, List.drop_succ_cons, List.take_succ_cons, List.drop_zero, List.take_zero]
  after_results_simp
  rfl

theorem s7_1 (A : Valuation τ sig (Elt Ideal)) : StableHlo.after (slices 7) A (Proc.devRef .tc main_v160)
    = shapeCast _ (extractStridedSlice S12x1x64x64 ![0, 8, 0, 0] (A (Proc.devRef .tc main_v37) : Cols) slices_S12x15x64x64_S12x1x64x64_0_8_0_0) shapeCasts_S12x1x64x64_S12x64x64 := by
  simp only [slices, hostOps0_6, Nat.reduceMul, Nat.reduceAdd, List.drop_succ_cons, List.take_succ_cons, List.drop_zero, List.take_zero]
  after_results_simp
  rfl

theorem s7_2 (A : Valuation τ sig (Elt Ideal)) : StableHlo.after (slices 7) A (Proc.devRef .tc main_v162)
    = shapeCast _ (extractStridedSlice S12x1x64x64 ![0, 9, 0, 0] (A (Proc.devRef .tc main_v37) : Cols) slices_S12x15x64x64_S12x1x64x64_0_9_0_0) shapeCasts_S12x1x64x64_S12x64x64 := by
  simp only [slices, hostOps0_6, Nat.reduceMul, Nat.reduceAdd, List.drop_succ_cons, List.take_succ_cons, List.drop_zero, List.take_zero]
  after_results_simp
  rfl

theorem s7_3 (A : Valuation τ sig (Elt Ideal)) : StableHlo.after (slices 7) A (Proc.devRef .tc main_v164)
    = shapeCast _ (extractStridedSlice S12x1x64x64 ![0, 10, 0, 0] (A (Proc.devRef .tc main_v37) : Cols) slices_S12x15x64x64_S12x1x64x64_0_10_0_0) shapeCasts_S12x1x64x64_S12x64x64 := by
  simp only [slices, hostOps0_6, Nat.reduceMul, Nat.reduceAdd, List.drop_succ_cons, List.take_succ_cons, List.drop_zero, List.take_zero]
  after_results_simp
  rfl

theorem s7_4 (A : Valuation τ sig (Elt Ideal)) : StableHlo.after (slices 7) A (Proc.devRef .tc main_v166)
    = shapeCast _ (extractStridedSlice S12x1x64x64 ![0, 11, 0, 0] (A (Proc.devRef .tc main_v37) : Cols) slices_S12x15x64x64_S12x1x64x64_0_11_0_0) shapeCasts_S12x1x64x64_S12x64x64 := by
  simp only [slices, hostOps0_6, Nat.reduceMul, Nat.reduceAdd, List.drop_succ_cons, List.take_succ_cons, List.drop_zero, List.take_zero]
  after_results_simp
  rfl

theorem s7_5 (A : Valuation τ sig (Elt Ideal)) : StableHlo.after (slices 7) A (Proc.devRef .tc main_v168)
    = shapeCast _ (extractStridedSlice S12x1x64x64 ![0, 12, 0, 0] (A (Proc.devRef .tc main_v37) : Cols) slices_S12x15x64x64_S12x1x64x64_0_12_0_0) shapeCasts_S12x1x64x64_S12x64x64 := by
  simp only [slices, hostOps0_6, Nat.reduceMul, Nat.reduceAdd, List.drop_succ_cons, List.take_succ_cons, List.drop_zero, List.take_zero]
  after_results_simp
  rfl

theorem s7_6 (A : Valuation τ sig (Elt Ideal)) : StableHlo.after (slices 7) A (Proc.devRef .tc main_v170)
    = shapeCast _ (extractStridedSlice S12x1x64x64 ![0, 13, 0, 0] (A (Proc.devRef .tc main_v37) : Cols) slices_S12x15x64x64_S12x1x64x64_0_13_0_0) shapeCasts_S12x1x64x64_S12x64x64 := by
  simp only [slices, hostOps0_6, Nat.reduceMul, Nat.reduceAdd, List.drop_succ_cons, List.take_succ_cons, List.drop_zero, List.take_zero]
  after_results_simp
  rfl

theorem s7_7 (A : Valuation τ sig (Elt Ideal)) : StableHlo.after (slices 7) A (Proc.devRef .tc main_v172)
    = shapeCast _ (extractStridedSlice S12x1x64x64 ![0, 14, 0, 0] (A (Proc.devRef .tc main_v37) : Cols) slices_S12x15x64x64_S12x1x64x64_0_14_0_0) shapeCasts_S12x1x64x64_S12x64x64 := by
  simp only [slices, hostOps0_6, Nat.reduceMul, Nat.reduceAdd, List.drop_succ_cons, List.take_succ_cons, List.drop_zero, List.take_zero]
  after_results_simp
  rfl

theorem j7 (B : Valuation τ sig (Elt Ideal)) : StableHlo.after (join 7) B (Proc.devRef .tc main_v173)
    = side (B (Proc.devRef .tc main_v158)) (B (Proc.devRef .tc main_v160)) (B (Proc.devRef .tc main_v162)) (B (Proc.devRef .tc main_v164)) (B (Proc.devRef .tc main_v166)) (B (Proc.devRef .tc main_v168)) (B (Proc.devRef .tc main_v170)) (B (Proc.devRef .tc main_v172)) := rfl

theorem jk7 (B : Valuation τ sig (Elt Ideal)) (b : Ref sig .tc) (h : b ≠ main_v173) : StableHlo.after (join 7) B (Proc.devRef .tc b) = B (Proc.devRef .tc b) := by
  simp only [join, hostOps0_6, Nat.reduceMul, Nat.reduceAdd, List.drop_succ_cons, List.take_succ_cons, List.drop_zero, List.take_zero, StableHlo.after_cons, StableHlo.after_nil]
  exact StableHlo.nary_result_ne _ _ _ _ _ _ h

theorem k7_0 (A : Valuation τ sig (Elt Ideal)) : StableHlo.after (slices 7 ++ join 7) A (Proc.devRef .tc main_v37) = A (Proc.devRef .tc main_v37) := by
  have h : main_v37 ≠ main_v173 := by decide
  rw [StableHlo.after_append]
  refine (jk7 _ _ h).trans ?_
  simp only [slices, hostOps0_6, Nat.reduceMul, Nat.reduceAdd, List.drop_succ_cons, List.take_succ_cons, List.drop_zero, List.take_zero]
  after_results_simp

theorem k7_1 (A : Valuation τ sig (Elt Ideal)) : StableHlo.after (slices 7 ++ join 7) A (Proc.devRef .tc main_v54) = A (Proc.devRef .tc main_v54) := by
  have h : main_v54 ≠ main_v173 := by decide
  rw [StableHlo.after_append]
  refine (jk7 _ _ h).trans ?_
  simp only [slices, hostOps0_6, Nat.reduceMul, Nat.reduceAdd, List.drop_succ_cons, List.take_succ_cons, List.drop_zero, List.take_zero]
  after_results_simp

theorem k7_2 (A : Valuation τ sig (Elt Ideal)) : StableHlo.after (slices 7 ++ join 7) A (Proc.devRef .tc main_v71) = A (Proc.devRef .tc main_v71) := by
  have h : main_v71 ≠ main_v173 := by decide
  rw [StableHlo.after_append]
  refine (jk7 _ _ h).trans ?_
  simp only [slices, hostOps0_6, Nat.reduceMul, Nat.reduceAdd, List.drop_succ_cons, List.take_succ_cons, List.drop_zero, List.take_zero]
  after_results_simp

theorem k7_3 (A : Valuation τ sig (Elt Ideal)) : StableHlo.after (slices 7 ++ join 7) A (Proc.devRef .tc main_v88) = A (Proc.devRef .tc main_v88) := by
  have h : main_v88 ≠ main_v173 := by decide
  rw [StableHlo.after_append]
  refine (jk7 _ _ h).trans ?_
  simp only [slices, hostOps0_6, Nat.reduceMul, Nat.reduceAdd, List.drop_succ_cons, List.take_succ_cons, List.drop_zero, List.take_zero]
  after_results_simp

theorem k7_4 (A : Valuation τ sig (Elt Ideal)) : StableHlo.after (slices 7 ++ join 7) A (Proc.devRef .tc main_v105) = A (Proc.devRef .tc main_v105) := by
  have h : main_v105 ≠ main_v173 := by decide
  rw [StableHlo.after_append]
  refine (jk7 _ _ h).trans ?_
  simp only [slices, hostOps0_6, Nat.reduceMul, Nat.reduceAdd, List.drop_succ_cons, List.take_succ_cons, List.drop_zero, List.take_zero]
  after_results_simp

theorem k7_5 (A : Valuation τ sig (Elt Ideal)) : StableHlo.after (slices 7 ++ join 7) A (Proc.devRef .tc main_v122) = A (Proc.devRef .tc main_v122) := by
  have h : main_v122 ≠ main_v173 := by decide
  rw [StableHlo.after_append]
  refine (jk7 _ _ h).trans ?_
  simp only [slices, hostOps0_6, Nat.reduceMul, Nat.reduceAdd, List.drop_succ_cons, List.take_succ_cons, List.drop_zero, List.take_zero]
  after_results_simp

theorem k7_6 (A : Valuation τ sig (Elt Ideal)) : StableHlo.after (slices 7 ++ join 7) A (Proc.devRef .tc main_v139) = A (Proc.devRef .tc main_v139) := by
  have h : main_v139 ≠ main_v173 := by decide
  rw [StableHlo.after_append]
  refine (jk7 _ _ h).trans ?_
  simp only [slices, hostOps0_6, Nat.reduceMul, Nat.reduceAdd, List.drop_succ_cons, List.take_succ_cons, List.drop_zero, List.take_zero]
  after_results_simp

theorem k7_7 (A : Valuation τ sig (Elt Ideal)) : StableHlo.after (slices 7 ++ join 7) A (Proc.devRef .tc main_v156) = A (Proc.devRef .tc main_v156) := by
  have h : main_v156 ≠ main_v173 := by decide
  rw [StableHlo.after_append]
  refine (jk7 _ _ h).trans ?_
  simp only [slices, hostOps0_6, Nat.reduceMul, Nat.reduceAdd, List.drop_succ_cons, List.take_succ_cons, List.drop_zero, List.take_zero]
  after_results_simp

theorem w7 (A : Valuation τ sig (Elt Ideal)) : StableHlo.after (slices 7 ++ join 7) A (Proc.devRef .tc main_v173) = win7 (A (Proc.devRef .tc main_v37)) := by
  rw [StableHlo.after_append, j7, s7_0, s7_1, s7_2, s7_3, s7_4, s7_5, s7_6, s7_7]
  rfl

/-- One window, as a layer of the stack. -/
abbrev Layer := FVec Ideal S12x64x512 .f32
def pile (a b c d e f g h : Layer) : FVec Ideal S12x8x64x512 .f32 :=
  concatenate S12x8x64x512 1 [⟨S12x1x64x512, broadcastInDim S12x1x64x512 ![0, 2, 3] bcast_S12x64x512_S12x1x64x512_0_2_3 a⟩,
    ⟨S12x1x64x512, broadcastInDim S12x1x64x512 ![0, 2, 3] bcast_S12x64x512_S12x1x64x512_0_2_3 b⟩,
    ⟨S12x1x64x512, broadcastInDim S12x1x64x512 ![0, 2, 3] bcast_S12x64x512_S12x1x64x512_0_2_3 c⟩,
    ⟨S12x1x64x512, broadcastInDim S12x1x64x512 ![0, 2, 3] bcast_S12x64x512_S12x1x64x512_0_2_3 d⟩,
    ⟨S12x1x64x512, broadcastInDim S12x1x64x512 ![0, 2, 3] bcast_S12x64x512_S12x1x64x512_0_2_3 e⟩,
    ⟨S12x1x64x512, broadcastInDim S12x1x64x512 ![0, 2, 3] bcast_S12x64x512_S12x1x64x512_0_2_3 f⟩,
    ⟨S12x1x64x512, broadcastInDim S12x1x64x512 ![0, 2, 3] bcast_S12x64x512_S12x1x64x512_0_2_3 g⟩,
    ⟨S12x1x64x512, broadcastInDim S12x1x64x512 ![0, 2, 3] bcast_S12x64x512_S12x1x64x512_0_2_3 h⟩] concatenates_S12x1x64x512_S12x1x64x512_S12x1x64x512_S12x1x64x512_S12x1x64x512_S12x1x64x512_S12x1x64x512_S12x1x64x512_S12x8x64x512_d1

def layers : List (HloOp τ sig (Elt Ideal)) := (hostOps0_6.drop 136).take 8
def top : List (HloOp τ sig (Elt Ideal)) := hostOps0_6.drop 144
def cover (a b c d e f g h : FVec Ideal S12x1x64x512 .f32) : FVec Ideal S12x8x64x512 .f32 :=
  concatenate S12x8x64x512 1 [⟨S12x1x64x512, a⟩, ⟨S12x1x64x512, b⟩, ⟨S12x1x64x512, c⟩, ⟨S12x1x64x512, d⟩, ⟨S12x1x64x512, e⟩, ⟨S12x1x64x512, f⟩, ⟨S12x1x64x512, g⟩, ⟨S12x1x64x512, h⟩] concatenates_S12x1x64x512_S12x1x64x512_S12x1x64x512_S12x1x64x512_S12x1x64x512_S12x1x64x512_S12x1x64x512_S12x1x64x512_S12x8x64x512_d1
theorem stack_eq : stack = layers ++ top := rfl
theorem top_read (B : Valuation τ sig (Elt Ideal)) : StableHlo.after top B (Proc.devRef .tc main_v182)
    = cover (B (Proc.devRef .tc main_v174)) (B (Proc.devRef .tc main_v175)) (B (Proc.devRef .tc main_v176)) (B (Proc.devRef .tc main_v177)) (B (Proc.devRef .tc main_v178)) (B (Proc.devRef .tc main_v179)) (B (Proc.devRef .tc main_v180)) (B (Proc.devRef .tc main_v181)) := rfl
theorem l0 (A : Valuation τ sig (Elt Ideal)) : StableHlo.after layers A (Proc.devRef .tc main_v174) = broadcastInDim S12x1x64x512 ![0, 2, 3] bcast_S12x64x512_S12x1x64x512_0_2_3 (A (Proc.devRef .tc main_v54) : Layer) := by
  simp only [layers, hostOps0_6, Nat.reduceMul, Nat.reduceAdd, List.drop_succ_cons, List.take_succ_cons, List.drop_zero, List.take_zero]
  after_results_simp

theorem l1 (A : Valuation τ sig (Elt Ideal)) : StableHlo.after layers A (Proc.devRef .tc main_v175) = broadcastInDim S12x1x64x512 ![0, 2, 3] bcast_S12x64x512_S12x1x64x512_0_2_3 (A (Proc.devRef .tc main_v71) : Layer) := by
  simp only [layers, hostOps0_6, Nat.reduceMul, Nat.reduceAdd, List.drop_succ_cons, List.take_succ_cons, List.drop_zero, List.take_zero]
  after_results_simp

theorem l2 (A : Valuation τ sig (Elt Ideal)) : StableHlo.after layers A (Proc.devRef .tc main_v176) = broadcastInDim S12x1x64x512 ![0, 2, 3] bcast_S12x64x512_S12x1x64x512_0_2_3 (A (Proc.devRef .tc main_v88) : Layer) := by
  simp only [layers, hostOps0_6, Nat.reduceMul, Nat.reduceAdd, List.drop_succ_cons, List.take_succ_cons, List.drop_zero, List.take_zero]
  after_results_simp

theorem l3 (A : Valuation τ sig (Elt Ideal)) : StableHlo.after layers A (Proc.devRef .tc main_v177) = broadcastInDim S12x1x64x512 ![0, 2, 3] bcast_S12x64x512_S12x1x64x512_0_2_3 (A (Proc.devRef .tc main_v105) : Layer) := by
  simp only [layers, hostOps0_6, Nat.reduceMul, Nat.reduceAdd, List.drop_succ_cons, List.take_succ_cons, List.drop_zero, List.take_zero]
  after_results_simp

theorem l4 (A : Valuation τ sig (Elt Ideal)) : StableHlo.after layers A (Proc.devRef .tc main_v178) = broadcastInDim S12x1x64x512 ![0, 2, 3] bcast_S12x64x512_S12x1x64x512_0_2_3 (A (Proc.devRef .tc main_v122) : Layer) := by
  simp only [layers, hostOps0_6, Nat.reduceMul, Nat.reduceAdd, List.drop_succ_cons, List.take_succ_cons, List.drop_zero, List.take_zero]
  after_results_simp

theorem l5 (A : Valuation τ sig (Elt Ideal)) : StableHlo.after layers A (Proc.devRef .tc main_v179) = broadcastInDim S12x1x64x512 ![0, 2, 3] bcast_S12x64x512_S12x1x64x512_0_2_3 (A (Proc.devRef .tc main_v139) : Layer) := by
  simp only [layers, hostOps0_6, Nat.reduceMul, Nat.reduceAdd, List.drop_succ_cons, List.take_succ_cons, List.drop_zero, List.take_zero]
  after_results_simp

theorem l6 (A : Valuation τ sig (Elt Ideal)) : StableHlo.after layers A (Proc.devRef .tc main_v180) = broadcastInDim S12x1x64x512 ![0, 2, 3] bcast_S12x64x512_S12x1x64x512_0_2_3 (A (Proc.devRef .tc main_v156) : Layer) := by
  simp only [layers, hostOps0_6, Nat.reduceMul, Nat.reduceAdd, List.drop_succ_cons, List.take_succ_cons, List.drop_zero, List.take_zero]
  after_results_simp

theorem l7 (A : Valuation τ sig (Elt Ideal)) : StableHlo.after layers A (Proc.devRef .tc main_v181) = broadcastInDim S12x1x64x512 ![0, 2, 3] bcast_S12x64x512_S12x1x64x512_0_2_3 (A (Proc.devRef .tc main_v173) : Layer) := by
  simp only [layers, hostOps0_6, Nat.reduceMul, Nat.reduceAdd, List.drop_succ_cons, List.take_succ_cons, List.drop_zero, List.take_zero]
  after_results_simp

theorem stack_read (A : Valuation τ sig (Elt Ideal)) : StableHlo.after stack A (Proc.devRef .tc main_v182)
    = pile (A (Proc.devRef .tc main_v54)) (A (Proc.devRef .tc main_v71)) (A (Proc.devRef .tc main_v88)) (A (Proc.devRef .tc main_v105)) (A (Proc.devRef .tc main_v122)) (A (Proc.devRef .tc main_v139)) (A (Proc.devRef .tc main_v156)) (A (Proc.devRef .tc main_v173)) := by
  rw [stack_eq, StableHlo.after_append, top_read, l0, l1, l2, l3, l4, l5, l6, l7]
  rfl

def upto1 : List (HloOp τ sig (Elt Ideal)) := (slices 0 ++ join 0)
theorem u1_t (A : Valuation τ sig (Elt Ideal)) : StableHlo.after upto1 A (Proc.devRef .tc main_v37) = A (Proc.devRef .tc main_v37) := k0_0 A
theorem u1_0 (A : Valuation τ sig (Elt Ideal)) : StableHlo.after upto1 A (Proc.devRef .tc main_v54) = win0 (A (Proc.devRef .tc main_v37)) := w0 A
def upto2 : List (HloOp τ sig (Elt Ideal)) := upto1 ++ (slices 1 ++ join 1)
theorem u2_t (A : Valuation τ sig (Elt Ideal)) : StableHlo.after upto2 A (Proc.devRef .tc main_v37) = A (Proc.devRef .tc main_v37) := by
  rw [upto2, StableHlo.after_append, k1_0, u1_t]
theorem u2_0 (A : Valuation τ sig (Elt Ideal)) : StableHlo.after upto2 A (Proc.devRef .tc main_v54) = win0 (A (Proc.devRef .tc main_v37)) := by
  rw [upto2, StableHlo.after_append, k1_1, u1_0]
theorem u2_1 (A : Valuation τ sig (Elt Ideal)) : StableHlo.after upto2 A (Proc.devRef .tc main_v71) = win1 (A (Proc.devRef .tc main_v37)) := by
  rw [upto2, StableHlo.after_append, w1, u1_t]
def upto3 : List (HloOp τ sig (Elt Ideal)) := upto2 ++ (slices 2 ++ join 2)
theorem u3_t (A : Valuation τ sig (Elt Ideal)) : StableHlo.after upto3 A (Proc.devRef .tc main_v37) = A (Proc.devRef .tc main_v37) := by
  rw [upto3, StableHlo.after_append, k2_0, u2_t]
theorem u3_0 (A : Valuation τ sig (Elt Ideal)) : StableHlo.after upto3 A (Proc.devRef .tc main_v54) = win0 (A (Proc.devRef .tc main_v37)) := by
  rw [upto3, StableHlo.after_append, k2_1, u2_0]
theorem u3_1 (A : Valuation τ sig (Elt Ideal)) : StableHlo.after upto3 A (Proc.devRef .tc main_v71) = win1 (A (Proc.devRef .tc main_v37)) := by
  rw [upto3, StableHlo.after_append, k2_2, u2_1]
theorem u3_2 (A : Valuation τ sig (Elt Ideal)) : StableHlo.after upto3 A (Proc.devRef .tc main_v88) = win2 (A (Proc.devRef .tc main_v37)) := by
  rw [upto3, StableHlo.after_append, w2, u2_t]
def upto4 : List (HloOp τ sig (Elt Ideal)) := upto3 ++ (slices 3 ++ join 3)
theorem u4_t (A : Valuation τ sig (Elt Ideal)) : StableHlo.after upto4 A (Proc.devRef .tc main_v37) = A (Proc.devRef .tc main_v37) := by
  rw [upto4, StableHlo.after_append, k3_0, u3_t]
theorem u4_0 (A : Valuation τ sig (Elt Ideal)) : StableHlo.after upto4 A (Proc.devRef .tc main_v54) = win0 (A (Proc.devRef .tc main_v37)) := by
  rw [upto4, StableHlo.after_append, k3_1, u3_0]
theorem u4_1 (A : Valuation τ sig (Elt Ideal)) : StableHlo.after upto4 A (Proc.devRef .tc main_v71) = win1 (A (Proc.devRef .tc main_v37)) := by
  rw [upto4, StableHlo.after_append, k3_2, u3_1]
theorem u4_2 (A : Valuation τ sig (Elt Ideal)) : StableHlo.after upto4 A (Proc.devRef .tc main_v88) = win2 (A (Proc.devRef .tc main_v37)) := by
  rw [upto4, StableHlo.after_append, k3_3, u3_2]
theorem u4_3 (A : Valuation τ sig (Elt Ideal)) : StableHlo.after upto4 A (Proc.devRef .tc main_v105) = win3 (A (Proc.devRef .tc main_v37)) := by
  rw [upto4, StableHlo.after_append, w3, u3_t]
def upto5 : List (HloOp τ sig (Elt Ideal)) := upto4 ++ (slices 4 ++ join 4)
theorem u5_t (A : Valuation τ sig (Elt Ideal)) : StableHlo.after upto5 A (Proc.devRef .tc main_v37) = A (Proc.devRef .tc main_v37) := by
  rw [upto5, StableHlo.after_append, k4_0, u4_t]
theorem u5_0 (A : Valuation τ sig (Elt Ideal)) : StableHlo.after upto5 A (Proc.devRef .tc main_v54) = win0 (A (Proc.devRef .tc main_v37)) := by
  rw [upto5, StableHlo.after_append, k4_1, u4_0]
theorem u5_1 (A : Valuation τ sig (Elt Ideal)) : StableHlo.after upto5 A (Proc.devRef .tc main_v71) = win1 (A (Proc.devRef .tc main_v37)) := by
  rw [upto5, StableHlo.after_append, k4_2, u4_1]
theorem u5_2 (A : Valuation τ sig (Elt Ideal)) : StableHlo.after upto5 A (Proc.devRef .tc main_v88) = win2 (A (Proc.devRef .tc main_v37)) := by
  rw [upto5, StableHlo.after_append, k4_3, u4_2]
theorem u5_3 (A : Valuation τ sig (Elt Ideal)) : StableHlo.after upto5 A (Proc.devRef .tc main_v105) = win3 (A (Proc.devRef .tc main_v37)) := by
  rw [upto5, StableHlo.after_append, k4_4, u4_3]
theorem u5_4 (A : Valuation τ sig (Elt Ideal)) : StableHlo.after upto5 A (Proc.devRef .tc main_v122) = win4 (A (Proc.devRef .tc main_v37)) := by
  rw [upto5, StableHlo.after_append, w4, u4_t]
def upto6 : List (HloOp τ sig (Elt Ideal)) := upto5 ++ (slices 5 ++ join 5)
theorem u6_t (A : Valuation τ sig (Elt Ideal)) : StableHlo.after upto6 A (Proc.devRef .tc main_v37) = A (Proc.devRef .tc main_v37) := by
  rw [upto6, StableHlo.after_append, k5_0, u5_t]
theorem u6_0 (A : Valuation τ sig (Elt Ideal)) : StableHlo.after upto6 A (Proc.devRef .tc main_v54) = win0 (A (Proc.devRef .tc main_v37)) := by
  rw [upto6, StableHlo.after_append, k5_1, u5_0]
theorem u6_1 (A : Valuation τ sig (Elt Ideal)) : StableHlo.after upto6 A (Proc.devRef .tc main_v71) = win1 (A (Proc.devRef .tc main_v37)) := by
  rw [upto6, StableHlo.after_append, k5_2, u5_1]
theorem u6_2 (A : Valuation τ sig (Elt Ideal)) : StableHlo.after upto6 A (Proc.devRef .tc main_v88) = win2 (A (Proc.devRef .tc main_v37)) := by
  rw [upto6, StableHlo.after_append, k5_3, u5_2]
theorem u6_3 (A : Valuation τ sig (Elt Ideal)) : StableHlo.after upto6 A (Proc.devRef .tc main_v105) = win3 (A (Proc.devRef .tc main_v37)) := by
  rw [upto6, StableHlo.after_append, k5_4, u5_3]
theorem u6_4 (A : Valuation τ sig (Elt Ideal)) : StableHlo.after upto6 A (Proc.devRef .tc main_v122) = win4 (A (Proc.devRef .tc main_v37)) := by
  rw [upto6, StableHlo.after_append, k5_5, u5_4]
theorem u6_5 (A : Valuation τ sig (Elt Ideal)) : StableHlo.after upto6 A (Proc.devRef .tc main_v139) = win5 (A (Proc.devRef .tc main_v37)) := by
  rw [upto6, StableHlo.after_append, w5, u5_t]
def upto7 : List (HloOp τ sig (Elt Ideal)) := upto6 ++ (slices 6 ++ join 6)
theorem u7_t (A : Valuation τ sig (Elt Ideal)) : StableHlo.after upto7 A (Proc.devRef .tc main_v37) = A (Proc.devRef .tc main_v37) := by
  rw [upto7, StableHlo.after_append, k6_0, u6_t]
theorem u7_0 (A : Valuation τ sig (Elt Ideal)) : StableHlo.after upto7 A (Proc.devRef .tc main_v54) = win0 (A (Proc.devRef .tc main_v37)) := by
  rw [upto7, StableHlo.after_append, k6_1, u6_0]
theorem u7_1 (A : Valuation τ sig (Elt Ideal)) : StableHlo.after upto7 A (Proc.devRef .tc main_v71) = win1 (A (Proc.devRef .tc main_v37)) := by
  rw [upto7, StableHlo.after_append, k6_2, u6_1]
theorem u7_2 (A : Valuation τ sig (Elt Ideal)) : StableHlo.after upto7 A (Proc.devRef .tc main_v88) = win2 (A (Proc.devRef .tc main_v37)) := by
  rw [upto7, StableHlo.after_append, k6_3, u6_2]
theorem u7_3 (A : Valuation τ sig (Elt Ideal)) : StableHlo.after upto7 A (Proc.devRef .tc main_v105) = win3 (A (Proc.devRef .tc main_v37)) := by
  rw [upto7, StableHlo.after_append, k6_4, u6_3]
theorem u7_4 (A : Valuation τ sig (Elt Ideal)) : StableHlo.after upto7 A (Proc.devRef .tc main_v122) = win4 (A (Proc.devRef .tc main_v37)) := by
  rw [upto7, StableHlo.after_append, k6_5, u6_4]
theorem u7_5 (A : Valuation τ sig (Elt Ideal)) : StableHlo.after upto7 A (Proc.devRef .tc main_v139) = win5 (A (Proc.devRef .tc main_v37)) := by
  rw [upto7, StableHlo.after_append, k6_6, u6_5]
theorem u7_6 (A : Valuation τ sig (Elt Ideal)) : StableHlo.after upto7 A (Proc.devRef .tc main_v156) = win6 (A (Proc.devRef .tc main_v37)) := by
  rw [upto7, StableHlo.after_append, w6, u6_t]
def upto8 : List (HloOp τ sig (Elt Ideal)) := upto7 ++ (slices 7 ++ join 7)
theorem u8_0 (A : Valuation τ sig (Elt Ideal)) : StableHlo.after upto8 A (Proc.devRef .tc main_v54) = win0 (A (Proc.devRef .tc main_v37)) := by
  rw [upto8, StableHlo.after_append, k7_1, u7_0]
theorem u8_1 (A : Valuation τ sig (Elt Ideal)) : StableHlo.after upto8 A (Proc.devRef .tc main_v71) = win1 (A (Proc.devRef .tc main_v37)) := by
  rw [upto8, StableHlo.after_append, k7_2, u7_1]
theorem u8_2 (A : Valuation τ sig (Elt Ideal)) : StableHlo.after upto8 A (Proc.devRef .tc main_v88) = win2 (A (Proc.devRef .tc main_v37)) := by
  rw [upto8, StableHlo.after_append, k7_3, u7_2]
theorem u8_3 (A : Valuation τ sig (Elt Ideal)) : StableHlo.after upto8 A (Proc.devRef .tc main_v105) = win3 (A (Proc.devRef .tc main_v37)) := by
  rw [upto8, StableHlo.after_append, k7_4, u7_3]
theorem u8_4 (A : Valuation τ sig (Elt Ideal)) : StableHlo.after upto8 A (Proc.devRef .tc main_v122) = win4 (A (Proc.devRef .tc main_v37)) := by
  rw [upto8, StableHlo.after_append, k7_5, u7_4]
theorem u8_5 (A : Valuation τ sig (Elt Ideal)) : StableHlo.after upto8 A (Proc.devRef .tc main_v139) = win5 (A (Proc.devRef .tc main_v37)) := by
  rw [upto8, StableHlo.after_append, k7_6, u7_5]
theorem u8_6 (A : Valuation τ sig (Elt Ideal)) : StableHlo.after upto8 A (Proc.devRef .tc main_v156) = win6 (A (Proc.devRef .tc main_v37)) := by
  rw [upto8, StableHlo.after_append, k7_7, u7_6]
theorem u8_7 (A : Valuation τ sig (Elt Ideal)) : StableHlo.after upto8 A (Proc.devRef .tc main_v173) = win7 (A (Proc.devRef .tc main_v37)) := by
  rw [upto8, StableHlo.after_append, w7, u7_t]

theorem lines_eq :
    (hostOps0_6 : List (HloOp τ sig (Elt Ideal))) = upto8 ++ stack := rfl

theorem wins_read (A : Valuation τ sig (Elt Ideal)) :
    StableHlo.after hostOps0_6 A (Proc.devRef .tc main_v182) = wins (A (Proc.devRef .tc main_v37)) := by
  rw [lines_eq]
  rw [StableHlo.after_append, stack_read]
  rw [u8_0, u8_1, u8_2, u8_3, u8_4, u8_5, u8_6, u8_7]
  rfl
end Cert.NA.Kernel
-- ==== Proof.Final.lean ====
/- The kernel's result array: every point writes one head of one batch of the attention. -/
module

public import proofs.«01_k».proof.Proof.Entry
public import proofs.«01_k».proof.Proof.Wins
public import proofs.«01_k».proof.Proof.Gen.KernelIdeal.Value

@[expose] public section

set_option maxRecDepth 16384

noncomputable section

open Idealize.ShloMosaic Idealize.ShloMosaic.TcCoe Idealize.SL.Sem
open Cert.KernelIdeal Cert.KernelIdeal.Gen

namespace Cert.NA.Kernel

variable (m : (ℓ : Loc nD τ sig) → Buf (Elt Ideal) ℓ) (c : Dev nD)

theorem V_bias : V m c main_v182 = wins (cols (m ((c : Thread nD τ).loc main_arg2))) := by
  refine Eq.trans ?_ ((wins_read (StableHlo.after (hostOps0 ++ hostOps0_1 ++ hostOps0_2 ++ hostOps0_3 ++ hostOps0_4 ++ hostOps0_5) fun b => m (c, b))).trans
    (congrArg wins (cols_read fun b => m (c, b))))
  rw [← StableHlo.after_append]
  show StableHlo.after (List.flatten _) _ _ = _
  simp only [List.flatten_cons, List.flatten_nil, List.append_nil, List.append_assoc]

theorem idx : ∀ t : Fin cfg0.N, win0_0.index t = ![t.val / 12, 0, t.val % 12 + 96] ∧ win0_1.index t = ![t.val / 12, 0, t.val % 12 + 24]
    ∧ win0_2.index t = ![t.val / 12, 0, t.val % 12 + 36] ∧ win0_3.index t = ![t.val / 12, 0, t.val % 12 + 24]
    ∧ win0_4.index t = ![t.val / 12, 0, t.val % 12 + 36] ∧ win0_5.index t = ![t.val % 12, 0, 0, 0] ∧ win0_6.index t = ![0, 0]
    ∧ win0_7.index t = ![0, 0] ∧ win0_8.index t = ![t.val / 12, 0, t.val % 12] ∧ t.val / 12 < 4 :=
  (by decide +kernel : ∀ t : Fin grid0.N, _)

/-- The batch and the head of a grid point. -/
def batch (t : Fin cfg0.N) : Fin 4 := ⟨t.val / 12, (idx t).2.2.2.2.2.2.2.2.2⟩
def head (t : Fin cfg0.N) : Fin 12 := ⟨t.val % 12, Nat.mod_lt _ (by decide)⟩

abbrev b0 : Proj := m ((c : Thread nD τ).loc main_arg0)
abbrev b1 : ProjC := m ((c : Thread nD τ).loc main_arg1)
abbrev b2 : Rpb := m ((c : Thread nD τ).loc main_arg2)
abbrev b3 : Gain := m ((c : Thread nD τ).loc main_arg3)
abbrev b4 : Gain := m ((c : Thread nD τ).loc main_arg4)

theorem blk0 (t : Fin cfg0.N) (n : Fin 4096) (d : Fin 128) : (iblk m c 0 t : Vec Ideal S1x4096x128 .f32) (ix3 0 n d) = b0 m c (ix3 (batch t) n (lane 12288 (by decide) (head t) d)) := by
  unfold batch head lane; blk_ext [iblk, V, idx t]
theorem blk1 (t : Fin cfg0.N) (n : Fin 4096) (d : Fin 128) : (iblk m c 1 t : Vec Ideal S1x4096x128 .f32) (ix3 0 n d) = b0 m c (ix3 (batch t) n (lane 3072 (by decide) (head t) d)) := by
  unfold batch head lane; blk_ext [iblk, V, idx t]
theorem blk2 (t : Fin cfg0.N) (n : Fin 4096) (d : Fin 128) : (iblk m c 2 t : Vec Ideal S1x4096x128 .f32) (ix3 0 n d) = b0 m c (ix3 (batch t) n (lane 4608 (by decide) (head t) d)) := by
  unfold batch head lane; blk_ext [iblk, V, idx t]
theorem blk3 (t : Fin cfg0.N) (n : Fin 256) (d : Fin 128) : (iblk m c 3 t : Vec Ideal S1x256x128 .f32) (ix3 0 n d) = b1 m c (ix3 (batch t) n (lane 3072 (by decide) (head t) d)) := by
  unfold batch head lane; blk_ext [iblk, V, idx t]
theorem blk4 (t : Fin cfg0.N) (n : Fin 256) (d : Fin 128) : (iblk m c 4 t : Vec Ideal S1x256x128 .f32) (ix3 0 n d) = b1 m c (ix3 (batch t) n (lane 4608 (by decide) (head t) d)) := by
  unfold batch head lane; blk_ext [iblk, V, idx t]
theorem blk5 (t : Fin cfg0.N) (w : Fin 8) (x : Fin 64) (n : Fin 512) : (iblk m c 5 t : Vec Ideal S1x8x64x512 .f32) (ix4 0 w x n) = biasWin (b2 m c) (head t) w x n := by
  refine Eq.trans (b := V m c main_v182 (ix4 (head t) w x n)) ?_ ((congrFun (V_bias m c) _).trans (cols_bias _ _ _ _ _))
  unfold head; blk_ext [iblk, idx t]
theorem blk6 (t : Fin cfg0.N) (d : Fin 128) : (iblk m c 6 t : Vec Ideal S1x128 .f32) (ix2 0 d) = b3 m c (ix1 d) := by
  refine Eq.trans (b := V m c main_v0 (ix2 0 d)) ?_ (V_gainq m c d)
  blk_ext [iblk, idx t]
theorem blk7 (t : Fin cfg0.N) (d : Fin 128) : (iblk m c 7 t : Vec Ideal S1x128 .f32) (ix2 0 d) = b4 m c (ix1 d) := by
  refine Eq.trans (b := V m c main_v1 (ix2 0 d)) ?_ (V_gaink m c d)
  blk_ext [iblk, idx t]

/-- The attention as the result array. -/
def result (A0 : Proj) (A1 : ProjC) (A2 : Rpb) (A3 A4 : Gain) : FVec Ideal S4x4096x1536 .bf16 := fun i =>
  attn A0 A1 A2 A3 A4 (i 0) ⟨(i 2).val / 128, Nat.div_lt_of_lt_mul (i 2).isLt⟩ ⟨(i 1).val / 64, Nat.div_lt_of_lt_mul (i 1).isLt⟩
    ⟨(i 1).val % 64, Nat.mod_lt _ (by decide)⟩ ⟨(i 2).val % 128, Nat.mod_lt _ (by decide)⟩

/-- One point's block of it. -/
def block (A0 : Proj) (A1 : ProjC) (A2 : Rpb) (A3 A4 : Gain) (b : Fin 4) (h : Fin 12) : S1x4096x128.Idx → EReal := fun y =>
  attn A0 A1 A2 A3 A4 b h ⟨(y 1).val / 64, Nat.div_lt_of_lt_mul (y 1).isLt⟩ ⟨(y 1).val % 64, Nat.mod_lt _ (by decide)⟩ (y 2)

theorem block_tok (A0 : Proj) (A1 : ProjC) (A2 : Rpb) (A3 A4 : Gain) (b : Fin 4) (h : Fin 12) (r x : Fin 64) (d : Fin 128) :
    block A0 A1 A2 A3 A4 b h (ix3 0 (tok r x) d) = attn A0 A1 A2 A3 A4 b h r x d := by
  have e1 : (r.val * 64 + x.val) / 64 = r.val := by omega
  have e2 : (r.val * 64 + x.val) % 64 = x.val := by omega
  exact congrArg₂ (fun p q => attn A0 A1 A2 A3 A4 b h p q d) (Fin.ext e1) (Fin.ext e2)

theorem outs_eq (t : Fin cfg0.N) : (outsAt0 m c t : S1x4096x128.Idx → EReal) = block (b0 m c) (b1 m c) (b2 m c) (b3 m c) (b4 m c) (batch t) (head t) := by
  unfold outsAt0
  refine out_eq c _ _ _ _ _ _ _ _ _ _ _ _ _ _ _ _ _ _ _ _ _ _ _ _ _ _ _ _ _ _ _ _ _ _ _ _ fun k y => ?_
  obtain ⟨z, x, d, rfl⟩ : ∃ (z : Fin 1) (x : Fin 64) (d : Fin 128), y = ix3 z x d := ⟨y 0, y 1, y 2, (ix3_eta y).symm⟩
  obtain rfl : z = 0 := Subsingleton.elim _ _
  rw [emb_at, block_tok]
  exact trip_at _ _ _ _ _ _ _ _ _ _ _ _ _ _ _ (blk0 m c t) (blk1 m c t) (blk2 m c t) (blk3 m c t) (blk4 m c t) (blk5 m c t) (blk6 m c t) (blk7 m c t) k x d

theorem result_at (A0 : Proj) (A1 : ProjC) (A2 : Rpb) (A3 A4 : Gain) (b : Fin 4) (h : Fin 12) (n : Fin 4096) (d : Fin 128)
    (hb : h.val * 128 + d.val < 1536) :
    result A0 A1 A2 A3 A4 (ix3 b n ⟨h.val * 128 + d.val, hb⟩) = block A0 A1 A2 A3 A4 b h (ix3 0 n d) := by
  have e1 : (h.val * 128 + d.val) / 128 = h.val := by omega
  have e2 : (h.val * 128 + d.val) % 128 = d.val := by omega
  exact congrArg₂ (fun p q => attn A0 A1 A2 A3 A4 b p ⟨n.val / 64, by omega⟩ ⟨n.val % 64, by omega⟩ q) (Fin.ext e1) (Fin.ext e2)

theorem final : (dats m 0 c).arrAt 8 cfg0.N = result (b0 m c) (b1 m c) (b2 m c) (b3 m c) (b4 m c) := by
  refine (dats m 0 c).arrAt_eq_of_covers 8 _ (by decide +kernel) fun t _ y => ?_
  blk_simp
  rw [after0_8, outs_eq]
  obtain ⟨z, n, d, rfl⟩ : ∃ (z : Fin 1) (n : Fin 4096) (d : Fin 128), y = ix3 z n d := ⟨y 0, y 1, y 2, (ix3_eta y).symm⟩
  obtain rfl : z = 0 := Subsingleton.elim _ _
  refine (result_at _ _ _ _ _ (batch t) (head t) n d (by have := (head t).isLt; omega)).symm.trans ?_
  unfold batch head
  blk_ext [idx t]

end Cert.NA.Kernel
-- ==== Proof.Product2.lean ====
/- A product of the layer: every grid point's block of it is the product of a block of rows and a block of columns, and the
   reference's line is the same sum. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.StableHlo.RunHlo

@[expose] public section

set_option maxRecDepth 16384

noncomputable section

open Idealize.ShloMosaic Idealize.ShloMosaic.TcCoe Idealize.SL.Sem

namespace Cert.Product2

/-- Row `n` of the tokens times column `j` of the weight. -/
def entry (A : FVec Ideal ⟨3, ![4, 4096, 4096]⟩ .f32) (W : FVec Ideal ⟨2, ![4096, 13824]⟩ .f32) (n : Fin 16384) (j : Fin 13824) : EReal :=
  ∑ k : Fin 4096, A (ix3 ⟨n.val / 4096, by omega⟩ ⟨n.val % 4096, Nat.mod_lt _ (by decide)⟩ k) * W (ix2 k j)

/-- The product, one row for each token. -/
def result (A : FVec Ideal ⟨3, ![4, 4096, 4096]⟩ .f32) (W : FVec Ideal ⟨2, ![4096, 13824]⟩ .f32) : FVec Ideal ⟨2, ![16384, 13824]⟩ .f32 :=
  fun i => entry A W (i 0) (i 1)

namespace Kernel

open Cert.Kernel2Ideal Cert.Kernel2Ideal.Gen

/-- The body: the product of its two blocks. -/
theorem out_at (x : Vec Ideal S1024x4096 .bf16) (w : Vec Ideal S4096x768 .bf16) (r : Fin 1024) (s : Fin 768) :
    out0_2 x w (ix2 r s) = ∑ k : Fin 4096, x (ix2 r k) * w (ix2 k s) := by
  frame_out
  pointwise [k0_pay1]

/-- The tokens in one list, and the weight, as the host hands them to the call. -/
def tokens (A : FVec Ideal S4x4096x4096 .f32) : FVec Ideal S16384x4096 .bf16 :=
  truncf .bf16 (shapeCast S16384x4096 A shapeCasts_S4x4096x4096_S16384x4096) bitsLt_bf16_f32
def weight (W : FVec Ideal S4096x13824 .f32) : FVec Ideal S4096x13824 .bf16 := truncf .bf16 W bitsLt_bf16_f32

theorem tokens_at (A : FVec Ideal S4x4096x4096 .f32) (n : Fin 16384) (k : Fin 4096) :
    tokens A (ix2 n k) = A (ix3 ⟨n.val / 4096, by omega⟩ ⟨n.val % 4096, Nat.mod_lt _ (by decide)⟩ k) := by
  pointwise [tokens]
theorem weight_at (W : FVec Ideal S4096x13824 .f32) (k : Fin 4096) (j : Fin 13824) : weight W (ix2 k j) = W (ix2 k j) := by
  pointwise [weight]

variable (m : (ℓ : Loc nD τ sig) → Buf (Elt Ideal) ℓ) (c : Dev nD)

theorem V_tok (n : Fin 16384) (k : Fin 4096) : V m c main_v1 (ix2 n k)
    = m ((c : Thread nD τ).loc main_arg0) (ix3 ⟨n.val / 4096, by omega⟩ ⟨n.val % 4096, Nat.mod_lt _ (by decide)⟩ k) := by
  have e : V m c main_v1 = tokens (m ((c : Thread nD τ).loc main_arg0)) := by
    show StableHlo.after hostOps0 (fun b => m (c, b)) (Proc.devRef .tc main_v1) = _
    after_results_simp
    rfl
  rw [e]
  exact tokens_at _ n k

theorem V_weight (k : Fin 4096) (j : Fin 13824) : V m c main_v2 (ix2 k j) = m ((c : Thread nD τ).loc main_arg1) (ix2 k j) := by
  have e : V m c main_v2 = weight (m ((c : Thread nD τ).loc main_arg1)) := by
    show StableHlo.after hostOps0 (fun b => m (c, b)) (Proc.devRef .tc main_v2) = _
    after_results_simp
    rfl
  rw [e]
  exact weight_at _ k j

theorem idx : ∀ t : Fin cfg0.N, win0_0.index t = ![t.val / 18, 0] ∧ win0_1.index t = ![0, t.val % 18] ∧ win0_2.index t = ![t.val / 18, t.val % 18]
    ∧ t.val / 18 < 16 :=
  (by decide +kernel : ∀ t : Fin grid0.N, _)

/-- The row and the column of a position of a point's block. -/
def row (t : Fin cfg0.N) (r : Fin 1024) : Fin 16384 := ⟨t.val / 18 * 1024 + r.val, by have := (idx t).2.2.2; omega⟩
def col (t : Fin cfg0.N) (s : Fin 768) : Fin 13824 := ⟨t.val % 18 * 768 + s.val, by have := Nat.mod_lt t.val (show 0 < 18 by decide); omega⟩

theorem blk0 (t : Fin cfg0.N) (r : Fin 1024) (k : Fin 4096) : (iblk m c 0 t : Vec Ideal S1024x4096 .bf16) (ix2 r k) = V m c main_v1 (ix2 (row t r) k) := by
  unfold row; blk_ext [iblk, idx t]
theorem blk1 (t : Fin cfg0.N) (k : Fin 4096) (s : Fin 768) : (iblk m c 1 t : Vec Ideal S4096x768 .bf16) (ix2 k s) = V m c main_v2 (ix2 k (col t s)) := by
  unfold col; blk_ext [iblk, idx t]

theorem final : (dats m 0 c).arrAt 2 cfg0.N = result (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, s, rfl⟩ : ∃ (r : Fin 1024) (s : Fin 768), y = ix2 r s := ⟨y 0, y 1, (ix2_eta y).symm⟩
  rw [out_at]
  refine Eq.trans (b := result (m ((c : Thread nD τ).loc main_arg0)) (m ((c : Thread nD τ).loc main_arg1)) (ix2 (row t r) (col t s))) ?_ ?_
  · exact Finset.sum_congr rfl fun k _ => congrArg₂ (fun p q : EReal => p * q) ((blk0 m c t r k).trans (V_tok m c _ k)) ((blk1 m c t k s).trans (V_weight m c k _))
  · unfold row col
    blk_ext [idx t]

end Kernel

namespace Ref

open Cert.Reference2Ideal Cert.Reference2Ideal.Gen

theorem value (A : FVec Ideal S4x4096x4096 .f32) (W : FVec Ideal S4096x13824 .f32) :
    shapeCast S16384x13824 (Host.dotGeneral (φ₁ := .f32) (φ₂ := .f32) dot_S4x4096x4096_S4096x13824_S4x4096x13824_2_0_01_1_n_n none A W) shapeCasts_S4x4096x13824_S16384x13824
      = result A W := by
  funext y
  obtain ⟨n, j, rfl⟩ : ∃ (n : Fin 16384) (j : Fin 13824), y = ix2 n j := ⟨y 0, y 1, (ix2_eta y).symm⟩
  pointwise [result, entry]

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v1) = result (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (value _ _), (h c).2⟩) (Value.run m ρ)

theorem frame : θ_run defs (onTc (τ := τ) (main (F := Ideal))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => (h c).2, sem_eq_zero_of_no_sems (by decide) r.2⟩) (run m ρ)

end Ref

end Cert.Product2

end
-- ==== Proof.Product3.lean ====
/- A product of the layer: every grid point's block of it is the product of a block of rows and a block of columns, and the
   reference's line is the same sum. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.StableHlo.RunHlo

@[expose] public section

set_option maxRecDepth 16384

noncomputable section

open Idealize.ShloMosaic Idealize.ShloMosaic.TcCoe Idealize.SL.Sem

namespace Cert.Product3

/-- Row `n` of the tokens times column `j` of the weight. -/
def entry (A : FVec Ideal ⟨3, ![4, 4096, 4096]⟩ .f32) (W : FVec Ideal ⟨2, ![4096, 4096]⟩ .f32) (n : Fin 16384) (j : Fin 4096) : EReal :=
  ∑ k : Fin 4096, A (ix3 ⟨n.val / 4096, by omega⟩ ⟨n.val % 4096, Nat.mod_lt _ (by decide)⟩ k) * W (ix2 k j)

/-- The product, one row for each token. -/
def result (A : FVec Ideal ⟨3, ![4, 4096, 4096]⟩ .f32) (W : FVec Ideal ⟨2, ![4096, 4096]⟩ .f32) : FVec Ideal ⟨2, ![16384, 4096]⟩ .f32 :=
  fun i => entry A W (i 0) (i 1)

namespace Kernel

open Cert.Kernel3Ideal Cert.Kernel3Ideal.Gen

/-- The body: the product of its two blocks. -/
theorem out_at (x : Vec Ideal S1024x4096 .bf16) (w : Vec Ideal S4096x1024 .bf16) (r : Fin 1024) (s : Fin 1024) :
    out0_2 x w (ix2 r s) = ∑ k : Fin 4096, x (ix2 r k) * w (ix2 k s) := by
  frame_out
  pointwise [k0_pay1]

/-- The tokens in one list, and the weight, as the host hands them to the call. -/
def tokens (A : FVec Ideal S4x4096x4096 .f32) : FVec Ideal S16384x4096 .bf16 :=
  truncf .bf16 (shapeCast S16384x4096 A shapeCasts_S4x4096x4096_S16384x4096) bitsLt_bf16_f32
def weight (W : FVec Ideal S4096x4096 .f32) : FVec Ideal S4096x4096 .bf16 := truncf .bf16 W bitsLt_bf16_f32

theorem tokens_at (A : FVec Ideal S4x4096x4096 .f32) (n : Fin 16384) (k : Fin 4096) :
    tokens A (ix2 n k) = A (ix3 ⟨n.val / 4096, by omega⟩ ⟨n.val % 4096, Nat.mod_lt _ (by decide)⟩ k) := by
  pointwise [tokens]
theorem weight_at (W : FVec Ideal S4096x4096 .f32) (k : Fin 4096) (j : Fin 4096) : weight W (ix2 k j) = W (ix2 k j) := by
  pointwise [weight]

variable (m : (ℓ : Loc nD τ sig) → Buf (Elt Ideal) ℓ) (c : Dev nD)

theorem V_tok (n : Fin 16384) (k : Fin 4096) : V m c main_v1 (ix2 n k)
    = m ((c : Thread nD τ).loc main_arg0) (ix3 ⟨n.val / 4096, by omega⟩ ⟨n.val % 4096, Nat.mod_lt _ (by decide)⟩ k) := by
  have e : V m c main_v1 = tokens (m ((c : Thread nD τ).loc main_arg0)) := by
    show StableHlo.after hostOps0 (fun b => m (c, b)) (Proc.devRef .tc main_v1) = _
    after_results_simp
    rfl
  rw [e]
  exact tokens_at _ n k

theorem V_weight (k : Fin 4096) (j : Fin 4096) : V m c main_v2 (ix2 k j) = m ((c : Thread nD τ).loc main_arg1) (ix2 k j) := by
  have e : V m c main_v2 = weight (m ((c : Thread nD τ).loc main_arg1)) := by
    show StableHlo.after hostOps0 (fun b => m (c, b)) (Proc.devRef .tc main_v2) = _
    after_results_simp
    rfl
  rw [e]
  exact weight_at _ k j

theorem idx : ∀ t : Fin cfg0.N, win0_0.index t = ![t.val / 4, 0] ∧ win0_1.index t = ![0, t.val % 4] ∧ win0_2.index t = ![t.val / 4, t.val % 4]
    ∧ t.val / 4 < 16 :=
  (by decide +kernel : ∀ t : Fin grid0.N, _)

/-- The row and the column of a position of a point's block. -/
def row (t : Fin cfg0.N) (r : Fin 1024) : Fin 16384 := ⟨t.val / 4 * 1024 + r.val, by have := (idx t).2.2.2; omega⟩
def col (t : Fin cfg0.N) (s : Fin 1024) : Fin 4096 := ⟨t.val % 4 * 1024 + s.val, by have := Nat.mod_lt t.val (show 0 < 4 by decide); omega⟩

theorem blk0 (t : Fin cfg0.N) (r : Fin 1024) (k : Fin 4096) : (iblk m c 0 t : Vec Ideal S1024x4096 .bf16) (ix2 r k) = V m c main_v1 (ix2 (row t r) k) := by
  unfold row; blk_ext [iblk, idx t]
theorem blk1 (t : Fin cfg0.N) (k : Fin 4096) (s : Fin 1024) : (iblk m c 1 t : Vec Ideal S4096x1024 .bf16) (ix2 k s) = V m c main_v2 (ix2 k (col t s)) := by
  unfold col; blk_ext [iblk, idx t]

theorem final : (dats m 0 c).arrAt 2 cfg0.N = result (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, s, rfl⟩ : ∃ (r : Fin 1024) (s : Fin 1024), y = ix2 r s := ⟨y 0, y 1, (ix2_eta y).symm⟩
  rw [out_at]
  refine Eq.trans (b := result (m ((c : Thread nD τ).loc main_arg0)) (m ((c : Thread nD τ).loc main_arg1)) (ix2 (row t r) (col t s))) ?_ ?_
  · exact Finset.sum_congr rfl fun k _ => congrArg₂ (fun p q : EReal => p * q) ((blk0 m c t r k).trans (V_tok m c _ k)) ((blk1 m c t k s).trans (V_weight m c k _))
  · unfold row col
    blk_ext [idx t]

end Kernel

namespace Ref

open Cert.Reference3Ideal Cert.Reference3Ideal.Gen

theorem value (A : FVec Ideal S4x4096x4096 .f32) (W : FVec Ideal S4096x4096 .f32) :
    shapeCast S16384x4096 (Host.dotGeneral (φ₁ := .f32) (φ₂ := .f32) dot_S4x4096x4096_S4096x4096_S4x4096x4096_2_0_01_1_n_n none A W) shapeCasts_S4x4096x4096_S16384x4096
      = result A W := by
  funext y
  obtain ⟨n, j, rfl⟩ : ∃ (n : Fin 16384) (j : Fin 4096), y = ix2 n j := ⟨y 0, y 1, (ix2_eta y).symm⟩
  pointwise [result, entry]

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v1) = result (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (value _ _), (h c).2⟩) (Value.run m ρ)

theorem frame : θ_run defs (onTc (τ := τ) (main (F := Ideal))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => (h c).2, sem_eq_zero_of_no_sems (by decide) r.2⟩) (run m ρ)

end Ref

end Cert.Product3

end
-- ==== Proof.Product4.lean ====
/- A product of the layer: every grid point's block of it is the product of a block of rows and a block of columns, and the
   reference's line is the same sum. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.StableHlo.RunHlo

@[expose] public section

set_option maxRecDepth 16384

noncomputable section

open Idealize.ShloMosaic Idealize.ShloMosaic.TcCoe Idealize.SL.Sem

namespace Cert.Product4

/-- Row `n` of the tokens times column `j` of the weight. -/
def entry (A : FVec Ideal ⟨3, ![4, 4096, 4096]⟩ .f32) (W : FVec Ideal ⟨2, ![4096, 2048]⟩ .f32) (n : Fin 16384) (j : Fin 2048) : EReal :=
  ∑ k : Fin 4096, A (ix3 ⟨n.val / 4096, by omega⟩ ⟨n.val % 4096, Nat.mod_lt _ (by decide)⟩ k) * W (ix2 k j)

/-- The product, one column for each token. -/
def result (A : FVec Ideal ⟨3, ![4, 4096, 4096]⟩ .f32) (W : FVec Ideal ⟨2, ![4096, 2048]⟩ .f32) : FVec Ideal ⟨2, ![2048, 16384]⟩ .f32 :=
  fun i => entry A W (i 1) (i 0)

namespace Kernel

open Cert.Kernel4Ideal Cert.Kernel4Ideal.Gen

/-- The body: the rows of its first block times the rows of its second. -/
theorem out_at (w : Vec Ideal S1024x4096 .bf16) (x : Vec Ideal S1024x4096 .bf16) (s r : Fin 1024) :
    out0_2 w x (ix2 s r) = ∑ k : Fin 4096, w (ix2 s k) * x (ix2 r k) := by
  frame_out
  pointwise [k0_pay1]

/-- The tokens in one list, and the weight turned over, as the host hands them to the call. -/
def tokens (A : FVec Ideal S4x4096x4096 .f32) : FVec Ideal S16384x4096 .bf16 :=
  truncf .bf16 (shapeCast S16384x4096 A shapeCasts_S4x4096x4096_S16384x4096) bitsLt_bf16_f32
def weight (W : FVec Ideal S4096x2048 .f32) : FVec Ideal S2048x4096 .bf16 :=
  truncf .bf16 (transpose S2048x4096 [1, 0] W transposes_S4096x2048_S2048x4096_1_0) bitsLt_bf16_f32

theorem tokens_at (A : FVec Ideal S4x4096x4096 .f32) (n : Fin 16384) (k : Fin 4096) :
    tokens A (ix2 n k) = A (ix3 ⟨n.val / 4096, by omega⟩ ⟨n.val % 4096, Nat.mod_lt _ (by decide)⟩ k) := by
  pointwise [tokens]
theorem weight_at (W : FVec Ideal S4096x2048 .f32) (k : Fin 4096) (j : Fin 2048) : weight W (ix2 j k) = W (ix2 k j) := by
  pointwise [weight]

variable (m : (ℓ : Loc nD τ sig) → Buf (Elt Ideal) ℓ) (c : Dev nD)

theorem V_tok (n : Fin 16384) (k : Fin 4096) : V m c main_v1 (ix2 n k)
    = m ((c : Thread nD τ).loc main_arg0) (ix3 ⟨n.val / 4096, by omega⟩ ⟨n.val % 4096, Nat.mod_lt _ (by decide)⟩ k) := by
  have e : V m c main_v1 = tokens (m ((c : Thread nD τ).loc main_arg0)) := by
    show StableHlo.after hostOps0 (fun b => m (c, b)) (Proc.devRef .tc main_v1) = _
    after_results_simp
    rfl
  rw [e]
  exact tokens_at _ n k

theorem V_weight (k : Fin 4096) (j : Fin 2048) : V m c main_v3 (ix2 j k) = m ((c : Thread nD τ).loc main_arg1) (ix2 k j) := by
  have e : V m c main_v3 = weight (m ((c : Thread nD τ).loc main_arg1)) := by
    show StableHlo.after hostOps0 (fun b => m (c, b)) (Proc.devRef .tc main_v3) = _
    after_results_simp
    rfl
  rw [e]
  exact weight_at _ k j

theorem idx : ∀ t : Fin cfg0.N, win0_0.index t = ![t.val % 2, 0] ∧ win0_1.index t = ![t.val / 2, 0] ∧ win0_2.index t = ![t.val % 2, t.val / 2]
    ∧ t.val / 2 < 16 :=
  (by decide +kernel : ∀ t : Fin grid0.N, _)

/-- The token and the query lane of a position of a point's block. -/
def row (t : Fin cfg0.N) (r : Fin 1024) : Fin 16384 := ⟨t.val / 2 * 1024 + r.val, by have := (idx t).2.2.2; omega⟩
def col (t : Fin cfg0.N) (s : Fin 1024) : Fin 2048 := ⟨t.val % 2 * 1024 + s.val, by have := Nat.mod_lt t.val (show 0 < 2 by decide); omega⟩

theorem blk0 (t : Fin cfg0.N) (s : Fin 1024) (k : Fin 4096) : (iblk m c 0 t : Vec Ideal S1024x4096 .bf16) (ix2 s k) = V m c main_v3 (ix2 (col t s) k) := by
  unfold col; blk_ext [iblk, idx t]
theorem blk1 (t : Fin cfg0.N) (r : Fin 1024) (k : Fin 4096) : (iblk m c 1 t : Vec Ideal S1024x4096 .bf16) (ix2 r k) = V m c main_v1 (ix2 (row t r) k) := by
  unfold row; blk_ext [iblk, idx t]

theorem final : (dats m 0 c).arrAt 2 cfg0.N = result (m ((c : Thread nD τ).loc main_arg0)) (m ((c : Thread nD τ).loc main_arg1)) := by
  refine (dats m 0 c).arrAt_eq_of_covers 2 _ (by decide +kernel) fun t _ y => ?_
  blk_simp
  rw [after0_2]
  obtain ⟨s, r, rfl⟩ : ∃ (s r : Fin 1024), y = ix2 s r := ⟨y 0, y 1, (ix2_eta y).symm⟩
  rw [out_at]
  refine Eq.trans (b := result (m ((c : Thread nD τ).loc main_arg0)) (m ((c : Thread nD τ).loc main_arg1)) (ix2 (col t s) (row t r))) ?_ ?_
  · exact Finset.sum_congr rfl fun k _ => congrArg₂ (fun p q : EReal => p * q) ((blk0 m c t s k).trans (V_weight m c k _)) ((blk1 m c t r k).trans (V_tok m c _ k)) |>.trans (mul_comm _ _)
  · unfold row col
    blk_ext [idx t]

end Kernel

namespace Ref

open Cert.Reference4Ideal Cert.Reference4Ideal.Gen

theorem value (A : FVec Ideal S4x4096x4096 .f32) (W : FVec Ideal S4096x2048 .f32) :
    transpose S2048x16384 [1, 0] (Host.dotGeneral (φ₁ := .f32) (φ₂ := .f32) dot_S16384x4096_S4096x2048_S16384x2048_1_0_0_1_n_n none (shapeCast S16384x4096 A shapeCasts_S4x4096x4096_S16384x4096) W) transposes_S16384x2048_S2048x16384_1_0
      = result A W := by
  funext y
  obtain ⟨j, n, rfl⟩ : ∃ (j : Fin 2048) (n : Fin 16384), y = ix2 j n := ⟨y 0, y 1, (ix2_eta y).symm⟩
  pointwise [result, entry]

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v2) = result (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (value _ _), (h c).2⟩) (Value.run m ρ)

theorem frame : θ_run defs (onTc (τ := τ) (main (F := Ideal))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => (h c).2, sem_eq_zero_of_no_sems (by decide) r.2⟩) (run m ρ)

end Ref

end Cert.Product4

end
-- ==== Proof.Norm5.lean ====
/- The norm and modulation that opens a mixer: every grid point's block of it is computed token by token, and the reference's
   lines are the same operations on each token. -/
module

public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.StableHlo.RunHlo

@[expose] public section

set_option maxRecDepth 16384

noncomputable section

open Idealize.ShloMosaic Idealize.ShloMosaic.TcCoe Idealize.SL.Sem

namespace Cert.Norm5

/-- Channel `d` of one token: the token over its root mean square, times the gain, scaled by one more than `s` and moved by `h`. -/
def entry (x : Fin 4096 → EReal) (g s h : EReal) (d : Fin 4096) : EReal :=
  x d * Ideal.rsqrt (Ideal.div (∑ k : Fin 4096, x k * x k) (Scalar.ofBits (F := Ideal) .f32 0x45800000#32) + Scalar.ofBits (F := Ideal) .f32 0x358637BD#32) * g
    * (Scalar.ofBits (F := Ideal) .f32 0x3F800000#32 + s) + h

/-- Every token, its batch entry's shift and scale. -/
def result (A : FVec Ideal ⟨3, ![4, 4096, 4096]⟩ .f32) (G : FVec Ideal ⟨1, ![4096]⟩ .f32) (H S : FVec Ideal ⟨3, ![4, 1, 4096]⟩ .f32) :
    FVec Ideal ⟨3, ![4, 4096, 4096]⟩ .bf16 :=
  fun i => entry (fun k => A (ix3 (i 0) (i 1) k)) (G (ix1 (i 2))) (S (ix3 (i 0) 0 (i 2))) (H (ix3 (i 0) 0 (i 2))) (i 2)

namespace Kernel

open Cert.Kernel5Ideal Cert.Kernel5Ideal.Gen Cert.Kernel5Ideal.Value

/-- The body, at a token of its block. -/
theorem out_at (x : Vec Ideal S1x256x4096 .f32) (g : Vec Ideal S1x4096 .f32) (h s : Vec Ideal S1x1x4096 .f32) (r : Fin 256) (d : Fin 4096) :
    out0_4 x g h s (ix3 0 r d) = entry (fun k => x (ix3 0 r k)) (g (ix2 0 d)) (s (ix3 0 0 d)) (h (ix3 0 0 d)) d := by
  frame_out
  pointwise [k0_pay1, entry]

/-- The gain in one row, as the host hands it to the call. -/
def gain (G : FVec Ideal S4096 .f32) : FVec Ideal S1x4096 .f32 := shapeCast S1x4096 G shapeCasts_S4096_S1x4096

theorem gain_at (G : FVec Ideal S4096 .f32) (d : Fin 4096) : gain G (ix2 0 d) = G (ix1 d) := by
  pointwise [gain]

variable (m : (ℓ : Loc nD τ sig) → Buf (Elt Ideal) ℓ) (c : Dev nD)

theorem V_gain (d : Fin 4096) : V m c main_v0 (ix2 0 d) = m ((c : Thread nD τ).loc main_arg1) (ix1 d) := by
  have e : V m c main_v0 = gain (m ((c : Thread nD τ).loc main_arg1)) := by
    show StableHlo.after hostOps0 (fun b => m (c, b)) (Proc.devRef .tc main_v0) = _
    after_results_simp
    rfl
  rw [e]
  exact gain_at _ d

theorem idx : ∀ t : Fin cfg0.N, win0_0.index t = ![t.val / 16, t.val % 16, 0] ∧ win0_1.index t = ![0, 0] ∧ win0_2.index t = ![t.val / 16, 0, 0]
    ∧ win0_3.index t = ![t.val / 16, 0, 0] ∧ win0_4.index t = ![t.val / 16, t.val % 16, 0] ∧ t.val / 16 < 4 :=
  (by decide +kernel : ∀ t : Fin grid0.N, _)

/-- The batch entry and the token of a position of a point's block. -/
def bat (t : Fin cfg0.N) : Fin 4 := ⟨t.val / 16, (idx t).2.2.2.2.2⟩
def tok (t : Fin cfg0.N) (r : Fin 256) : Fin 4096 := ⟨t.val % 16 * 256 + r.val, by have := Nat.mod_lt t.val (show 0 < 16 by decide); omega⟩

theorem blk0 (t : Fin cfg0.N) (r : Fin 256) (k : Fin 4096) :
    (iblk m c 0 t : Vec Ideal S1x256x4096 .f32) (ix3 0 r k) = m ((c : Thread nD τ).loc main_arg0) (ix3 (bat t) (tok t r) k) := by
  rw [← V_main_arg0 m c]; unfold bat tok; blk_ext [iblk, idx t]
theorem blk1 (t : Fin cfg0.N) (d : Fin 4096) :
    (iblk m c 1 t : Vec Ideal S1x4096 .f32) (ix2 0 d) = m ((c : Thread nD τ).loc main_arg1) (ix1 d) := by
  rw [← V_gain m c]; blk_ext [iblk, idx t]
theorem blk2 (t : Fin cfg0.N) (d : Fin 4096) :
    (iblk m c 2 t : Vec Ideal S1x1x4096 .f32) (ix3 0 0 d) = m ((c : Thread nD τ).loc main_arg2) (ix3 (bat t) 0 d) := by
  rw [← V_main_arg2 m c]; unfold bat; blk_ext [iblk, idx t]
theorem blk3 (t : Fin cfg0.N) (d : Fin 4096) :
    (iblk m c 3 t : Vec Ideal S1x1x4096 .f32) (ix3 0 0 d) = m ((c : Thread nD τ).loc main_arg3) (ix3 (bat t) 0 d) := by
  rw [← V_main_arg3 m c]; unfold bat; blk_ext [iblk, idx t]

theorem final : (dats m 0 c).arrAt 4 cfg0.N = result (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]
  obtain ⟨r, d, rfl⟩ : ∃ (r : Fin 256) (d : Fin 4096), y = ix3 0 r d :=
    ⟨y 1, y 2, (ix3_eta y).symm.trans (congrArg (fun a => ix3 a (y 1) (y 2)) (Subsingleton.elim (α := Fin 1) _ _))⟩
  rw [out_at]
  refine Eq.trans (b := result (m ((c : Thread nD τ).loc main_arg0)) (m ((c : Thread nD τ).loc main_arg1))
    (m ((c : Thread nD τ).loc main_arg2)) (m ((c : Thread nD τ).loc main_arg3)) (ix3 (bat t) (tok t r) d)) ?_ ?_
  · rw [blk1, blk2, blk3]
    exact congrArg (fun x => entry x _ _ _ d) (funext fun k => blk0 m c t r k)
  · unfold bat tok
    blk_ext [idx t]

end Kernel

namespace Ref

open Cert.Reference5Ideal Cert.Reference5Ideal.Gen

/-- The reference's lines. -/
def lines (A : FVec Ideal S4x4096x4096 .f32) (G : FVec Ideal S4096 .f32) (H S : FVec Ideal S4x1x4096 .f32) : FVec Ideal S4x4096x4096 .bf16 :=
  truncf .bf16 (addf (mulf (mulf (mulf A (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf A A) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 G))) (broadcastInDim S4x4096x4096 ![0, 1, 2] bcast_S4x1x4096_S4x4096x4096_0_1_2 (addf (broadcastInDim S4x1x4096 ![] bcast_S_S4x1x4096 (constant S_ .f32 0x3F800000#32)) S))) (broadcastInDim S4x4096x4096 ![0, 1, 2] bcast_S4x1x4096_S4x4096x4096_0_1_2 H)) bitsLt_bf16_f32

theorem value (A : FVec Ideal S4x4096x4096 .f32) (G : FVec Ideal S4096 .f32) (H S : FVec Ideal S4x1x4096 .f32) : lines A G H S = result A G H S := by
  funext y
  obtain ⟨b, n, d, rfl⟩ : ∃ (b : Fin 4) (n : Fin 4096) (d : Fin 4096), y = ix3 b n d := ⟨y 0, y 1, y 2, (ix3_eta y).symm⟩
  pointwise [lines, result, entry]

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v19) = result (m ((c : Thread nD τ).loc main_arg0)) (m ((c : Thread nD τ).loc main_arg1))
      (m ((c : Thread nD τ).loc main_arg2)) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (value _ _ _ _), (h c).2⟩) (Value.run m ρ)

theorem frame : θ_run defs (onTc (τ := τ) (main (F := Ideal))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  (θ_run defs _ _).mono (fun r h => ⟨fun c => (h c).2, sem_eq_zero_of_no_sems (by decide) r.2⟩) (run m ρ)

end Ref

end Cert.Norm5

end
-- ==== Proof.Norm6.lean ====
/- A gated residual and the norm and modulation after it: every grid point's block of it is computed token by token, and the reference's
   lines are the same operations on each token. -/
module

public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.StableHlo.RunHlo

@[expose] public section

set_option maxRecDepth 16384

noncomputable section

open Idealize.ShloMosaic Idealize.ShloMosaic.TcCoe Idealize.SL.Sem

namespace Cert.Norm6

/-- Channel `d` of one token: the token over its root mean square, times the gain, scaled by one more than `s` and moved by `h`. -/
def entry (x : Fin 4096 → EReal) (g s h : EReal) (d : Fin 4096) : EReal :=
  x d * Ideal.rsqrt (Ideal.div (∑ k : Fin 4096, x k * x k) (Scalar.ofBits (F := Ideal) .f32 0x45800000#32) + Scalar.ofBits (F := Ideal) .f32 0x358637BD#32) * g
    * (Scalar.ofBits (F := Ideal) .f32 0x3F800000#32 + s) + h

/-- The residual: the tokens with their mixer's output added, gated for each batch entry. -/
def mixed (A R : FVec Ideal ⟨3, ![4, 4096, 4096]⟩ .f32) (T : FVec Ideal ⟨3, ![4, 1, 4096]⟩ .f32) : FVec Ideal ⟨3, ![4, 4096, 4096]⟩ .f32 :=
  fun i => A (ix3 (i 0) (i 1) (i 2)) + T (ix3 (i 0) 0 (i 2)) * R (ix3 (i 0) (i 1) (i 2))

/-- Every token, its batch entry's shift and scale. -/
def result (A : FVec Ideal ⟨3, ![4, 4096, 4096]⟩ .f32) (G : FVec Ideal ⟨1, ![4096]⟩ .f32) (H S : FVec Ideal ⟨3, ![4, 1, 4096]⟩ .f32)
    (R : FVec Ideal ⟨3, ![4, 4096, 4096]⟩ .f32) (T : FVec Ideal ⟨3, ![4, 1, 4096]⟩ .f32) : FVec Ideal ⟨3, ![4, 4096, 4096]⟩ .bf16 :=
  fun i => entry (fun k => mixed A R T (ix3 (i 0) (i 1) k)) (G (ix1 (i 2))) (S (ix3 (i 0) 0 (i 2))) (H (ix3 (i 0) 0 (i 2))) (i 2)

namespace Kernel

open Cert.Kernel6Ideal Cert.Kernel6Ideal.Gen Cert.Kernel6Ideal.Value

/-- The body, at a token of its block: the residual, -/
theorem mixed_at (x : Vec Ideal S1x256x4096 .f32) (g : Vec Ideal S1x4096 .f32) (h s : Vec Ideal S1x1x4096 .f32) (o : Vec Ideal S1x256x4096 .f32)
    (a : Vec Ideal S1x1x4096 .f32) (r : Fin 256) (d : Fin 4096) :
    out0_6 x g h s o a (ix3 0 r d) = x (ix3 0 r d) + a (ix3 0 0 d) * o (ix3 0 r d) := by
  frame_out
  pointwise [k0_pay3, k0_pay2]

/-- and its norm. -/
theorem out_at (x : Vec Ideal S1x256x4096 .f32) (g : Vec Ideal S1x4096 .f32) (h s : Vec Ideal S1x1x4096 .f32) (o : Vec Ideal S1x256x4096 .f32)
    (a : Vec Ideal S1x1x4096 .f32) (r : Fin 256) (d : Fin 4096) :
    out0_7 x g h s o a (ix3 0 r d)
      = entry (fun k => x (ix3 0 r k) + a (ix3 0 0 k) * o (ix3 0 r k)) (g (ix2 0 d)) (s (ix3 0 0 d)) (h (ix3 0 0 d)) d := by
  frame_out
  pointwise [k0_pay1, k0_pay4, k0_pay2, entry]

/-- The gain in one row, as the host hands it to the call. -/
def gain (G : FVec Ideal S4096 .f32) : FVec Ideal S1x4096 .f32 := shapeCast S1x4096 G shapeCasts_S4096_S1x4096

theorem gain_at (G : FVec Ideal S4096 .f32) (d : Fin 4096) : gain G (ix2 0 d) = G (ix1 d) := by
  pointwise [gain]

variable (m : (ℓ : Loc nD τ sig) → Buf (Elt Ideal) ℓ) (c : Dev nD)

theorem V_gain (d : Fin 4096) : V m c main_v0 (ix2 0 d) = m ((c : Thread nD τ).loc main_arg1) (ix1 d) := by
  have e : V m c main_v0 = gain (m ((c : Thread nD τ).loc main_arg1)) := by
    show StableHlo.after hostOps0 (fun b => m (c, b)) (Proc.devRef .tc main_v0) = _
    after_results_simp
    rfl
  rw [e]
  exact gain_at _ d

theorem idx : ∀ t : Fin cfg0.N, win0_0.index t = ![t.val / 16, t.val % 16, 0] ∧ win0_1.index t = ![0, 0] ∧ win0_2.index t = ![t.val / 16, 0, 0]
    ∧ win0_3.index t = ![t.val / 16, 0, 0] ∧ win0_4.index t = ![t.val / 16, t.val % 16, 0] ∧ win0_5.index t = ![t.val / 16, 0, 0]
    ∧ win0_6.index t = ![t.val / 16, t.val % 16, 0] ∧ win0_7.index t = ![t.val / 16, t.val % 16, 0] ∧ t.val / 16 < 4 :=
  (by decide +kernel : ∀ t : Fin grid0.N, _)

/-- The batch entry and the token of a position of a point's block. -/
def bat (t : Fin cfg0.N) : Fin 4 := ⟨t.val / 16, (idx t).2.2.2.2.2.2.2.2⟩
def tok (t : Fin cfg0.N) (r : Fin 256) : Fin 4096 := ⟨t.val % 16 * 256 + r.val, by have := Nat.mod_lt t.val (show 0 < 16 by decide); omega⟩

theorem blk0 (t : Fin cfg0.N) (r : Fin 256) (k : Fin 4096) :
    (iblk m c 0 t : Vec Ideal S1x256x4096 .f32) (ix3 0 r k) = m ((c : Thread nD τ).loc main_arg0) (ix3 (bat t) (tok t r) k) := by
  rw [← V_main_arg0 m c]; unfold bat tok; blk_ext [iblk, idx t]
theorem blk1 (t : Fin cfg0.N) (d : Fin 4096) :
    (iblk m c 1 t : Vec Ideal S1x4096 .f32) (ix2 0 d) = m ((c : Thread nD τ).loc main_arg1) (ix1 d) := by
  rw [← V_gain m c]; blk_ext [iblk, idx t]
theorem blk2 (t : Fin cfg0.N) (d : Fin 4096) :
    (iblk m c 2 t : Vec Ideal S1x1x4096 .f32) (ix3 0 0 d) = m ((c : Thread nD τ).loc main_arg2) (ix3 (bat t) 0 d) := by
  rw [← V_main_arg2 m c]; unfold bat; blk_ext [iblk, idx t]
theorem blk3 (t : Fin cfg0.N) (d : Fin 4096) :
    (iblk m c 3 t : Vec Ideal S1x1x4096 .f32) (ix3 0 0 d) = m ((c : Thread nD τ).loc main_arg3) (ix3 (bat t) 0 d) := by
  rw [← V_main_arg3 m c]; unfold bat; blk_ext [iblk, idx t]

theorem blk4 (t : Fin cfg0.N) (r : Fin 256) (k : Fin 4096) :
    (iblk m c 4 t : Vec Ideal S1x256x4096 .f32) (ix3 0 r k) = m ((c : Thread nD τ).loc main_arg4) (ix3 (bat t) (tok t r) k) := by
  rw [← V_main_arg4 m c]; unfold bat tok; blk_ext [iblk, idx t]
theorem blk5 (t : Fin cfg0.N) (d : Fin 4096) :
    (iblk m c 5 t : Vec Ideal S1x1x4096 .f32) (ix3 0 0 d) = m ((c : Thread nD τ).loc main_arg5) (ix3 (bat t) 0 d) := by
  rw [← V_main_arg5 m c]; unfold bat; blk_ext [iblk, idx t]

/-- A position of a point's blocks: the residual there. -/
theorem mixed_blk (t : Fin cfg0.N) (r : Fin 256) (k : Fin 4096) :
    (fun p a o : EReal => p + a * o) ((iblk m c 0 t : Vec Ideal S1x256x4096 .f32) (ix3 0 r k)) ((iblk m c 5 t : Vec Ideal S1x1x4096 .f32) (ix3 0 0 k))
        ((iblk m c 4 t : Vec Ideal S1x256x4096 .f32) (ix3 0 r k))
      = mixed (m ((c : Thread nD τ).loc main_arg0)) (m ((c : Thread nD τ).loc main_arg4)) (m ((c : Thread nD τ).loc main_arg5)) (ix3 (bat t) (tok t r) k) :=
  congrArg₂ (fun p q : EReal => p + q) (blk0 m c t r k) (congrArg₂ (fun p q : EReal => p * q) (blk5 m c t k) (blk4 m c t r k))

theorem final_mixed : (dats m 0 c).arrAt 6 cfg0.N = mixed (m ((c : Thread nD τ).loc main_arg0)) (m ((c : Thread nD τ).loc main_arg4)) (m ((c : Thread nD τ).loc main_arg5)) := by
  refine (dats m 0 c).arrAt_eq_of_covers 6 _ (by decide +kernel) fun t _ y => ?_
  blk_simp
  rw [after0_6]
  obtain ⟨r, d, rfl⟩ : ∃ (r : Fin 256) (d : Fin 4096), y = ix3 0 r d :=
    ⟨y 1, y 2, (ix3_eta y).symm.trans (congrArg (fun a => ix3 a (y 1) (y 2)) (Subsingleton.elim (α := Fin 1) _ _))⟩
  rw [mixed_at]
  refine (mixed_blk m c t r d).trans ?_
  unfold bat tok
  blk_ext [idx t]

theorem final : (dats m 0 c).arrAt 7 cfg0.N = result (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) := by
  refine (dats m 0 c).arrAt_eq_of_covers 7 _ (by decide +kernel) fun t _ y => ?_
  blk_simp
  rw [after0_7]
  obtain ⟨r, d, rfl⟩ : ∃ (r : Fin 256) (d : Fin 4096), y = ix3 0 r d :=
    ⟨y 1, y 2, (ix3_eta y).symm.trans (congrArg (fun a => ix3 a (y 1) (y 2)) (Subsingleton.elim (α := Fin 1) _ _))⟩
  rw [out_at]
  refine Eq.trans (b := result (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (ix3 (bat t) (tok t r) d)) ?_ ?_
  · rw [blk1, blk2, blk3]
    exact congrArg (fun x => entry x _ _ _ d) (funext fun k => mixed_blk m c t r k)
  · unfold bat tok
    blk_ext [idx t]

end Kernel

namespace Ref

open Cert.Reference6Ideal Cert.Reference6Ideal.Gen

/-- The reference's lines: the residual, -/
def sums (A R : FVec Ideal S4x4096x4096 .f32) (T : FVec Ideal S4x1x4096 .f32) : FVec Ideal S4x4096x4096 .f32 :=
  addf A (mulf (broadcastInDim S4x4096x4096 ![0, 1, 2] bcast_S4x1x4096_S4x4096x4096_0_1_2 T) R)

/-- and its norm. -/
def lines (A : FVec Ideal S4x4096x4096 .f32) (G : FVec Ideal S4096 .f32) (H S : FVec Ideal S4x1x4096 .f32)
    (R : FVec Ideal S4x4096x4096 .f32) (T : FVec Ideal S4x1x4096 .f32) : FVec Ideal S4x4096x4096 .bf16 :=
  truncf .bf16 (addf (mulf (mulf (mulf (sums A R T) (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf (sums A R T) (sums A R T)) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 G))) (broadcastInDim S4x4096x4096 ![0, 1, 2] bcast_S4x1x4096_S4x4096x4096_0_1_2 (addf (broadcastInDim S4x1x4096 ![] bcast_S_S4x1x4096 (constant S_ .f32 0x3F800000#32)) S))) (broadcastInDim S4x4096x4096 ![0, 1, 2] bcast_S4x1x4096_S4x4096x4096_0_1_2 H)) bitsLt_bf16_f32

theorem sums_eq (A R : FVec Ideal S4x4096x4096 .f32) (T : FVec Ideal S4x1x4096 .f32) : sums A R T = mixed A R T := by
  funext y
  obtain ⟨b, n, d, rfl⟩ : ∃ (b : Fin 4) (n : Fin 4096) (d : Fin 4096), y = ix3 b n d := ⟨y 0, y 1, y 2, (ix3_eta y).symm⟩
  pointwise [sums, mixed]

theorem value (A : FVec Ideal S4x4096x4096 .f32) (G : FVec Ideal S4096 .f32) (H S : FVec Ideal S4x1x4096 .f32)
    (R : FVec Ideal S4x4096x4096 .f32) (T : FVec Ideal S4x1x4096 .f32) :
    lines A G H S R T = result A G H S R T := by
  unfold lines result
  rw [sums_eq]
  generalize mixed A R T = X
  funext y
  obtain ⟨b, n, d, rfl⟩ : ∃ (b : Fin 4) (n : Fin 4096) (d : Fin 4096), y = ix3 b n d := ⟨y 0, y 1, y 2, (ix3_eta y).symm⟩
  pointwise [entry]

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v2) = mixed (m ((c : Thread nD τ).loc main_arg0)) (m ((c : Thread nD τ).loc main_arg4)) (m ((c : Thread nD τ).loc main_arg5))
    ∧ r.2.mem ((c : Thread nD τ).loc main_v22) = result (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun _ h c => ⟨(h c).1.trans (sums_eq _ _ _), (h c).2.1.trans (value _ _ _ _ _ _), (h c).2.2⟩) (Value.run m ρ)

theorem frame : θ_run defs (onTc (τ := τ) (main (F := Ideal))) ⟨m, fun _ => 0, ρ⟩ fun r =>
    (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)) ∧ r.2.sem = fun _ => 0 :=
  (θ_run defs _ _).mono (fun r h => ⟨fun c => (h c).2.2, sem_eq_zero_of_no_sems (by decide) r.2⟩) (run m ρ)

end Ref

end Cert.Norm6

end
-- ==== Proof.Product7.lean ====
/- A product of the layer: every grid point's block of it is the product of a block of rows and a block of columns, and the
   reference's line is the same sum. -/
module

public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.StableHlo.RunHlo

@[expose] public section

set_option maxRecDepth 16384

noncomputable section

open Idealize.ShloMosaic Idealize.ShloMosaic.TcCoe Idealize.SL.Sem

namespace Cert.Product7

/-- Row `n` of the tokens times column `j` of the weight. -/
def entry (A : FVec Ideal ⟨3, ![4, 256, 4096]⟩ .f32) (W : FVec Ideal ⟨2, ![4096, 13824]⟩ .f32) (n : Fin 1024) (j : Fin 13824) : EReal :=
  ∑ k : Fin 4096, A (ix3 ⟨n.val / 256, by omega⟩ ⟨n.val % 256, Nat.mod_lt _ (by decide)⟩ k) * W (ix2 k j)

/-- The product, one row for each token. -/
def result (A : FVec Ideal ⟨3, ![4, 256, 4096]⟩ .f32) (W : FVec Ideal ⟨2, ![4096, 13824]⟩ .f32) : FVec Ideal ⟨2, ![1024, 13824]⟩ .f32 :=
  fun i => entry A W (i 0) (i 1)

namespace Kernel

open Cert.Kernel7Ideal Cert.Kernel7Ideal.Gen

/-- The body: the product of its two blocks. -/
theorem out_at (x : Vec Ideal S1024x4096 .bf16) (w : Vec Ideal S4096x768 .bf16) (r : Fin 1024) (s : Fin 768) :
    out0_2 x w (ix2 r s) = ∑ k : Fin 4096, x (ix2 r k) * w (ix2 k s) := by
  frame_out
  pointwise [k0_pay1]

/-- The tokens in one list, and the weight, as the host hands them to the call. -/
def tokens (A : FVec Ideal S4x256x4096 .f32) : FVec Ideal S1024x4096 .bf16 :=
  truncf .bf16 (shapeCast S1024x4096 A shapeCasts_S4x256x4096_S1024x4096) bitsLt_bf16_f32
def weight (W : FVec Ideal S4096x13824 .f32) : FVec Ideal S4096x13824 .bf16 := truncf .bf16 W bitsLt_bf16_f32

theorem tokens_at (A : FVec Ideal S4x256x4096 .f32) (n : Fin 1024) (k : Fin 4096) :
    tokens A (ix2 n k) = A (ix3 ⟨n.val / 256, by omega⟩ ⟨n.val % 256, Nat.mod_lt _ (by decide)⟩ k) := by
  pointwise [tokens]
theorem weight_at (W : FVec Ideal S4096x13824 .f32) (k : Fin 4096) (j : Fin 13824) : weight W (ix2 k j) = W (ix2 k j) := by
  pointwise [weight]

variable (m : (ℓ : Loc nD τ sig) → Buf (Elt Ideal) ℓ) (c : Dev nD)

theorem V_tok (n : Fin 1024) (k : Fin 4096) : V m c main_v1 (ix2 n k)
    = m ((c : Thread nD τ).loc main_arg0) (ix3 ⟨n.val / 256, by omega⟩ ⟨n.val % 256, Nat.mod_lt _ (by decide)⟩ k) := by
  have e : V m c main_v1 = tokens (m ((c : Thread nD τ).loc main_arg0)) := by
    show StableHlo.after hostOps0 (fun b => m (c, b)) (Proc.devRef .tc main_v1) = _
    after_results_simp
    rfl
  rw [e]
  exact tokens_at _ n k

theorem V_weight (k : Fin 4096) (j : Fin 13824) : V m c main_v2 (ix2 k j) = m ((c : Thread nD τ).loc main_arg1) (ix2 k j) := by
  have e : V m c main_v2 = weight (m ((c : Thread nD τ).loc main_arg1)) := by
    show StableHlo.after hostOps0 (fun b => m (c, b)) (Proc.devRef .tc main_v2) = _
    after_results_simp
    rfl
  rw [e]
  exact weight_at _ k j

theorem idx : ∀ t : Fin cfg0.N, win0_0.index t = ![t.val / 18, 0] ∧ win0_1.index t = ![0, t.val % 18] ∧ win0_2.index t = ![t.val / 18, t.val % 18]
    ∧ t.val / 18 < 1 :=
  (by decide +kernel : ∀ t : Fin grid0.N, _)

/-- The row and the column of a position of a point's block. -/
def row (t : Fin cfg0.N) (r : Fin 1024) : Fin 1024 := ⟨t.val / 18 * 1024 + r.val, by have := (idx t).2.2.2; omega⟩
def col (t : Fin cfg0.N) (s : Fin 768) : Fin 13824 := ⟨t.val % 18 * 768 + s.val, by have := Nat.mod_lt t.val (show 0 < 18 by decide); omega⟩

theorem blk0 (t : Fin cfg0.N) (r : Fin 1024) (k : Fin 4096) : (iblk m c 0 t : Vec Ideal S1024x4096 .bf16) (ix2 r k) = V m c main_v1 (ix2 (row t r) k) := by
  unfold row; blk_ext [iblk, idx t]
theorem blk1 (t : Fin cfg0.N) (k : Fin 4096) (s : Fin 768) : (iblk m c 1 t : Vec Ideal S4096x768 .bf16) (ix2 k s) = V m c main_v2 (ix2 k (col t s)) := by
  unfold col; blk_ext [iblk, idx t]

theorem final : (dats m 0 c).arrAt 2 cfg0.N = result (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, s, rfl⟩ : ∃ (r : Fin 1024) (s : Fin 768), y = ix2 r s := ⟨y 0, y 1, (ix2_eta y).symm⟩
  rw [out_at]
  refine Eq.trans (b := result (m ((c : Thread nD τ).loc main_arg0)) (m ((c : Thread nD τ).loc main_arg1)) (ix2 (row t r) (col t s))) ?_ ?_
  · exact Finset.sum_congr rfl fun k _ => congrArg₂ (fun p q : EReal => p * q) ((blk0 m c t r k).trans (V_tok m c _ k)) ((blk1 m c t k s).trans (V_weight m c k _))
  · unfold row col
    blk_ext [idx t]

end Kernel

namespace Ref

open Cert.Reference7Ideal Cert.Reference7Ideal.Gen

theorem value (A : FVec Ideal S4x256x4096 .f32) (W : FVec Ideal S4096x13824 .f32) :
    shapeCast S1024x13824 (Host.dotGeneral (φ₁ := .f32) (φ₂ := .f32) dot_S4x256x4096_S4096x13824_S4x256x13824_2_0_01_1_n_n none A W) shapeCasts_S4x256x13824_S1024x13824
      = result A W := by
  funext y
  obtain ⟨n, j, rfl⟩ : ∃ (n : Fin 1024) (j : Fin 13824), y = ix2 n j := ⟨y 0, y 1, (ix2_eta y).symm⟩
  pointwise [result, entry]

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v1) = result (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (value _ _), (h c).2⟩) (Value.run m ρ)

theorem frame : θ_run defs (onTc (τ := τ) (main (F := Ideal))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => (h c).2, sem_eq_zero_of_no_sems (by decide) r.2⟩) (run m ρ)

end Ref

end Cert.Product7

end
-- ==== Proof.Product8.lean ====
/- A product of the layer: every grid point's block of it is the product of a block of rows and a block of columns, and the
   reference's line is the same sum. -/
module

public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
public import Idealize.ShloMosaic.Lib.StableHlo.RunHlo

@[expose] public section

set_option maxRecDepth 16384

noncomputable section

open Idealize.ShloMosaic Idealize.ShloMosaic.TcCoe Idealize.SL.Sem

namespace Cert.Product8

/-- Row `n` of the tokens times column `j` of the weight. -/
def entry (A : FVec Ideal ⟨3, ![4, 256, 4096]⟩ .f32) (W : FVec Ideal ⟨2, ![4096, 4096]⟩ .f32) (n : Fin 1024) (j : Fin 4096) : EReal :=
  ∑ k : Fin 4096, A (ix3 ⟨n.val / 256, by omega⟩ ⟨n.val % 256, Nat.mod_lt _ (by decide)⟩ k) * W (ix2 k j)

/-- The product, one row for each token. -/
def result (A : FVec Ideal ⟨3, ![4, 256, 4096]⟩ .f32) (W : FVec Ideal ⟨2, ![4096, 4096]⟩ .f32) : FVec Ideal ⟨2, ![1024, 4096]⟩ .f32 :=
  fun i => entry A W (i 0) (i 1)

namespace Kernel

open Cert.Kernel8Ideal Cert.Kernel8Ideal.Gen

/-- The body: the product of its two blocks. -/
theorem out_at (x : Vec Ideal S1024x4096 .bf16) (w : Vec Ideal S4096x1024 .bf16) (r : Fin 1024) (s : Fin 1024) :
    out0_2 x w (ix2 r s) = ∑ k : Fin 4096, x (ix2 r k) * w (ix2 k s) := by
  frame_out
  pointwise [k0_pay1]

/-- The tokens in one list, and the weight, as the host hands them to the call. -/
def tokens (A : FVec Ideal S4x256x4096 .f32) : FVec Ideal S1024x4096 .bf16 :=
  truncf .bf16 (shapeCast S1024x4096 A shapeCasts_S4x256x4096_S1024x4096) bitsLt_bf16_f32
def weight (W : FVec Ideal S4096x4096 .f32) : FVec Ideal S4096x4096 .bf16 := truncf .bf16 W bitsLt_bf16_f32

theorem tokens_at (A : FVec Ideal S4x256x4096 .f32) (n : Fin 1024) (k : Fin 4096) :
    tokens A (ix2 n k) = A (ix3 ⟨n.val / 256, by omega⟩ ⟨n.val % 256, Nat.mod_lt _ (by decide)⟩ k) := by
  pointwise [tokens]
theorem weight_at (W : FVec Ideal S4096x4096 .f32) (k : Fin 4096) (j : Fin 4096) : weight W (ix2 k j) = W (ix2 k j) := by
  pointwise [weight]

variable (m : (ℓ : Loc nD τ sig) → Buf (Elt Ideal) ℓ) (c : Dev nD)

theorem V_tok (n : Fin 1024) (k : Fin 4096) : V m c main_v1 (ix2 n k)
    = m ((c : Thread nD τ).loc main_arg0) (ix3 ⟨n.val / 256, by omega⟩ ⟨n.val % 256, Nat.mod_lt _ (by decide)⟩ k) := by
  have e : V m c main_v1 = tokens (m ((c : Thread nD τ).loc main_arg0)) := by
    show StableHlo.after hostOps0 (fun b => m (c, b)) (Proc.devRef .tc main_v1) = _
    after_results_simp
    rfl
  rw [e]
  exact tokens_at _ n k

theorem V_weight (k : Fin 4096) (j : Fin 4096) : V m c main_v2 (ix2 k j) = m ((c : Thread nD τ).loc main_arg1) (ix2 k j) := by
  have e : V m c main_v2 = weight (m ((c : Thread nD τ).loc main_arg1)) := by
    show StableHlo.after hostOps0 (fun b => m (c, b)) (Proc.devRef .tc main_v2) = _
    after_results_simp
    rfl
  rw [e]
  exact weight_at _ k j

theorem idx : ∀ t : Fin cfg0.N, win0_0.index t = ![t.val / 4, 0] ∧ win0_1.index t = ![0, t.val % 4] ∧ win0_2.index t = ![t.val / 4, t.val % 4]
    ∧ t.val / 4 < 1 :=
  (by decide +kernel : ∀ t : Fin grid0.N, _)

/-- The row and the column of a position of a point's block. -/
def row (t : Fin cfg0.N) (r : Fin 1024) : Fin 1024 := ⟨t.val / 4 * 1024 + r.val, by have := (idx t).2.2.2; omega⟩
def col (t : Fin cfg0.N) (s : Fin 1024) : Fin 4096 := ⟨t.val % 4 * 1024 + s.val, by have := Nat.mod_lt t.val (show 0 < 4 by decide); omega⟩

theorem blk0 (t : Fin cfg0.N) (r : Fin 1024) (k : Fin 4096) : (iblk m c 0 t : Vec Ideal S1024x4096 .bf16) (ix2 r k) = V m c main_v1 (ix2 (row t r) k) := by
  unfold row; blk_ext [iblk, idx t]
theorem blk1 (t : Fin cfg0.N) (k : Fin 4096) (s : Fin 1024) : (iblk m c 1 t : Vec Ideal S4096x1024 .bf16) (ix2 k s) = V m c main_v2 (ix2 k (col t s)) := by
  unfold col; blk_ext [iblk, idx t]

theorem final : (dats m 0 c).arrAt 2 cfg0.N = result (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, s, rfl⟩ : ∃ (r : Fin 1024) (s : Fin 1024), y = ix2 r s := ⟨y 0, y 1, (ix2_eta y).symm⟩
  rw [out_at]
  refine Eq.trans (b := result (m ((c : Thread nD τ).loc main_arg0)) (m ((c : Thread nD τ).loc main_arg1)) (ix2 (row t r) (col t s))) ?_ ?_
  · exact Finset.sum_congr rfl fun k _ => congrArg₂ (fun p q : EReal => p * q) ((blk0 m c t r k).trans (V_tok m c _ k)) ((blk1 m c t k s).trans (V_weight m c k _))
  · unfold row col
    blk_ext [idx t]

end Kernel

namespace Ref

open Cert.Reference8Ideal Cert.Reference8Ideal.Gen

theorem value (A : FVec Ideal S4x256x4096 .f32) (W : FVec Ideal S4096x4096 .f32) :
    shapeCast S1024x4096 (Host.dotGeneral (φ₁ := .f32) (φ₂ := .f32) dot_S4x256x4096_S4096x4096_S4x256x4096_2_0_01_1_n_n none A W) shapeCasts_S4x256x4096_S1024x4096
      = result A W := by
  funext y
  obtain ⟨n, j, rfl⟩ : ∃ (n : Fin 1024) (j : Fin 4096), y = ix2 n j := ⟨y 0, y 1, (ix2_eta y).symm⟩
  pointwise [result, entry]

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v1) = result (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (value _ _), (h c).2⟩) (Value.run m ρ)

theorem frame : θ_run defs (onTc (τ := τ) (main (F := Ideal))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => (h c).2, sem_eq_zero_of_no_sems (by decide) r.2⟩) (run m ρ)

end Ref

end Cert.Product8

end
-- ==== Proof.Product9.lean ====
/- A product of the layer: every grid point's block of it is the product of a block of rows and a block of columns, and the
   reference's line is the same sum. -/
module

public import proofs.«01_k».proof.Proof.Gen.Kernel9Ideal.Value
public import proofs.«01_k».proof.Proof.Gen.Reference9Ideal.Run
public import Idealize.ShloMosaic.Lib.Pointwise
public import Idealize.ShloMosaic.Lib.Pipeline.ValueKit
public import Idealize.ShloMosaic.Lib.StableHlo.RunHlo

@[expose] public section

set_option maxRecDepth 16384

noncomputable section

open Idealize.ShloMosaic Idealize.ShloMosaic.TcCoe Idealize.SL.Sem

namespace Cert.Product9

/-- Row `n` of the tokens times column `j` of the weight. -/
def entry (A : FVec Ideal ⟨3, ![4, 256, 4096]⟩ .f32) (W : FVec Ideal ⟨2, ![4096, 2048]⟩ .f32) (n : Fin 1024) (j : Fin 2048) : EReal :=
  ∑ k : Fin 4096, A (ix3 ⟨n.val / 256, by omega⟩ ⟨n.val % 256, Nat.mod_lt _ (by decide)⟩ k) * W (ix2 k j)

/-- The product, one column for each token. -/
def result (A : FVec Ideal ⟨3, ![4, 256, 4096]⟩ .f32) (W : FVec Ideal ⟨2, ![4096, 2048]⟩ .f32) : FVec Ideal ⟨2, ![2048, 1024]⟩ .f32 :=
  fun i => entry A W (i 1) (i 0)

namespace Kernel

open Cert.Kernel9Ideal Cert.Kernel9Ideal.Gen

/-- The body: the rows of its first block times the rows of its second. -/
theorem out_at (w : Vec Ideal S1024x4096 .bf16) (x : Vec Ideal S1024x4096 .bf16) (s r : Fin 1024) :
    out0_2 w x (ix2 s r) = ∑ k : Fin 4096, w (ix2 s k) * x (ix2 r k) := by
  frame_out
  pointwise [k0_pay1]

/-- The tokens in one list, and the weight turned over, as the host hands them to the call. -/
def tokens (A : FVec Ideal S4x256x4096 .f32) : FVec Ideal S1024x4096 .bf16 :=
  truncf .bf16 (shapeCast S1024x4096 A shapeCasts_S4x256x4096_S1024x4096) bitsLt_bf16_f32
def weight (W : FVec Ideal S4096x2048 .f32) : FVec Ideal S2048x4096 .bf16 :=
  truncf .bf16 (transpose S2048x4096 [1, 0] W transposes_S4096x2048_S2048x4096_1_0) bitsLt_bf16_f32

theorem tokens_at (A : FVec Ideal S4x256x4096 .f32) (n : Fin 1024) (k : Fin 4096) :
    tokens A (ix2 n k) = A (ix3 ⟨n.val / 256, by omega⟩ ⟨n.val % 256, Nat.mod_lt _ (by decide)⟩ k) := by
  pointwise [tokens]
theorem weight_at (W : FVec Ideal S4096x2048 .f32) (k : Fin 4096) (j : Fin 2048) : weight W (ix2 j k) = W (ix2 k j) := by
  pointwise [weight]

variable (m : (ℓ : Loc nD τ sig) → Buf (Elt Ideal) ℓ) (c : Dev nD)

theorem V_tok (n : Fin 1024) (k : Fin 4096) : V m c main_v1 (ix2 n k)
    = m ((c : Thread nD τ).loc main_arg0) (ix3 ⟨n.val / 256, by omega⟩ ⟨n.val % 256, Nat.mod_lt _ (by decide)⟩ k) := by
  have e : V m c main_v1 = tokens (m ((c : Thread nD τ).loc main_arg0)) := by
    show StableHlo.after hostOps0 (fun b => m (c, b)) (Proc.devRef .tc main_v1) = _
    after_results_simp
    rfl
  rw [e]
  exact tokens_at _ n k

theorem V_weight (k : Fin 4096) (j : Fin 2048) : V m c main_v3 (ix2 j k) = m ((c : Thread nD τ).loc main_arg1) (ix2 k j) := by
  have e : V m c main_v3 = weight (m ((c : Thread nD τ).loc main_arg1)) := by
    show StableHlo.after hostOps0 (fun b => m (c, b)) (Proc.devRef .tc main_v3) = _
    after_results_simp
    rfl
  rw [e]
  exact weight_at _ k j

theorem idx : ∀ t : Fin cfg0.N, win0_0.index t = ![t.val % 2, 0] ∧ win0_1.index t = ![t.val / 2, 0] ∧ win0_2.index t = ![t.val % 2, t.val / 2]
    ∧ t.val / 2 < 1 :=
  (by decide +kernel : ∀ t : Fin grid0.N, _)

/-- The token and the query lane of a position of a point's block. -/
def row (t : Fin cfg0.N) (r : Fin 1024) : Fin 1024 := ⟨t.val / 2 * 1024 + r.val, by have := (idx t).2.2.2; omega⟩
def col (t : Fin cfg0.N) (s : Fin 1024) : Fin 2048 := ⟨t.val % 2 * 1024 + s.val, by have := Nat.mod_lt t.val (show 0 < 2 by decide); omega⟩

theorem blk0 (t : Fin cfg0.N) (s : Fin 1024) (k : Fin 4096) : (iblk m c 0 t : Vec Ideal S1024x4096 .bf16) (ix2 s k) = V m c main_v3 (ix2 (col t s) k) := by
  unfold col; blk_ext [iblk, idx t]
theorem blk1 (t : Fin cfg0.N) (r : Fin 1024) (k : Fin 4096) : (iblk m c 1 t : Vec Ideal S1024x4096 .bf16) (ix2 r k) = V m c main_v1 (ix2 (row t r) k) := by
  unfold row; blk_ext [iblk, idx t]

theorem final : (dats m 0 c).arrAt 2 cfg0.N = result (m ((c : Thread nD τ).loc main_arg0)) (m ((c : Thread nD τ).loc main_arg1)) := by
  refine (dats m 0 c).arrAt_eq_of_covers 2 _ (by decide +kernel) fun t _ y => ?_
  blk_simp
  rw [after0_2]
  obtain ⟨s, r, rfl⟩ : ∃ (s r : Fin 1024), y = ix2 s r := ⟨y 0, y 1, (ix2_eta y).symm⟩
  rw [out_at]
  refine Eq.trans (b := result (m ((c : Thread nD τ).loc main_arg0)) (m ((c : Thread nD τ).loc main_arg1)) (ix2 (col t s) (row t r))) ?_ ?_
  · exact Finset.sum_congr rfl fun k _ => congrArg₂ (fun p q : EReal => p * q) ((blk0 m c t s k).trans (V_weight m c k _)) ((blk1 m c t r k).trans (V_tok m c _ k)) |>.trans (mul_comm _ _)
  · unfold row col
    blk_ext [idx t]

end Kernel

namespace Ref

open Cert.Reference9Ideal Cert.Reference9Ideal.Gen

theorem value (A : FVec Ideal S4x256x4096 .f32) (W : FVec Ideal S4096x2048 .f32) :
    transpose S2048x1024 [1, 0] (Host.dotGeneral (φ₁ := .f32) (φ₂ := .f32) dot_S1024x4096_S4096x2048_S1024x2048_1_0_0_1_n_n none (shapeCast S1024x4096 A shapeCasts_S4x256x4096_S1024x4096) W) transposes_S1024x2048_S2048x1024_1_0
      = result A W := by
  funext y
  obtain ⟨j, n, rfl⟩ : ∃ (j : Fin 2048) (n : Fin 1024), y = ix2 j n := ⟨y 0, y 1, (ix2_eta y).symm⟩
  pointwise [result, entry]

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v2) = result (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (value _ _), (h c).2⟩) (Value.run m ρ)

theorem frame : θ_run defs (onTc (τ := τ) (main (F := Ideal))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => (h c).2, sem_eq_zero_of_no_sems (by decide) r.2⟩) (run m ρ)

end Ref

end Cert.Product9

end
-- ==== Proof.Norm10.lean ====
/- The norm and modulation that opens the context stream's mixer: every grid point's block of it is computed token by token, and the reference's
   lines are the same operations on each token. -/
module

public import proofs.«01_k».proof.Proof.Gen.Kernel10Ideal.Value
public import proofs.«01_k».proof.Proof.Gen.Reference10Ideal.Run
public import Idealize.ShloMosaic.Lib.Pointwise
public import Idealize.ShloMosaic.Lib.Pipeline.ValueKit
public import Idealize.ShloMosaic.Lib.StableHlo.RunHlo

@[expose] public section

set_option maxRecDepth 16384

noncomputable section

open Idealize.ShloMosaic Idealize.ShloMosaic.TcCoe Idealize.SL.Sem

namespace Cert.Norm10

/-- Channel `d` of one token: the token over its root mean square, times the gain, scaled by one more than `s` and moved by `h`. -/
def entry (x : Fin 4096 → EReal) (g s h : EReal) (d : Fin 4096) : EReal :=
  x d * Ideal.rsqrt (Ideal.div (∑ k : Fin 4096, x k * x k) (Scalar.ofBits (F := Ideal) .f32 0x45800000#32) + Scalar.ofBits (F := Ideal) .f32 0x358637BD#32) * g
    * (Scalar.ofBits (F := Ideal) .f32 0x3F800000#32 + s) + h

/-- Every token, under the one shift and scale of the batch. -/
def result (A : FVec Ideal ⟨3, ![4, 256, 4096]⟩ .f32) (G : FVec Ideal ⟨1, ![4096]⟩ .f32) (H S : FVec Ideal ⟨3, ![1, 1, 4096]⟩ .f32) :
    FVec Ideal ⟨3, ![4, 256, 4096]⟩ .bf16 :=
  fun i => entry (fun k => A (ix3 (i 0) (i 1) k)) (G (ix1 (i 2))) (S (ix3 0 0 (i 2))) (H (ix3 0 0 (i 2))) (i 2)

namespace Kernel

open Cert.Kernel10Ideal Cert.Kernel10Ideal.Gen Cert.Kernel10Ideal.Value

/-- The body, at a token of its block. -/
theorem out_at (x : Vec Ideal S1x256x4096 .f32) (g : Vec Ideal S1x4096 .f32) (h s : Vec Ideal S1x1x4096 .f32) (r : Fin 256) (d : Fin 4096) :
    out0_4 x g h s (ix3 0 r d) = entry (fun k => x (ix3 0 r k)) (g (ix2 0 d)) (s (ix3 0 0 d)) (h (ix3 0 0 d)) d := by
  frame_out
  pointwise [k0_pay1, entry]

/-- The gain in one row, as the host hands it to the call. -/
def gain (G : FVec Ideal S4096 .f32) : FVec Ideal S1x4096 .f32 := shapeCast S1x4096 G shapeCasts_S4096_S1x4096

theorem gain_at (G : FVec Ideal S4096 .f32) (d : Fin 4096) : gain G (ix2 0 d) = G (ix1 d) := by
  pointwise [gain]

variable (m : (ℓ : Loc nD τ sig) → Buf (Elt Ideal) ℓ) (c : Dev nD)

theorem V_gain (d : Fin 4096) : V m c main_v0 (ix2 0 d) = m ((c : Thread nD τ).loc main_arg1) (ix1 d) := by
  have e : V m c main_v0 = gain (m ((c : Thread nD τ).loc main_arg1)) := by
    show StableHlo.after hostOps0 (fun b => m (c, b)) (Proc.devRef .tc main_v0) = _
    after_results_simp
    rfl
  rw [e]
  exact gain_at _ d

theorem idx : ∀ t : Fin cfg0.N, win0_0.index t = ![t.val, 0, 0] ∧ win0_1.index t = ![0, 0] ∧ win0_2.index t = ![0, 0, 0]
    ∧ win0_3.index t = ![0, 0, 0] ∧ win0_4.index t = ![t.val, 0, 0] ∧ t.val < 4 :=
  (by decide +kernel : ∀ t : Fin grid0.N, _)

/-- The batch entry of a point. -/
def bat (t : Fin cfg0.N) : Fin 4 := ⟨t.val, (idx t).2.2.2.2.2⟩

theorem blk0 (t : Fin cfg0.N) (r : Fin 256) (k : Fin 4096) :
    (iblk m c 0 t : Vec Ideal S1x256x4096 .f32) (ix3 0 r k) = m ((c : Thread nD τ).loc main_arg0) (ix3 (bat t) r k) := by
  rw [← V_main_arg0 m c]; unfold bat; blk_ext [iblk, idx t]
theorem blk1 (t : Fin cfg0.N) (d : Fin 4096) :
    (iblk m c 1 t : Vec Ideal S1x4096 .f32) (ix2 0 d) = m ((c : Thread nD τ).loc main_arg1) (ix1 d) := by
  rw [← V_gain m c]; blk_ext [iblk, idx t]
theorem blk2 (t : Fin cfg0.N) (d : Fin 4096) :
    (iblk m c 2 t : Vec Ideal S1x1x4096 .f32) (ix3 0 0 d) = m ((c : Thread nD τ).loc main_arg2) (ix3 0 0 d) := by
  rw [← V_main_arg2 m c]; blk_ext [iblk, idx t]
theorem blk3 (t : Fin cfg0.N) (d : Fin 4096) :
    (iblk m c 3 t : Vec Ideal S1x1x4096 .f32) (ix3 0 0 d) = m ((c : Thread nD τ).loc main_arg3) (ix3 0 0 d) := by
  rw [← V_main_arg3 m c]; blk_ext [iblk, idx t]

theorem final : (dats m 0 c).arrAt 4 cfg0.N = result (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]
  obtain ⟨r, d, rfl⟩ : ∃ (r : Fin 256) (d : Fin 4096), y = ix3 0 r d :=
    ⟨y 1, y 2, (ix3_eta y).symm.trans (congrArg (fun a => ix3 a (y 1) (y 2)) (Subsingleton.elim (α := Fin 1) _ _))⟩
  rw [out_at]
  refine Eq.trans (b := result (m ((c : Thread nD τ).loc main_arg0)) (m ((c : Thread nD τ).loc main_arg1))
    (m ((c : Thread nD τ).loc main_arg2)) (m ((c : Thread nD τ).loc main_arg3)) (ix3 (bat t) r d)) ?_ ?_
  · rw [blk1, blk2, blk3]
    exact congrArg (fun x => entry x _ _ _ d) (funext fun k => blk0 m c t r k)
  · unfold bat
    blk_ext [idx t]

end Kernel

namespace Ref

open Cert.Reference10Ideal Cert.Reference10Ideal.Gen

/-- The reference's lines. -/
def lines (A : FVec Ideal S4x256x4096 .f32) (G : FVec Ideal S4096 .f32) (H S : FVec Ideal S1x1x4096 .f32) : FVec Ideal S4x256x4096 .bf16 :=
  truncf .bf16 (addf (mulf (mulf (mulf A (broadcastInDim S4x256x4096 ![0, 1, 2] bcast_S4x256x1_S4x256x4096_0_1_2 (Host.rsqrt (addf (Host.divf (broadcastInDim S4x256x1 ![0, 1] bcast_S4x256_S4x256x1_0_1 (Host.reduceAdd (mulf A A) (constant S_ .f32 0x00000000#32) reducesTo_S4x256x4096_S4x256_d2 h_S_)) (broadcastInDim S4x256x1 ![] bcast_S_S4x256x1 (constant S_ .f32 0x45800000#32))) (broadcastInDim S4x256x1 ![] bcast_S_S4x256x1 (constant S_ .f32 0x358637BD#32)))))) (broadcastInDim S4x256x4096 ![0, 1, 2] bcast_S1x1x4096_S4x256x4096_0_1_2 (broadcastInDim S1x1x4096 ![2] bcast_S4096_S1x1x4096_2 G))) (broadcastInDim S4x256x4096 ![0, 1, 2] bcast_S1x1x4096_S4x256x4096_0_1_2 (addf (broadcastInDim S1x1x4096 ![] bcast_S_S1x1x4096 (constant S_ .f32 0x3F800000#32)) S))) (broadcastInDim S4x256x4096 ![0, 1, 2] bcast_S1x1x4096_S4x256x4096_0_1_2 H)) bitsLt_bf16_f32

theorem value (A : FVec Ideal S4x256x4096 .f32) (G : FVec Ideal S4096 .f32) (H S : FVec Ideal S1x1x4096 .f32) : lines A G H S = result A G H S := by
  funext y
  obtain ⟨b, n, d, rfl⟩ : ∃ (b : Fin 4) (n : Fin 256) (d : Fin 4096), y = ix3 b n d := ⟨y 0, y 1, y 2, (ix3_eta y).symm⟩
  pointwise [lines, result, entry]

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v19) = result (m ((c : Thread nD τ).loc main_arg0)) (m ((c : Thread nD τ).loc main_arg1))
      (m ((c : Thread nD τ).loc main_arg2)) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (value _ _ _ _), (h c).2⟩) (Value.run m ρ)

theorem frame : θ_run defs (onTc (τ := τ) (main (F := Ideal))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  (θ_run defs _ _).mono (fun r h => ⟨fun c => (h c).2, sem_eq_zero_of_no_sems (by decide) r.2⟩) (run m ρ)

end Ref

end Cert.Norm10

end
-- ==== Proof.Norm11.lean ====
/- The context stream's gated residual and the norm and modulation after it: every grid point's block of it is computed token by token, and the reference's
   lines are the same operations on each token. -/
module

public import proofs.«01_k».proof.Proof.Gen.Kernel11Ideal.Value
public import proofs.«01_k».proof.Proof.Gen.Reference11Ideal.Run
public import Idealize.ShloMosaic.Lib.Pointwise
public import Idealize.ShloMosaic.Lib.Pipeline.ValueKit
public import Idealize.ShloMosaic.Lib.StableHlo.RunHlo

@[expose] public section

set_option maxRecDepth 16384

noncomputable section

open Idealize.ShloMosaic Idealize.ShloMosaic.TcCoe Idealize.SL.Sem

namespace Cert.Norm11

/-- Channel `d` of one token: the token over its root mean square, times the gain, scaled by one more than `s` and moved by `h`. -/
def entry (x : Fin 4096 → EReal) (g s h : EReal) (d : Fin 4096) : EReal :=
  x d * Ideal.rsqrt (Ideal.div (∑ k : Fin 4096, x k * x k) (Scalar.ofBits (F := Ideal) .f32 0x45800000#32) + Scalar.ofBits (F := Ideal) .f32 0x358637BD#32) * g
    * (Scalar.ofBits (F := Ideal) .f32 0x3F800000#32 + s) + h

/-- The residual: the tokens with their mixer's output added under the one gate of the batch. -/
def mixed (A R : FVec Ideal ⟨3, ![4, 256, 4096]⟩ .f32) (T : FVec Ideal ⟨3, ![1, 1, 4096]⟩ .f32) : FVec Ideal ⟨3, ![4, 256, 4096]⟩ .f32 :=
  fun i => A (ix3 (i 0) (i 1) (i 2)) + T (ix3 0 0 (i 2)) * R (ix3 (i 0) (i 1) (i 2))

/-- Every token, under the one shift and scale of the batch. -/
def result (A : FVec Ideal ⟨3, ![4, 256, 4096]⟩ .f32) (G : FVec Ideal ⟨1, ![4096]⟩ .f32) (H S : FVec Ideal ⟨3, ![1, 1, 4096]⟩ .f32)
    (R : FVec Ideal ⟨3, ![4, 256, 4096]⟩ .f32) (T : FVec Ideal ⟨3, ![1, 1, 4096]⟩ .f32) : FVec Ideal ⟨3, ![4, 256, 4096]⟩ .bf16 :=
  fun i => entry (fun k => mixed A R T (ix3 (i 0) (i 1) k)) (G (ix1 (i 2))) (S (ix3 0 0 (i 2))) (H (ix3 0 0 (i 2))) (i 2)

namespace Kernel

open Cert.Kernel11Ideal Cert.Kernel11Ideal.Gen Cert.Kernel11Ideal.Value

/-- The body, at a token of its block: the residual, -/
theorem mixed_at (x : Vec Ideal S1x256x4096 .f32) (g : Vec Ideal S1x4096 .f32) (h s : Vec Ideal S1x1x4096 .f32) (o : Vec Ideal S1x256x4096 .f32)
    (a : Vec Ideal S1x1x4096 .f32) (r : Fin 256) (d : Fin 4096) :
    out0_6 x g h s o a (ix3 0 r d) = x (ix3 0 r d) + a (ix3 0 0 d) * o (ix3 0 r d) := by
  frame_out
  pointwise [k0_pay3, k0_pay2]

/-- and its norm. -/
theorem out_at (x : Vec Ideal S1x256x4096 .f32) (g : Vec Ideal S1x4096 .f32) (h s : Vec Ideal S1x1x4096 .f32) (o : Vec Ideal S1x256x4096 .f32)
    (a : Vec Ideal S1x1x4096 .f32) (r : Fin 256) (d : Fin 4096) :
    out0_7 x g h s o a (ix3 0 r d)
      = entry (fun k => x (ix3 0 r k) + a (ix3 0 0 k) * o (ix3 0 r k)) (g (ix2 0 d)) (s (ix3 0 0 d)) (h (ix3 0 0 d)) d := by
  frame_out
  pointwise [k0_pay1, k0_pay4, k0_pay2, entry]

/-- The gain in one row, as the host hands it to the call. -/
def gain (G : FVec Ideal S4096 .f32) : FVec Ideal S1x4096 .f32 := shapeCast S1x4096 G shapeCasts_S4096_S1x4096

theorem gain_at (G : FVec Ideal S4096 .f32) (d : Fin 4096) : gain G (ix2 0 d) = G (ix1 d) := by
  pointwise [gain]

variable (m : (ℓ : Loc nD τ sig) → Buf (Elt Ideal) ℓ) (c : Dev nD)

theorem V_gain (d : Fin 4096) : V m c main_v0 (ix2 0 d) = m ((c : Thread nD τ).loc main_arg1) (ix1 d) := by
  have e : V m c main_v0 = gain (m ((c : Thread nD τ).loc main_arg1)) := by
    show StableHlo.after hostOps0 (fun b => m (c, b)) (Proc.devRef .tc main_v0) = _
    after_results_simp
    rfl
  rw [e]
  exact gain_at _ d

theorem idx : ∀ t : Fin cfg0.N, win0_0.index t = ![t.val, 0, 0] ∧ win0_1.index t = ![0, 0] ∧ win0_2.index t = ![0, 0, 0]
    ∧ win0_3.index t = ![0, 0, 0] ∧ win0_4.index t = ![t.val, 0, 0] ∧ win0_5.index t = ![0, 0, 0]
    ∧ win0_6.index t = ![t.val, 0, 0] ∧ win0_7.index t = ![t.val, 0, 0] ∧ t.val < 4 :=
  (by decide +kernel : ∀ t : Fin grid0.N, _)

/-- The batch entry of a point. -/
def bat (t : Fin cfg0.N) : Fin 4 := ⟨t.val, (idx t).2.2.2.2.2.2.2.2⟩

theorem blk0 (t : Fin cfg0.N) (r : Fin 256) (k : Fin 4096) :
    (iblk m c 0 t : Vec Ideal S1x256x4096 .f32) (ix3 0 r k) = m ((c : Thread nD τ).loc main_arg0) (ix3 (bat t) r k) := by
  rw [← V_main_arg0 m c]; unfold bat; blk_ext [iblk, idx t]
theorem blk1 (t : Fin cfg0.N) (d : Fin 4096) :
    (iblk m c 1 t : Vec Ideal S1x4096 .f32) (ix2 0 d) = m ((c : Thread nD τ).loc main_arg1) (ix1 d) := by
  rw [← V_gain m c]; blk_ext [iblk, idx t]
theorem blk2 (t : Fin cfg0.N) (d : Fin 4096) :
    (iblk m c 2 t : Vec Ideal S1x1x4096 .f32) (ix3 0 0 d) = m ((c : Thread nD τ).loc main_arg2) (ix3 0 0 d) := by
  rw [← V_main_arg2 m c]; blk_ext [iblk, idx t]
theorem blk3 (t : Fin cfg0.N) (d : Fin 4096) :
    (iblk m c 3 t : Vec Ideal S1x1x4096 .f32) (ix3 0 0 d) = m ((c : Thread nD τ).loc main_arg3) (ix3 0 0 d) := by
  rw [← V_main_arg3 m c]; blk_ext [iblk, idx t]

theorem blk4 (t : Fin cfg0.N) (r : Fin 256) (k : Fin 4096) :
    (iblk m c 4 t : Vec Ideal S1x256x4096 .f32) (ix3 0 r k) = m ((c : Thread nD τ).loc main_arg4) (ix3 (bat t) r k) := by
  rw [← V_main_arg4 m c]; unfold bat; blk_ext [iblk, idx t]
theorem blk5 (t : Fin cfg0.N) (d : Fin 4096) :
    (iblk m c 5 t : Vec Ideal S1x1x4096 .f32) (ix3 0 0 d) = m ((c : Thread nD τ).loc main_arg5) (ix3 0 0 d) := by
  rw [← V_main_arg5 m c]; blk_ext [iblk, idx t]

/-- A position of a point's blocks: the residual there. -/
theorem mixed_blk (t : Fin cfg0.N) (r : Fin 256) (k : Fin 4096) :
    (fun p a o : EReal => p + a * o) ((iblk m c 0 t : Vec Ideal S1x256x4096 .f32) (ix3 0 r k)) ((iblk m c 5 t : Vec Ideal S1x1x4096 .f32) (ix3 0 0 k))
        ((iblk m c 4 t : Vec Ideal S1x256x4096 .f32) (ix3 0 r k))
      = mixed (m ((c : Thread nD τ).loc main_arg0)) (m ((c : Thread nD τ).loc main_arg4)) (m ((c : Thread nD τ).loc main_arg5)) (ix3 (bat t) r k) :=
  congrArg₂ (fun p q : EReal => p + q) (blk0 m c t r k) (congrArg₂ (fun p q : EReal => p * q) (blk5 m c t k) (blk4 m c t r k))

theorem final_mixed : (dats m 0 c).arrAt 6 cfg0.N = mixed (m ((c : Thread nD τ).loc main_arg0)) (m ((c : Thread nD τ).loc main_arg4)) (m ((c : Thread nD τ).loc main_arg5)) := by
  refine (dats m 0 c).arrAt_eq_of_covers 6 _ (by decide +kernel) fun t _ y => ?_
  blk_simp
  rw [after0_6]
  obtain ⟨r, d, rfl⟩ : ∃ (r : Fin 256) (d : Fin 4096), y = ix3 0 r d :=
    ⟨y 1, y 2, (ix3_eta y).symm.trans (congrArg (fun a => ix3 a (y 1) (y 2)) (Subsingleton.elim (α := Fin 1) _ _))⟩
  rw [mixed_at]
  refine (mixed_blk m c t r d).trans ?_
  unfold bat
  blk_ext [idx t]

theorem final : (dats m 0 c).arrAt 7 cfg0.N = result (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) := by
  refine (dats m 0 c).arrAt_eq_of_covers 7 _ (by decide +kernel) fun t _ y => ?_
  blk_simp
  rw [after0_7]
  obtain ⟨r, d, rfl⟩ : ∃ (r : Fin 256) (d : Fin 4096), y = ix3 0 r d :=
    ⟨y 1, y 2, (ix3_eta y).symm.trans (congrArg (fun a => ix3 a (y 1) (y 2)) (Subsingleton.elim (α := Fin 1) _ _))⟩
  rw [out_at]
  refine Eq.trans (b := result (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (ix3 (bat t) r d)) ?_ ?_
  · rw [blk1, blk2, blk3]
    exact congrArg (fun x => entry x _ _ _ d) (funext fun k => mixed_blk m c t r k)
  · unfold bat
    blk_ext [idx t]

end Kernel

namespace Ref

open Cert.Reference11Ideal Cert.Reference11Ideal.Gen

/-- The reference's lines: the residual, -/
def sums (A R : FVec Ideal S4x256x4096 .f32) (T : FVec Ideal S1x1x4096 .f32) : FVec Ideal S4x256x4096 .f32 :=
  addf A (mulf (broadcastInDim S4x256x4096 ![0, 1, 2] bcast_S1x1x4096_S4x256x4096_0_1_2 T) R)

/-- and its norm. -/
def lines (A : FVec Ideal S4x256x4096 .f32) (G : FVec Ideal S4096 .f32) (H S : FVec Ideal S1x1x4096 .f32)
    (R : FVec Ideal S4x256x4096 .f32) (T : FVec Ideal S1x1x4096 .f32) : FVec Ideal S4x256x4096 .bf16 :=
  truncf .bf16 (addf (mulf (mulf (mulf (sums A R T) (broadcastInDim S4x256x4096 ![0, 1, 2] bcast_S4x256x1_S4x256x4096_0_1_2 (Host.rsqrt (addf (Host.divf (broadcastInDim S4x256x1 ![0, 1] bcast_S4x256_S4x256x1_0_1 (Host.reduceAdd (mulf (sums A R T) (sums A R T)) (constant S_ .f32 0x00000000#32) reducesTo_S4x256x4096_S4x256_d2 h_S_)) (broadcastInDim S4x256x1 ![] bcast_S_S4x256x1 (constant S_ .f32 0x45800000#32))) (broadcastInDim S4x256x1 ![] bcast_S_S4x256x1 (constant S_ .f32 0x358637BD#32)))))) (broadcastInDim S4x256x4096 ![0, 1, 2] bcast_S1x1x4096_S4x256x4096_0_1_2 (broadcastInDim S1x1x4096 ![2] bcast_S4096_S1x1x4096_2 G))) (broadcastInDim S4x256x4096 ![0, 1, 2] bcast_S1x1x4096_S4x256x4096_0_1_2 (addf (broadcastInDim S1x1x4096 ![] bcast_S_S1x1x4096 (constant S_ .f32 0x3F800000#32)) S))) (broadcastInDim S4x256x4096 ![0, 1, 2] bcast_S1x1x4096_S4x256x4096_0_1_2 H)) bitsLt_bf16_f32

theorem sums_eq (A R : FVec Ideal S4x256x4096 .f32) (T : FVec Ideal S1x1x4096 .f32) : sums A R T = mixed A R T := by
  funext y
  obtain ⟨b, n, d, rfl⟩ : ∃ (b : Fin 4) (n : Fin 256) (d : Fin 4096), y = ix3 b n d := ⟨y 0, y 1, y 2, (ix3_eta y).symm⟩
  pointwise [sums, mixed]

theorem value (A : FVec Ideal S4x256x4096 .f32) (G : FVec Ideal S4096 .f32) (H S : FVec Ideal S1x1x4096 .f32)
    (R : FVec Ideal S4x256x4096 .f32) (T : FVec Ideal S1x1x4096 .f32) :
    lines A G H S R T = result A G H S R T := by
  unfold lines result
  rw [sums_eq]
  generalize mixed A R T = X
  funext y
  obtain ⟨b, n, d, rfl⟩ : ∃ (b : Fin 4) (n : Fin 256) (d : Fin 4096), y = ix3 b n d := ⟨y 0, y 1, y 2, (ix3_eta y).symm⟩
  pointwise [entry]

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v2) = mixed (m ((c : Thread nD τ).loc main_arg0)) (m ((c : Thread nD τ).loc main_arg4)) (m ((c : Thread nD τ).loc main_arg5))
    ∧ r.2.mem ((c : Thread nD τ).loc main_v22) = result (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun _ h c => ⟨(h c).1.trans (sums_eq _ _ _), (h c).2.1.trans (value _ _ _ _ _ _), (h c).2.2⟩) (Value.run m ρ)

theorem frame : θ_run defs (onTc (τ := τ) (main (F := Ideal))) ⟨m, fun _ => 0, ρ⟩ fun r =>
    (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)) ∧ r.2.sem = fun _ => 0 :=
  (θ_run defs _ _).mono (fun r h => ⟨fun c => (h c).2.2, sem_eq_zero_of_no_sems (by decide) r.2⟩) (run m ρ)

end Ref

end Cert.Norm11

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Pre
public import proofs.«01_k».proof.Proof.RefRun
public import proofs.«01_k».proof.Proof.Final
public import proofs.«01_k».proof.Proof.Product2
public import proofs.«01_k».proof.Proof.Product3
public import proofs.«01_k».proof.Proof.Product4
public import proofs.«01_k».proof.Proof.Norm5
public import proofs.«01_k».proof.Proof.Norm6
public import proofs.«01_k».proof.Proof.Product7
public import proofs.«01_k».proof.Proof.Product8
public import proofs.«01_k».proof.Proof.Product9
public import proofs.«01_k».proof.Proof.Norm10
public import proofs.«01_k».proof.Proof.Norm11
public import Idealize.ShloMosaic.Adequacy
public import Idealize.ShloMosaic.Init

@[expose] public section

noncomputable section

namespace Cert.Proof

open Idealize.ShloMosaic Idealize.SL.Sem

/-- The reference's result, as the array of all its entries. -/
theorem ref_result (V : Idealize.ShloMosaic.Valuation Cert.ReferenceIdeal.τ Cert.ReferenceIdeal.sig (Elt Ideal))
    (A0 : Cert.NA.Proj) (A1 : Cert.NA.ProjC) (A2 : Cert.NA.Rpb) (A3 A4 : Cert.NA.Gain)
    (g0 : Cert.NA.Ref.a0 V = A0) (g1 : Cert.NA.Ref.a1 V = A1) (g2 : Cert.NA.Ref.a2 V = A2) (g3 : Cert.NA.Ref.a3 V = A3) (g4 : Cert.NA.Ref.a4 V = A4)
    (h2 : ∀ i, Cert.NA.IsReal (A2 i)) (h3 : ∀ k : Fin 128, Cert.NA.IsReal (A3 (ix1 k))) (h4 : ∀ k : Fin 128, Cert.NA.IsReal (A4 (ix1 k))) :
    Cert.NA.Ref.out V = Cert.NA.Kernel.result A0 A1 A2 A3 A4 := by
  subst g0 g1 g2 g3 g4
  funext i
  rw [← ix3_eta i]
  exact Cert.NA.Ref.out_at V h2 h3 h4 _ _ _

/-- Both programs end holding the attention: the kernel's blocks tile it, the reference's last line is it. -/
theorem algebraic : Cert.algebraic_KernelIdeal_ReferenceIdeal_pre_finite_gains (hPre_finite_gains := Cert.NA.Pre.facts) := by
  haveI := Cert.NA.Pre.facts
  pair_intro
  · run_from Cert.KernelIdeal.Value.run_blocks m g
  · refine (θ_run _ _ _).mono (fun r h c => ⟨(h c).1.trans ?_, (h c).2⟩) (Cert.NA.Ref.run m' g')
    obtain ⟨h2, h3, h4⟩ := Cert.NA.Pre.real_args _ _ _ _ _ (hpre c)
    obtain ⟨g0, g1, g2, g3, g4⟩ := hagree c
    exact (ref_result _ _ _ _ _ _ g0 g1 g2 g3 g4 h2 h3 h4).trans (Cert.NA.Kernel.final m c).symm

/-- The combined projection of the mixer. -/
theorem algebraic2 : Cert.algebraic_Kernel2Ideal_Reference2Ideal := by
  pair_intro
  · run_from Cert.Kernel2Ideal.Value.run_blocks m g
  · refine (θ_run _ _ _).mono (fun r h c => ⟨(h c).1.trans ?_, (h c).2⟩) (Cert.Product2.Ref.run m' g')
    exact (congrArg₂ Cert.Product2.result (hagree c).1 (hagree c).2).trans (Cert.Product2.Kernel.final m c).symm

/-- The projection out of the mixer. -/
theorem algebraic3 : Cert.algebraic_Kernel3Ideal_Reference3Ideal := by
  pair_intro
  · run_from Cert.Kernel3Ideal.Value.run_blocks m g
  · refine (θ_run _ _ _).mono (fun r h c => ⟨(h c).1.trans ?_, (h c).2⟩) (Cert.Product3.Ref.run m' g')
    exact (congrArg₂ Cert.Product3.result (hagree c).1 (hagree c).2).trans (Cert.Product3.Kernel.final m c).symm

/-- The queries of the experts' router. -/
theorem algebraic4 : Cert.algebraic_Kernel4Ideal_Reference4Ideal := by
  pair_intro
  · run_from Cert.Kernel4Ideal.Value.run_blocks m g
  · refine (θ_run _ _ _).mono (fun r h c => ⟨(h c).1.trans ?_, (h c).2⟩) (Cert.Product4.Ref.run m' g')
    exact (congrArg₂ Cert.Product4.result (hagree c).1 (hagree c).2).trans (Cert.Product4.Kernel.final m c).symm

theorem norm5_result {A A' : FVec Ideal ⟨3, ![4, 4096, 4096]⟩ .f32} {G G' : FVec Ideal ⟨1, ![4096]⟩ .f32} {H H' S S' : FVec Ideal ⟨3, ![4, 1, 4096]⟩ .f32}
    (a : A' = A) (g : G' = G) (h : H' = H) (s : S' = S) : Cert.Norm5.result A' G' H' S' = Cert.Norm5.result A G H S := by
  subst a g h s; rfl

theorem algebraic5 : Cert.algebraic_Kernel5Ideal_Reference5Ideal := by
  pair_intro
  · run_from Cert.Kernel5Ideal.Value.run_blocks m g
  · refine (θ_run _ _ _).mono (fun r h c => ⟨(h c).1.trans ?_, (h c).2⟩) (Cert.Norm5.Ref.run m' g')
    exact (norm5_result (hagree c).1 (hagree c).2.1 (hagree c).2.2.1 (hagree c).2.2.2).trans (Cert.Norm5.Kernel.final m c).symm

theorem norm6_result {A A' R R' : FVec Ideal ⟨3, ![4, 4096, 4096]⟩ .f32} {G G' : FVec Ideal ⟨1, ![4096]⟩ .f32} {H H' S S' T T' : FVec Ideal ⟨3, ![4, 1, 4096]⟩ .f32}
    (a : A' = A) (g : G' = G) (h : H' = H) (s : S' = S) (r : R' = R) (t : T' = T) :
    Cert.Norm6.mixed A' R' T' = Cert.Norm6.mixed A R T ∧ Cert.Norm6.result A' G' H' S' R' T' = Cert.Norm6.result A G H S R T := by
  subst a g h s r t; exact ⟨rfl, rfl⟩

theorem algebraic6 : Cert.algebraic_Kernel6Ideal_Reference6Ideal := by
  pair_intro
  · run_from Cert.Kernel6Ideal.Value.run_blocks m g
  · refine (θ_run _ _ _).mono (fun r h c => ⟨(h c).1.trans ?_, (h c).2.1.trans ?_, (h c).2.2⟩) (Cert.Norm6.Ref.run m' g')
    · exact (norm6_result (hagree c).1 (hagree c).2.1 (hagree c).2.2.1 (hagree c).2.2.2.1 (hagree c).2.2.2.2.1 (hagree c).2.2.2.2.2).1.trans
        (Cert.Norm6.Kernel.final_mixed m c).symm
    · exact (norm6_result (hagree c).1 (hagree c).2.1 (hagree c).2.2.1 (hagree c).2.2.2.1 (hagree c).2.2.2.2.1 (hagree c).2.2.2.2.2).2.trans
        (Cert.Norm6.Kernel.final m c).symm

theorem algebraic7 : Cert.algebraic_Kernel7Ideal_Reference7Ideal := by
  pair_intro
  · run_from Cert.Kernel7Ideal.Value.run_blocks m g
  · refine (θ_run _ _ _).mono (fun r h c => ⟨(h c).1.trans ?_, (h c).2⟩) (Cert.Product7.Ref.run m' g')
    exact (congrArg₂ Cert.Product7.result (hagree c).1 (hagree c).2).trans (Cert.Product7.Kernel.final m c).symm

theorem algebraic8 : Cert.algebraic_Kernel8Ideal_Reference8Ideal := by
  pair_intro
  · run_from Cert.Kernel8Ideal.Value.run_blocks m g
  · refine (θ_run _ _ _).mono (fun r h c => ⟨(h c).1.trans ?_, (h c).2⟩) (Cert.Product8.Ref.run m' g')
    exact (congrArg₂ Cert.Product8.result (hagree c).1 (hagree c).2).trans (Cert.Product8.Kernel.final m c).symm

theorem algebraic9 : Cert.algebraic_Kernel9Ideal_Reference9Ideal := by
  pair_intro
  · run_from Cert.Kernel9Ideal.Value.run_blocks m g
  · refine (θ_run _ _ _).mono (fun r h c => ⟨(h c).1.trans ?_, (h c).2⟩) (Cert.Product9.Ref.run m' g')
    exact (congrArg₂ Cert.Product9.result (hagree c).1 (hagree c).2).trans (Cert.Product9.Kernel.final m c).symm

theorem norm10_result {A A' : FVec Ideal ⟨3, ![4, 256, 4096]⟩ .f32} {G G' : FVec Ideal ⟨1, ![4096]⟩ .f32} {H H' S S' : FVec Ideal ⟨3, ![1, 1, 4096]⟩ .f32}
    (a : A' = A) (g : G' = G) (h : H' = H) (s : S' = S) : Cert.Norm10.result A' G' H' S' = Cert.Norm10.result A G H S := by
  subst a g h s; rfl

theorem algebraic10 : Cert.algebraic_Kernel10Ideal_Reference10Ideal := by
  pair_intro
  · run_from Cert.Kernel10Ideal.Value.run_blocks m g
  · refine (θ_run _ _ _).mono (fun r h c => ⟨(h c).1.trans ?_, (h c).2⟩) (Cert.Norm10.Ref.run m' g')
    exact (norm10_result (hagree c).1 (hagree c).2.1 (hagree c).2.2.1 (hagree c).2.2.2).trans (Cert.Norm10.Kernel.final m c).symm

theorem norm11_result {A A' R R' : FVec Ideal ⟨3, ![4, 256, 4096]⟩ .f32} {G G' : FVec Ideal ⟨1, ![4096]⟩ .f32} {H H' S S' T T' : FVec Ideal ⟨3, ![1, 1, 4096]⟩ .f32}
    (a : A' = A) (g : G' = G) (h : H' = H) (s : S' = S) (r : R' = R) (t : T' = T) :
    Cert.Norm11.mixed A' R' T' = Cert.Norm11.mixed A R T ∧ Cert.Norm11.result A' G' H' S' R' T' = Cert.Norm11.result A G H S R T := by
  subst a g h s r t; exact ⟨rfl, rfl⟩

theorem algebraic11 : Cert.algebraic_Kernel11Ideal_Reference11Ideal := by
  pair_intro
  · run_from Cert.Kernel11Ideal.Value.run_blocks m g
  · refine (θ_run _ _ _).mono (fun r h c => ⟨(h c).1.trans ?_, (h c).2.1.trans ?_, (h c).2.2⟩) (Cert.Norm11.Ref.run m' g')
    · exact (norm11_result (hagree c).1 (hagree c).2.1 (hagree c).2.2.1 (hagree c).2.2.2.1 (hagree c).2.2.2.2.1 (hagree c).2.2.2.2.2).1.trans
        (Cert.Norm11.Kernel.final_mixed m c).symm
    · exact (norm11_result (hagree c).1 (hagree c).2.1 (hagree c).2.2.1 (hagree c).2.2.2.1 (hagree c).2.2.2.2.1 (hagree c).2.2.2.2.2).2.trans
        (Cert.Norm11.Kernel.final m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.NA.Pre.facts,
  fun m g _ => Cert.Kernel.Gen.frame m g, fun m g _ => Cert.KernelIdeal.Gen.frame m g, fun m g _ => Cert.KernelIdeal.Gen.frame m g,
  fun m g _ => Cert.NA.Ref.frame m g, fun m g _ => Cert.NA.Ref.frame m g,
  fun m g _ => Cert.Kernel2.Gen.frame m g, fun m g _ => Cert.Kernel2Ideal.Gen.frame m g, fun m g _ => Cert.Product2.Ref.frame m g,
  fun m g _ => Cert.Kernel3.Gen.frame m g, fun m g _ => Cert.Kernel3Ideal.Gen.frame m g, fun m g _ => Cert.Product3.Ref.frame m g,
  fun m g _ => Cert.Kernel4.Gen.frame m g, fun m g _ => Cert.Kernel4Ideal.Gen.frame m g, fun m g _ => Cert.Product4.Ref.frame m g,
  fun m g _ => Cert.Kernel5.Gen.frame m g, fun m g _ => Cert.Kernel5Ideal.Gen.frame m g, fun m g _ => Cert.Norm5.Ref.frame m g,
  fun m g _ => Cert.Kernel6.Gen.frame m g, fun m g _ => Cert.Kernel6Ideal.Gen.frame m g, fun m g _ => Cert.Norm6.Ref.frame m g,
  fun m g _ => Cert.Kernel7.Gen.frame m g, fun m g _ => Cert.Kernel7Ideal.Gen.frame m g, fun m g _ => Cert.Product7.Ref.frame m g,
  fun m g _ => Cert.Kernel8.Gen.frame m g, fun m g _ => Cert.Kernel8Ideal.Gen.frame m g, fun m g _ => Cert.Product8.Ref.frame m g,
  fun m g _ => Cert.Kernel9.Gen.frame m g, fun m g _ => Cert.Kernel9Ideal.Gen.frame m g, fun m g _ => Cert.Product9.Ref.frame m g,
  fun m g _ => Cert.Kernel10.Gen.frame m g, fun m g _ => Cert.Kernel10Ideal.Gen.frame m g, fun m g _ => Cert.Norm10.Ref.frame m g,
  fun m g _ => Cert.Kernel11.Gen.frame m g, fun m g _ => Cert.Kernel11Ideal.Gen.frame m g, fun m g _ => Cert.Norm11.Ref.frame m g,
  trivial, algebraic, trivial, algebraic2, trivial, algebraic3, trivial, algebraic4,
  trivial, algebraic5, trivial, algebraic6, trivial, algebraic7, trivial, algebraic8, trivial, algebraic9,
  trivial, algebraic10, trivial, algebraic11⟩

end Cert.Proof

end
